-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_PoolSample (m : (ℓ : Loc Cert.PoolSample.nD Cert.PoolSample.τ Cert.PoolSample.sig) → Buf (Elt Bits) ℓ) : Prop :=
  True

def Pre_PoolSampleIdeal (m : (ℓ : Loc Cert.PoolSampleIdeal.nD Cert.PoolSampleIdeal.τ Cert.PoolSampleIdeal.sig) → Buf (Elt Ideal) ℓ) : Prop :=
  True

def Pre_PoolSampleIdeal_pool_finite [hPre_pool_finite : Cert.Pre_pool_finite.Facts] (m : (ℓ : Loc Cert.PoolSampleIdeal.nD Cert.PoolSampleIdeal.τ Cert.PoolSampleIdeal.sig) → Buf (Elt Ideal) ℓ) : Prop :=
  ∀ c : Dev Cert.PoolSampleIdeal.nD,
    (Cert.Pre_pool_finite.fn (F := Ideal) (m ((c.tc : Thread Cert.PoolSampleIdeal.nD Cert.PoolSampleIdeal.τ).loc Cert.PoolSampleIdeal.main_arg0)) (m ((c.tc : Thread Cert.PoolSampleIdeal.nD Cert.PoolSampleIdeal.τ).loc Cert.PoolSampleIdeal.main_arg1)) (m ((c.tc : Thread Cert.PoolSampleIdeal.nD Cert.PoolSampleIdeal.τ).loc Cert.PoolSampleIdeal.main_arg2)) (m ((c.tc : Thread Cert.PoolSampleIdeal.nD Cert.PoolSampleIdeal.τ).loc Cert.PoolSampleIdeal.main_arg3)) (m ((c.tc : Thread Cert.PoolSampleIdeal.nD Cert.PoolSampleIdeal.τ).loc Cert.PoolSampleIdeal.main_arg4)) (m ((c.tc : Thread Cert.PoolSampleIdeal.nD Cert.PoolSampleIdeal.τ).loc Cert.PoolSampleIdeal.main_arg5))).1 = (fun _ => 1#1)
    ∧ (Cert.Pre_pool_finite.fn (F := Ideal) (m ((c.tc : Thread Cert.PoolSampleIdeal.nD Cert.PoolSampleIdeal.τ).loc Cert.PoolSampleIdeal.main_arg0)) (m ((c.tc : Thread Cert.PoolSampleIdeal.nD Cert.PoolSampleIdeal.τ).loc Cert.PoolSampleIdeal.main_arg1)) (m ((c.tc : Thread Cert.PoolSampleIdeal.nD Cert.PoolSampleIdeal.τ).loc Cert.PoolSampleIdeal.main_arg2)) (m ((c.tc : Thread Cert.PoolSampleIdeal.nD Cert.PoolSampleIdeal.τ).loc Cert.PoolSampleIdeal.main_arg3)) (m ((c.tc : Thread Cert.PoolSampleIdeal.nD Cert.PoolSampleIdeal.τ).loc Cert.PoolSampleIdeal.main_arg4)) (m ((c.tc : Thread Cert.PoolSampleIdeal.nD Cert.PoolSampleIdeal.τ).loc Cert.PoolSampleIdeal.main_arg5))).2.1 = (fun _ => 1#1)
    ∧ (Cert.Pre_pool_finite.fn (F := Ideal) (m ((c.tc : Thread Cert.PoolSampleIdeal.nD Cert.PoolSampleIdeal.τ).loc Cert.PoolSampleIdeal.main_arg0)) (m ((c.tc : Thread Cert.PoolSampleIdeal.nD Cert.PoolSampleIdeal.τ).loc Cert.PoolSampleIdeal.main_arg1)) (m ((c.tc : Thread Cert.PoolSampleIdeal.nD Cert.PoolSampleIdeal.τ).loc Cert.PoolSampleIdeal.main_arg2)) (m ((c.tc : Thread Cert.PoolSampleIdeal.nD Cert.PoolSampleIdeal.τ).loc Cert.PoolSampleIdeal.main_arg3)) (m ((c.tc : Thread Cert.PoolSampleIdeal.nD Cert.PoolSampleIdeal.τ).loc Cert.PoolSampleIdeal.main_arg4)) (m ((c.tc : Thread Cert.PoolSampleIdeal.nD Cert.PoolSampleIdeal.τ).loc Cert.PoolSampleIdeal.main_arg5))).2.2 = (fun _ => 1#1)

def Pre_PoolSampleRefIdeal (m : (ℓ : Loc Cert.PoolSampleRefIdeal.nD Cert.PoolSampleRefIdeal.τ Cert.PoolSampleRefIdeal.sig) → Buf (Elt Ideal) ℓ) : Prop :=
  True

def Pre_PoolSampleRefIdeal_pool_finite [hPre_pool_finite : Cert.Pre_pool_finite.Facts] (m : (ℓ : Loc Cert.PoolSampleRefIdeal.nD Cert.PoolSampleRefIdeal.τ Cert.PoolSampleRefIdeal.sig) → Buf (Elt Ideal) ℓ) : Prop :=
  ∀ c : Dev Cert.PoolSampleRefIdeal.nD,
    (Cert.Pre_pool_finite.fn (F := Ideal) (m ((c.tc : Thread Cert.PoolSampleRefIdeal.nD Cert.PoolSampleRefIdeal.τ).loc Cert.PoolSampleRefIdeal.main_arg0)) (m ((c.tc : Thread Cert.PoolSampleRefIdeal.nD Cert.PoolSampleRefIdeal.τ).loc Cert.PoolSampleRefIdeal.main_arg1)) (m ((c.tc : Thread Cert.PoolSampleRefIdeal.nD Cert.PoolSampleRefIdeal.τ).loc Cert.PoolSampleRefIdeal.main_arg2)) (m ((c.tc : Thread Cert.PoolSampleRefIdeal.nD Cert.PoolSampleRefIdeal.τ).loc Cert.PoolSampleRefIdeal.main_arg3)) (m ((c.tc : Thread Cert.PoolSampleRefIdeal.nD Cert.PoolSampleRefIdeal.τ).loc Cert.PoolSampleRefIdeal.main_arg4)) (m ((c.tc : Thread Cert.PoolSampleRefIdeal.nD Cert.PoolSampleRefIdeal.τ).loc Cert.PoolSampleRefIdeal.main_arg5))).1 = (fun _ => 1#1)
    ∧ (Cert.Pre_pool_finite.fn (F := Ideal) (m ((c.tc : Thread Cert.PoolSampleRefIdeal.nD Cert.PoolSampleRefIdeal.τ).loc Cert.PoolSampleRefIdeal.main_arg0)) (m ((c.tc : Thread Cert.PoolSampleRefIdeal.nD Cert.PoolSampleRefIdeal.τ).loc Cert.PoolSampleRefIdeal.main_arg1)) (m ((c.tc : Thread Cert.PoolSampleRefIdeal.nD Cert.PoolSampleRefIdeal.τ).loc Cert.PoolSampleRefIdeal.main_arg2)) (m ((c.tc : Thread Cert.PoolSampleRefIdeal.nD Cert.PoolSampleRefIdeal.τ).loc Cert.PoolSampleRefIdeal.main_arg3)) (m ((c.tc : Thread Cert.PoolSampleRefIdeal.nD Cert.PoolSampleRefIdeal.τ).loc Cert.PoolSampleRefIdeal.main_arg4)) (m ((c.tc : Thread Cert.PoolSampleRefIdeal.nD Cert.PoolSampleRefIdeal.τ).loc Cert.PoolSampleRefIdeal.main_arg5))).2.1 = (fun _ => 1#1)
    ∧ (Cert.Pre_pool_finite.fn (F := Ideal) (m ((c.tc : Thread Cert.PoolSampleRefIdeal.nD Cert.PoolSampleRefIdeal.τ).loc Cert.PoolSampleRefIdeal.main_arg0)) (m ((c.tc : Thread Cert.PoolSampleRefIdeal.nD Cert.PoolSampleRefIdeal.τ).loc Cert.PoolSampleRefIdeal.main_arg1)) (m ((c.tc : Thread Cert.PoolSampleRefIdeal.nD Cert.PoolSampleRefIdeal.τ).loc Cert.PoolSampleRefIdeal.main_arg2)) (m ((c.tc : Thread Cert.PoolSampleRefIdeal.nD Cert.PoolSampleRefIdeal.τ).loc Cert.PoolSampleRefIdeal.main_arg3)) (m ((c.tc : Thread Cert.PoolSampleRefIdeal.nD Cert.PoolSampleRefIdeal.τ).loc Cert.PoolSampleRefIdeal.main_arg4)) (m ((c.tc : Thread Cert.PoolSampleRefIdeal.nD Cert.PoolSampleRefIdeal.τ).loc Cert.PoolSampleRefIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2)
      ∧ r.2.mem ((c.tc : Thread Cert.InSample.nD Cert.InSample.τ).loc Cert.InSample.main_arg3) = m ((c.tc : Thread Cert.InSample.nD Cert.InSample.τ).loc Cert.InSample.main_arg3)
      ∧ r.2.mem ((c.tc : Thread Cert.InSample.nD Cert.InSample.τ).loc Cert.InSample.main_arg4) = m ((c.tc : Thread Cert.InSample.nD Cert.InSample.τ).loc Cert.InSample.main_arg4)
      ∧ r.2.mem ((c.tc : Thread Cert.InSample.nD Cert.InSample.τ).loc Cert.InSample.main_arg5) = m ((c.tc : Thread Cert.InSample.nD Cert.InSample.τ).loc Cert.InSample.main_arg5))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
      ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
      ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
      ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1)
      ∧ r.2.mem ((c.tc : Thread Cert.InSampleRefIdeal.nD Cert.InSampleRefIdeal.τ).loc Cert.InSampleRefIdeal.main_arg2) = m ((c.tc : Thread Cert.InSampleRefIdeal.nD Cert.InSampleRefIdeal.τ).loc Cert.InSampleRefIdeal.main_arg2)
      ∧ r.2.mem ((c.tc : Thread Cert.InSampleRefIdeal.nD Cert.InSampleRefIdeal.τ).loc Cert.InSampleRefIdeal.main_arg3) = m ((c.tc : Thread Cert.InSampleRefIdeal.nD Cert.InSampleRefIdeal.τ).loc Cert.InSampleRefIdeal.main_arg3)
      ∧ r.2.mem ((c.tc : Thread Cert.InSampleRefIdeal.nD Cert.InSampleRefIdeal.τ).loc Cert.InSampleRefIdeal.main_arg4) = m ((c.tc : Thread Cert.InSampleRefIdeal.nD Cert.InSampleRefIdeal.τ).loc Cert.InSampleRefIdeal.main_arg4)
      ∧ r.2.mem ((c.tc : Thread Cert.InSampleRefIdeal.nD Cert.InSampleRefIdeal.τ).loc Cert.InSampleRefIdeal.main_arg5) = m ((c.tc : Thread Cert.InSampleRefIdeal.nD Cert.InSampleRefIdeal.τ).loc Cert.InSampleRefIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3))
      ∧ r.2.sem = fun _ => 0)

def quiescent_PoolSample [hPoolSample : Cert.PoolSample.Facts] : Prop :=
  ∀ (m : (ℓ : Loc Cert.PoolSample.nD Cert.PoolSample.τ Cert.PoolSample.sig) → Buf (Elt Bits) ℓ) (g : Dev Cert.PoolSample.nD → PrngReg), Pre_PoolSample m →
    θ_run (Cert.PoolSample.defs (F := Bits)) (onTc (τ := Cert.PoolSample.τ) (Cert.PoolSample.main (F := Bits))) ⟨m, fun _ => 0, g⟩ (fun r => (∀ c : Dev Cert.PoolSample.nD,
      r.2.mem ((c.tc : Thread Cert.PoolSample.nD Cert.PoolSample.τ).loc Cert.PoolSample.main_arg0) = m ((c.tc : Thread Cert.PoolSample.nD Cert.PoolSample.τ).loc Cert.PoolSample.main_arg0)
      ∧ r.2.mem ((c.tc : Thread Cert.PoolSample.nD Cert.PoolSample.τ).loc Cert.PoolSample.main_arg1) = m ((c.tc : Thread Cert.PoolSample.nD Cert.PoolSample.τ).loc Cert.PoolSample.main_arg1)
      ∧ r.2.mem ((c.tc : Thread Cert.PoolSample.nD Cert.PoolSample.τ).loc Cert.PoolSample.main_arg2) = m ((c.tc : Thread Cert.PoolSample.nD Cert.PoolSample.τ).loc Cert.PoolSample.main_arg2)
      ∧ r.2.mem ((c.tc : Thread Cert.PoolSample.nD Cert.PoolSample.τ).loc Cert.PoolSample.main_arg3) = m ((c.tc : Thread Cert.PoolSample.nD Cert.PoolSample.τ).loc Cert.PoolSample.main_arg3)
      ∧ r.2.mem ((c.tc : Thread Cert.PoolSample.nD Cert.PoolSample.τ).loc Cert.PoolSample.main_arg4) = m ((c.tc : Thread Cert.PoolSample.nD Cert.PoolSample.τ).loc Cert.PoolSample.main_arg4)
      ∧ r.2.mem ((c.tc : Thread Cert.PoolSample.nD Cert.PoolSample.τ).loc Cert.PoolSample.main_arg5) = m ((c.tc : Thread Cert.PoolSample.nD Cert.PoolSample.τ).loc Cert.PoolSample.main_arg5))
      ∧ r.2.sem = fun _ => 0)

def quiescent_PoolSampleIdeal [hPoolSampleIdeal : Cert.PoolSampleIdeal.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg), Pre_PoolSampleIdeal m →
    θ_run (Cert.PoolSampleIdeal.defs (F := Ideal)) (onTc (τ := Cert.PoolSampleIdeal.τ) (Cert.PoolSampleIdeal.main (F := Ideal))) ⟨m, fun _ => 0, g⟩ (fun r => (∀ c : Dev Cert.PoolSampleIdeal.nD,
      r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0)
      ∧ r.2.mem ((c.tc : Thread Cert.PoolSampleIdeal.nD Cert.PoolSampleIdeal.τ).loc Cert.PoolSampleIdeal.main_arg1) = m ((c.tc : Thread Cert.PoolSampleIdeal.nD Cert.PoolSampleIdeal.τ).loc Cert.PoolSampleIdeal.main_arg1)
      ∧ r.2.mem ((c.tc : Thread Cert.PoolSampleIdeal.nD Cert.PoolSampleIdeal.τ).loc Cert.PoolSampleIdeal.main_arg2) = m ((c.tc : Thread Cert.PoolSampleIdeal.nD Cert.PoolSampleIdeal.τ).loc Cert.PoolSampleIdeal.main_arg2)
      ∧ r.2.mem ((c.tc : Thread Cert.PoolSampleIdeal.nD Cert.PoolSampleIdeal.τ).loc Cert.PoolSampleIdeal.main_arg3) = m ((c.tc : Thread Cert.PoolSampleIdeal.nD Cert.PoolSampleIdeal.τ).loc Cert.PoolSampleIdeal.main_arg3)
      ∧ r.2.mem ((c.tc : Thread Cert.PoolSampleIdeal.nD Cert.PoolSampleIdeal.τ).loc Cert.PoolSampleIdeal.main_arg4) = m ((c.tc : Thread Cert.PoolSampleIdeal.nD Cert.PoolSampleIdeal.τ).loc Cert.PoolSampleIdeal.main_arg4)
      ∧ r.2.mem ((c.tc : Thread Cert.PoolSampleIdeal.nD Cert.PoolSampleIdeal.τ).loc Cert.PoolSampleIdeal.main_arg5) = m ((c.tc : Thread Cert.PoolSampleIdeal.nD Cert.PoolSampleIdeal.τ).loc Cert.PoolSampleIdeal.main_arg5))
      ∧ r.2.sem = fun _ => 0)

def quiescent_PoolSampleIdeal_pre_pool_finite [hPoolSampleIdeal : Cert.PoolSampleIdeal.Facts] [hPre_pool_finite : Cert.Pre_pool_finite.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg), Pre_PoolSampleIdeal_pool_finite m →
    θ_run (Cert.PoolSampleIdeal.defs (F := Ideal)) (onTc (τ := Cert.PoolSampleIdeal.τ) (Cert.PoolSampleIdeal.main (F := Ideal))) ⟨m, fun _ => 0, g⟩ (fun r => (∀ c : Dev Cert.PoolSampleIdeal.nD,
      r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0)
      ∧ r.2.mem ((c.tc : Thread Cert.PoolSampleIdeal.nD Cert.PoolSampleIdeal.τ).loc Cert.PoolSampleIdeal.main_arg1) = m ((c.tc : Thread Cert.PoolSampleIdeal.nD Cert.PoolSampleIdeal.τ).loc Cert.PoolSampleIdeal.main_arg1)
      ∧ r.2.mem ((c.tc : Thread Cert.PoolSampleIdeal.nD Cert.PoolSampleIdeal.τ).loc Cert.PoolSampleIdeal.main_arg2) = m ((c.tc : Thread Cert.PoolSampleIdeal.nD Cert.PoolSampleIdeal.τ).loc Cert.PoolSampleIdeal.main_arg2)
      ∧ r.2.mem ((c.tc : Thread Cert.PoolSampleIdeal.nD Cert.PoolSampleIdeal.τ).loc Cert.PoolSampleIdeal.main_arg3) = m ((c.tc : Thread Cert.PoolSampleIdeal.nD Cert.PoolSampleIdeal.τ).loc Cert.PoolSampleIdeal.main_arg3)
      ∧ r.2.mem ((c.tc : Thread Cert.PoolSampleIdeal.nD Cert.PoolSampleIdeal.τ).loc Cert.PoolSampleIdeal.main_arg4) = m ((c.tc : Thread Cert.PoolSampleIdeal.nD Cert.PoolSampleIdeal.τ).loc Cert.PoolSampleIdeal.main_arg4)
      ∧ r.2.mem ((c.tc : Thread Cert.PoolSampleIdeal.nD Cert.PoolSampleIdeal.τ).loc Cert.PoolSampleIdeal.main_arg5) = m ((c.tc : Thread Cert.PoolSampleIdeal.nD Cert.PoolSampleIdeal.τ).loc Cert.PoolSampleIdeal.main_arg5))
      ∧ r.2.sem = fun _ => 0)

def quiescent_PoolSampleRefIdeal [hPoolSampleRefIdeal : Cert.PoolSampleRefIdeal.Facts] : Prop :=
  ∀ (m : (ℓ : Loc Cert.PoolSampleRefIdeal.nD Cert.PoolSampleRefIdeal.τ Cert.PoolSampleRefIdeal.sig) → Buf (Elt Ideal) ℓ) (g : Dev Cert.PoolSampleRefIdeal.nD → PrngReg), Pre_PoolSampleRefIdeal m →
    θ_run (Cert.PoolSampleRefIdeal.defs (F := Ideal)) (onTc (τ := Cert.PoolSampleRefIdeal.τ) (Cert.PoolSampleRefIdeal.main (F := Ideal))) ⟨m, fun _ => 0, g⟩ (fun r => (∀ c : Dev Cert.PoolSampleRefIdeal.nD,
      r.2.mem ((c.tc : Thread Cert.PoolSampleRefIdeal.nD Cert.PoolSampleRefIdeal.τ).loc Cert.PoolSampleRefIdeal.main_arg0) = m ((c.tc : Thread Cert.PoolSampleRefIdeal.nD Cert.PoolSampleRefIdeal.τ).loc Cert.PoolSampleRefIdeal.main_arg0)
      ∧ r.2.mem ((c.tc : Thread Cert.PoolSampleRefIdeal.nD Cert.PoolSampleRefIdeal.τ).loc Cert.PoolSampleRefIdeal.main_arg1) = m ((c.tc : Thread Cert.PoolSampleRefIdeal.nD Cert.PoolSampleRefIdeal.τ).loc Cert.PoolSampleRefIdeal.main_arg1)
      ∧ r.2.mem ((c.tc : Thread Cert.PoolSampleRefIdeal.nD Cert.PoolSampleRefIdeal.τ).loc Cert.PoolSampleRefIdeal.main_arg2) = m ((c.tc : Thread Cert.PoolSampleRefIdeal.nD Cert.PoolSampleRefIdeal.τ).loc Cert.PoolSampleRefIdeal.main_arg2)
      ∧ r.2.mem ((c.tc : Thread Cert.PoolSampleRefIdeal.nD Cert.PoolSampleRefIdeal.τ).loc Cert.PoolSampleRefIdeal.main_arg3) = m ((c.tc : Thread Cert.PoolSampleRefIdeal.nD Cert.PoolSampleRefIdeal.τ).loc Cert.PoolSampleRefIdeal.main_arg3)
      ∧ r.2.mem ((c.tc : Thread Cert.PoolSampleRefIdeal.nD Cert.PoolSampleRefIdeal.τ).loc Cert.PoolSampleRefIdeal.main_arg4) = m ((c.tc : Thread Cert.PoolSampleRefIdeal.nD Cert.PoolSampleRefIdeal.τ).loc Cert.PoolSampleRefIdeal.main_arg4)
      ∧ r.2.mem ((c.tc : Thread Cert.PoolSampleRefIdeal.nD Cert.PoolSampleRefIdeal.τ).loc Cert.PoolSampleRefIdeal.main_arg5) = m ((c.tc : Thread Cert.PoolSampleRefIdeal.nD Cert.PoolSampleRefIdeal.τ).loc Cert.PoolSampleRefIdeal.main_arg5))
      ∧ r.2.sem = fun _ => 0)

def quiescent_PoolSampleRefIdeal_pre_pool_finite [hPoolSampleRefIdeal : Cert.PoolSampleRefIdeal.Facts] [hPre_pool_finite : Cert.Pre_pool_finite.Facts] : Prop :=
  ∀ (m : (ℓ : Loc Cert.PoolSampleRefIdeal.nD Cert.PoolSampleRefIdeal.τ Cert.PoolSampleRefIdeal.sig) → Buf (Elt Ideal) ℓ) (g : Dev Cert.PoolSampleRefIdeal.nD → PrngReg), Pre_PoolSampleRefIdeal_pool_finite m →
    θ_run (Cert.PoolSampleRefIdeal.defs (F := Ideal)) (onTc (τ := Cert.PoolSampleRefIdeal.τ) (Cert.PoolSampleRefIdeal.main (F := Ideal))) ⟨m, fun _ => 0, g⟩ (fun r => (∀ c : Dev Cert.PoolSampleRefIdeal.nD,
      r.2.mem ((c.tc : Thread Cert.PoolSampleRefIdeal.nD Cert.PoolSampleRefIdeal.τ).loc Cert.PoolSampleRefIdeal.main_arg0) = m ((c.tc : Thread Cert.PoolSampleRefIdeal.nD Cert.PoolSampleRefIdeal.τ).loc Cert.PoolSampleRefIdeal.main_arg0)
      ∧ r.2.mem ((c.tc : Thread Cert.PoolSampleRefIdeal.nD Cert.PoolSampleRefIdeal.τ).loc Cert.PoolSampleRefIdeal.main_arg1) = m ((c.tc : Thread Cert.PoolSampleRefIdeal.nD Cert.PoolSampleRefIdeal.τ).loc Cert.PoolSampleRefIdeal.main_arg1)
      ∧ r.2.mem ((c.tc : Thread Cert.PoolSampleRefIdeal.nD Cert.PoolSampleRefIdeal.τ).loc Cert.PoolSampleRefIdeal.main_arg2) = m ((c.tc : Thread Cert.PoolSampleRefIdeal.nD Cert.PoolSampleRefIdeal.τ).loc Cert.PoolSampleRefIdeal.main_arg2)
      ∧ r.2.mem ((c.tc : Thread Cert.PoolSampleRefIdeal.nD Cert.PoolSampleRefIdeal.τ).loc Cert.PoolSampleRefIdeal.main_arg3) = m ((c.tc : Thread Cert.PoolSampleRefIdeal.nD Cert.PoolSampleRefIdeal.τ).loc Cert.PoolSampleRefIdeal.main_arg3)
      ∧ r.2.mem ((c.tc : Thread Cert.PoolSampleRefIdeal.nD Cert.PoolSampleRefIdeal.τ).loc Cert.PoolSampleRefIdeal.main_arg4) = m ((c.tc : Thread Cert.PoolSampleRefIdeal.nD Cert.PoolSampleRefIdeal.τ).loc Cert.PoolSampleRefIdeal.main_arg4)
      ∧ r.2.mem ((c.tc : Thread Cert.PoolSampleRefIdeal.nD Cert.PoolSampleRefIdeal.τ).loc Cert.PoolSampleRefIdeal.main_arg5) = m ((c.tc : Thread Cert.PoolSampleRefIdeal.nD Cert.PoolSampleRefIdeal.τ).loc Cert.PoolSampleRefIdeal.main_arg5))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v10_0)) (v1 : (c : Dev Cert.InIdeal.nD) → Buf (Elt Ideal) ((c.tc : Thread Cert.InIdeal.nD Cert.InIdeal.τ).loc Cert.InIdeal.main_v10_1)) (v2 : (c : Dev Cert.InIdeal.nD) → Buf (Elt Ideal) ((c.tc : Thread Cert.InIdeal.nD Cert.InIdeal.τ).loc Cert.InIdeal.main_v10_2)) (v3 : (c : Dev Cert.InIdeal.nD) → Buf (Elt Ideal) ((c.tc : Thread Cert.InIdeal.nD Cert.InIdeal.τ).loc Cert.InIdeal.main_v10_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v10_0) = v0 c
          ∧ r.2.mem ((c.tc : Thread Cert.InIdeal.nD Cert.InIdeal.τ).loc Cert.InIdeal.main_v10_1) = v1 c
          ∧ r.2.mem ((c.tc : Thread Cert.InIdeal.nD Cert.InIdeal.τ).loc Cert.InIdeal.main_v10_2) = v2 c
          ∧ r.2.mem ((c.tc : Thread Cert.InIdeal.nD Cert.InIdeal.τ).loc Cert.InIdeal.main_v10_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v22) = v0 c
          ∧ r.2.mem ((c.tc : Thread Cert.InRefIdeal.nD Cert.InRefIdeal.τ).loc Cert.InRefIdeal.main_v23) = v1 c
          ∧ r.2.mem ((c.tc : Thread Cert.InRefIdeal.nD Cert.InRefIdeal.τ).loc Cert.InRefIdeal.main_v24) = v2 c
          ∧ r.2.mem ((c.tc : Thread Cert.InRefIdeal.nD Cert.InRefIdeal.τ).loc Cert.InRefIdeal.main_v25) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)
      ∧ m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2)
      ∧ m' ((c.tc : Thread Cert.InSampleRefIdeal.nD Cert.InSampleRefIdeal.τ).loc Cert.InSampleRefIdeal.main_arg3) = m ((c.tc : Thread Cert.InSampleIdeal.nD Cert.InSampleIdeal.τ).loc Cert.InSampleIdeal.main_arg3)
      ∧ m' ((c.tc : Thread Cert.InSampleRefIdeal.nD Cert.InSampleRefIdeal.τ).loc Cert.InSampleRefIdeal.main_arg4) = m ((c.tc : Thread Cert.InSampleIdeal.nD Cert.InSampleIdeal.τ).loc Cert.InSampleIdeal.main_arg4)
      ∧ m' ((c.tc : Thread Cert.InSampleRefIdeal.nD Cert.InSampleRefIdeal.τ).loc Cert.InSampleRefIdeal.main_arg5) = m ((c.tc : Thread Cert.InSampleIdeal.nD Cert.InSampleIdeal.τ).loc Cert.InSampleIdeal.main_arg5)) →
    ∃ (v0 : (c : Dev Cert.InSampleIdeal.nD) → Buf (Elt Ideal) ((c.tc : Thread Cert.InSampleIdeal.nD Cert.InSampleIdeal.τ).loc Cert.InSampleIdeal.main_v15_0)) (v1 : (c : Dev Cert.InSampleIdeal.nD) → Buf (Elt Ideal) ((c.tc : Thread Cert.InSampleIdeal.nD Cert.InSampleIdeal.τ).loc Cert.InSampleIdeal.main_v15_1)) (v2 : (c : Dev Cert.InSampleIdeal.nD) → Buf (Elt Ideal) ((c.tc : Thread Cert.InSampleIdeal.nD Cert.InSampleIdeal.τ).loc Cert.InSampleIdeal.main_v15_2)) (v3 : (c : Dev Cert.InSampleIdeal.nD) → Buf (Elt Ideal) ((c.tc : Thread Cert.InSampleIdeal.nD Cert.InSampleIdeal.τ).loc Cert.InSampleIdeal.main_v15_3)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v15_0) = v0 c
          ∧ r.2.mem ((c.tc : Thread Cert.InSampleIdeal.nD Cert.InSampleIdeal.τ).loc Cert.InSampleIdeal.main_v15_1) = v1 c
          ∧ r.2.mem ((c.tc : Thread Cert.InSampleIdeal.nD Cert.InSampleIdeal.τ).loc Cert.InSampleIdeal.main_v15_2) = v2 c
          ∧ r.2.mem ((c.tc : Thread Cert.InSampleIdeal.nD Cert.InSampleIdeal.τ).loc Cert.InSampleIdeal.main_v15_3) = v3 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
          ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
          ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
          ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v23) = v0 c
          ∧ r.2.mem ((c.tc : Thread Cert.InSampleRefIdeal.nD Cert.InSampleRefIdeal.τ).loc Cert.InSampleRefIdeal.main_v25) = v1 c
          ∧ r.2.mem ((c.tc : Thread Cert.InSampleRefIdeal.nD Cert.InSampleRefIdeal.τ).loc Cert.InSampleRefIdeal.main_v27) = v2 c
          ∧ r.2.mem ((c.tc : Thread Cert.InSampleRefIdeal.nD Cert.InSampleRefIdeal.τ).loc Cert.InSampleRefIdeal.main_v29) = v3 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1)
          ∧ r.2.mem ((c.tc : Thread Cert.InSampleRefIdeal.nD Cert.InSampleRefIdeal.τ).loc Cert.InSampleRefIdeal.main_arg2) = m' ((c.tc : Thread Cert.InSampleRefIdeal.nD Cert.InSampleRefIdeal.τ).loc Cert.InSampleRefIdeal.main_arg2)
          ∧ r.2.mem ((c.tc : Thread Cert.InSampleRefIdeal.nD Cert.InSampleRefIdeal.τ).loc Cert.InSampleRefIdeal.main_arg3) = m' ((c.tc : Thread Cert.InSampleRefIdeal.nD Cert.InSampleRefIdeal.τ).loc Cert.InSampleRefIdeal.main_arg3)
          ∧ r.2.mem ((c.tc : Thread Cert.InSampleRefIdeal.nD Cert.InSampleRefIdeal.τ).loc Cert.InSampleRefIdeal.main_arg4) = m' ((c.tc : Thread Cert.InSampleRefIdeal.nD Cert.InSampleRefIdeal.τ).loc Cert.InSampleRefIdeal.main_arg4)
          ∧ r.2.mem ((c.tc : Thread Cert.InSampleRefIdeal.nD Cert.InSampleRefIdeal.τ).loc Cert.InSampleRefIdeal.main_arg5) = m' ((c.tc : Thread Cert.InSampleRefIdeal.nD Cert.InSampleRefIdeal.τ).loc Cert.InSampleRefIdeal.main_arg5))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v9)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v9) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v35) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)) →
    ∃ (v0 : (c : Dev Cert.OutSampleIdeal.nD) → Buf (Elt Ideal) ((c.tc : Thread Cert.OutSampleIdeal.nD Cert.OutSampleIdeal.τ).loc Cert.OutSampleIdeal.main_v2)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v2) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v4) = v0 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3))

def preserves_PoolSample_PoolSampleIdeal : Prop :=
  True

def algebraic_PoolSampleIdeal_PoolSampleRefIdeal_pre_pool_finite [hPoolSampleIdeal : Cert.PoolSampleIdeal.Facts] [hPoolSampleRefIdeal : Cert.PoolSampleRefIdeal.Facts] [hPre_pool_finite : Cert.Pre_pool_finite.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg)
    (m' : (ℓ : Loc Cert.PoolSampleRefIdeal.nD Cert.PoolSampleRefIdeal.τ Cert.PoolSampleRefIdeal.sig) → Buf (Elt Ideal) ℓ) (g' : Dev Cert.PoolSampleRefIdeal.nD → PrngReg), Pre_PoolSampleIdeal_pool_finite m →
    (∀ c : Dev Cert.PoolSampleIdeal.nD,
      m' ((c.tc : Thread Cert.PoolSampleRefIdeal.nD Cert.PoolSampleRefIdeal.τ).loc Cert.PoolSampleRefIdeal.main_arg0) = m ((c.tc : Thread Cert.PoolSampleIdeal.nD Cert.PoolSampleIdeal.τ).loc Cert.PoolSampleIdeal.main_arg0)
      ∧ m' ((c.tc : Thread Cert.PoolSampleRefIdeal.nD Cert.PoolSampleRefIdeal.τ).loc Cert.PoolSampleRefIdeal.main_arg1) = m ((c.tc : Thread Cert.PoolSampleIdeal.nD Cert.PoolSampleIdeal.τ).loc Cert.PoolSampleIdeal.main_arg1)
      ∧ m' ((c.tc : Thread Cert.PoolSampleRefIdeal.nD Cert.PoolSampleRefIdeal.τ).loc Cert.PoolSampleRefIdeal.main_arg2) = m ((c.tc : Thread Cert.PoolSampleIdeal.nD Cert.PoolSampleIdeal.τ).loc Cert.PoolSampleIdeal.main_arg2)
      ∧ m' ((c.tc : Thread Cert.PoolSampleRefIdeal.nD Cert.PoolSampleRefIdeal.τ).loc Cert.PoolSampleRefIdeal.main_arg3) = m ((c.tc : Thread Cert.PoolSampleIdeal.nD Cert.PoolSampleIdeal.τ).loc Cert.PoolSampleIdeal.main_arg3)
      ∧ m' ((c.tc : Thread Cert.PoolSampleRefIdeal.nD Cert.PoolSampleRefIdeal.τ).loc Cert.PoolSampleRefIdeal.main_arg4) = m ((c.tc : Thread Cert.PoolSampleIdeal.nD Cert.PoolSampleIdeal.τ).loc Cert.PoolSampleIdeal.main_arg4)
      ∧ m' ((c.tc : Thread Cert.PoolSampleRefIdeal.nD Cert.PoolSampleRefIdeal.τ).loc Cert.PoolSampleRefIdeal.main_arg5) = m ((c.tc : Thread Cert.PoolSampleIdeal.nD Cert.PoolSampleIdeal.τ).loc Cert.PoolSampleIdeal.main_arg5)) →
    ∃ (v0 : (c : Dev Cert.PoolSampleIdeal.nD) → Buf (Elt Ideal) ((c.tc : Thread Cert.PoolSampleIdeal.nD Cert.PoolSampleIdeal.τ).loc Cert.PoolSampleIdeal.main_v15_4)),
      θ_run (Cert.PoolSampleIdeal.defs (F := Ideal)) (onTc (τ := Cert.PoolSampleIdeal.τ) (Cert.PoolSampleIdeal.main (F := Ideal))) ⟨m, fun _ => 0, g⟩ (fun r => ∀ c : Dev Cert.PoolSampleIdeal.nD,
          r.2.mem ((c.tc : Thread Cert.PoolSampleIdeal.nD Cert.PoolSampleIdeal.τ).loc Cert.PoolSampleIdeal.main_v15_4) = v0 c
          ∧ r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0)
          ∧ r.2.mem ((c.tc : Thread Cert.PoolSampleIdeal.nD Cert.PoolSampleIdeal.τ).loc Cert.PoolSampleIdeal.main_arg1) = m ((c.tc : Thread Cert.PoolSampleIdeal.nD Cert.PoolSampleIdeal.τ).loc Cert.PoolSampleIdeal.main_arg1)
          ∧ r.2.mem ((c.tc : Thread Cert.PoolSampleIdeal.nD Cert.PoolSampleIdeal.τ).loc Cert.PoolSampleIdeal.main_arg2) = m ((c.tc : Thread Cert.PoolSampleIdeal.nD Cert.PoolSampleIdeal.τ).loc Cert.PoolSampleIdeal.main_arg2)
          ∧ r.2.mem ((c.tc : Thread Cert.PoolSampleIdeal.nD Cert.PoolSampleIdeal.τ).loc Cert.PoolSampleIdeal.main_arg3) = m ((c.tc : Thread Cert.PoolSampleIdeal.nD Cert.PoolSampleIdeal.τ).loc Cert.PoolSampleIdeal.main_arg3)
          ∧ r.2.mem ((c.tc : Thread Cert.PoolSampleIdeal.nD Cert.PoolSampleIdeal.τ).loc Cert.PoolSampleIdeal.main_arg4) = m ((c.tc : Thread Cert.PoolSampleIdeal.nD Cert.PoolSampleIdeal.τ).loc Cert.PoolSampleIdeal.main_arg4)
          ∧ r.2.mem ((c.tc : Thread Cert.PoolSampleIdeal.nD Cert.PoolSampleIdeal.τ).loc Cert.PoolSampleIdeal.main_arg5) = m ((c.tc : Thread Cert.PoolSampleIdeal.nD Cert.PoolSampleIdeal.τ).loc Cert.PoolSampleIdeal.main_arg5))
      ∧ θ_run (Cert.PoolSampleRefIdeal.defs (F := Ideal)) (onTc (τ := Cert.PoolSampleRefIdeal.τ) (Cert.PoolSampleRefIdeal.main (F := Ideal))) ⟨m', fun _ => 0, g'⟩ (fun r => ∀ c : Dev Cert.PoolSampleRefIdeal.nD,
          r.2.mem ((c.tc : Thread Cert.PoolSampleRefIdeal.nD Cert.PoolSampleRefIdeal.τ).loc Cert.PoolSampleRefIdeal.main_v176) = v0 c
          ∧ r.2.mem ((c.tc : Thread Cert.PoolSampleRefIdeal.nD Cert.PoolSampleRefIdeal.τ).loc Cert.PoolSampleRefIdeal.main_arg0) = m' ((c.tc : Thread Cert.PoolSampleRefIdeal.nD Cert.PoolSampleRefIdeal.τ).loc Cert.PoolSampleRefIdeal.main_arg0)
          ∧ r.2.mem ((c.tc : Thread Cert.PoolSampleRefIdeal.nD Cert.PoolSampleRefIdeal.τ).loc Cert.PoolSampleRefIdeal.main_arg1) = m' ((c.tc : Thread Cert.PoolSampleRefIdeal.nD Cert.PoolSampleRefIdeal.τ).loc Cert.PoolSampleRefIdeal.main_arg1)
          ∧ r.2.mem ((c.tc : Thread Cert.PoolSampleRefIdeal.nD Cert.PoolSampleRefIdeal.τ).loc Cert.PoolSampleRefIdeal.main_arg2) = m' ((c.tc : Thread Cert.PoolSampleRefIdeal.nD Cert.PoolSampleRefIdeal.τ).loc Cert.PoolSampleRefIdeal.main_arg2)
          ∧ r.2.mem ((c.tc : Thread Cert.PoolSampleRefIdeal.nD Cert.PoolSampleRefIdeal.τ).loc Cert.PoolSampleRefIdeal.main_arg3) = m' ((c.tc : Thread Cert.PoolSampleRefIdeal.nD Cert.PoolSampleRefIdeal.τ).loc Cert.PoolSampleRefIdeal.main_arg3)
          ∧ r.2.mem ((c.tc : Thread Cert.PoolSampleRefIdeal.nD Cert.PoolSampleRefIdeal.τ).loc Cert.PoolSampleRefIdeal.main_arg4) = m' ((c.tc : Thread Cert.PoolSampleRefIdeal.nD Cert.PoolSampleRefIdeal.τ).loc Cert.PoolSampleRefIdeal.main_arg4)
          ∧ r.2.mem ((c.tc : Thread Cert.PoolSampleRefIdeal.nD Cert.PoolSampleRefIdeal.τ).loc Cert.PoolSampleRefIdeal.main_arg5) = m' ((c.tc : Thread Cert.PoolSampleRefIdeal.nD Cert.PoolSampleRefIdeal.τ).loc Cert.PoolSampleRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hInSample : Cert.InSample.Facts) (hInSampleIdeal : Cert.InSampleIdeal.Facts) (hInSampleRefIdeal : Cert.InSampleRefIdeal.Facts) (hFfnSample : Cert.FfnSample.Facts) (hFfnSampleIdeal : Cert.FfnSampleIdeal.Facts) (hFfnSampleRefIdeal : Cert.FfnSampleRefIdeal.Facts) (hOutSample : Cert.OutSample.Facts) (hOutSampleIdeal : Cert.OutSampleIdeal.Facts) (hOutSampleRefIdeal : Cert.OutSampleRefIdeal.Facts) (hPoolSample : Cert.PoolSample.Facts) (hPoolSampleIdeal : Cert.PoolSampleIdeal.Facts) (hPoolSampleRefIdeal : Cert.PoolSampleRefIdeal.Facts) (hPre_qk_finite : Cert.Pre_qk_finite.Facts) (hPre_pool_finite : Cert.Pre_pool_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_InSample (hInSample := hInSample)
    ∧ quiescent_InSampleIdeal (hInSampleIdeal := hInSampleIdeal)
    ∧ quiescent_InSampleRefIdeal (hInSampleRefIdeal := hInSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_PoolSample (hPoolSample := hPoolSample)
    ∧ quiescent_PoolSampleIdeal (hPoolSampleIdeal := hPoolSampleIdeal)
    ∧ quiescent_PoolSampleIdeal_pre_pool_finite (hPoolSampleIdeal := hPoolSampleIdeal) (hPre_pool_finite := hPre_pool_finite)
    ∧ quiescent_PoolSampleRefIdeal (hPoolSampleRefIdeal := hPoolSampleRefIdeal)
    ∧ quiescent_PoolSampleRefIdeal_pre_pool_finite (hPoolSampleRefIdeal := hPoolSampleRefIdeal) (hPre_pool_finite := hPre_pool_finite)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_InSample_InSampleIdeal
    ∧ algebraic_InSampleIdeal_InSampleRefIdeal (hInSampleIdeal := hInSampleIdeal) (hInSampleRefIdeal := hInSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_OutSample_OutSampleIdeal
    ∧ algebraic_OutSampleIdeal_OutSampleRefIdeal (hOutSampleIdeal := hOutSampleIdeal) (hOutSampleRefIdeal := hOutSampleRefIdeal)
    ∧ preserves_PoolSample_PoolSampleIdeal
    ∧ algebraic_PoolSampleIdeal_PoolSampleRefIdeal_pre_pool_finite (hPoolSampleIdeal := hPoolSampleIdeal) (hPoolSampleRefIdeal := hPoolSampleRefIdeal) (hPre_pool_finite := hPre_pool_finite)
-- ==== Pre_pool_finite.lean ====
abbrev S32x4x2048 : Shape := ⟨3, ![32, 4, 2048]⟩
abbrev S1x2048 : Shape := ⟨2, ![1, 2048]⟩
abbrev S1x2048x4096 : Shape := ⟨3, ![1, 2048, 4096]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S1x2048 : S_.BroadcastsInDim S1x2048 (![] : Fin 0 → Fin S1x2048.rank)
  bcast_S_S1x2048x4096 : S_.BroadcastsInDim S1x2048x4096 (![] : Fin 0 → Fin S1x2048x4096.rank)
  bcast_S_S1x32x15x1024 : S_.BroadcastsInDim S1x32x15x1024 (![] : Fin 0 → Fin S1x32x15x1024.rank)

variable [Facts]

def fn {F : FTy → Type} [FloatOps F] (main_arg0 : FVec F S32x4x2048 .f32) (main_arg1 : FVec F S1x2048 .f32) (main_arg2 : FVec F S1x2048x4096 .f32) (main_arg3 : FVec F S1x32x15x1024 .f32) (main_arg4 : FVec F S1x4x256x256 .f32) (main_arg5 : FVec F S1x1024 .f32) : IVec S1x2048 1 × IVec S1x2048x4096 1 × IVec S1x32x15x1024 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x4096 .f32 := Host.absf main_arg2
  let main_cst_0 : FVec F S_ .f32 := constant S_ .f32 0x7F800000#32
  let main_v4 : FVec F S1x2048x4096 .f32 := broadcastInDim S1x2048x4096 ![] bcast_S_S1x2048x4096 main_cst_0
  let main_v5 : IVec S1x2048x4096 1 := cmpf .olt main_v3 main_v4
  let main_v6 : FVec F S1x32x15x1024 .f32 := Host.absf main_arg3
  let main_cst_1 : FVec F S_ .f32 := constant S_ .f32 0x7F800000#32
  let main_v7 : FVec F S1x32x15x1024 .f32 := broadcastInDim S1x32x15x1024 ![] bcast_S_S1x32x15x1024 main_cst_1
  let main_v8 : IVec S1x32x15x1024 1 := cmpf .olt main_v6 main_v7
  (main_v2, main_v5, main_v8)
-- ==== Pre_qk_finite.lean ====
abbrev S32x4x1024 : Shape := ⟨3, ![32, 4, 1024]⟩
abbrev S1x32x2048x16x64 : Shape := ⟨5, ![1, 32, 2048, 16, 64]⟩
abbrev S32x16 : Shape := ⟨2, ![32, 16]⟩
abbrev S_ : Shape := ⟨0, ![]⟩

class Facts : Prop where
  bcast_S_S32x4x1024 : S_.BroadcastsInDim S32x4x1024 (![] : Fin 0 → Fin S32x4x1024.rank)
  bcast_S_S1x32x2048x16x64 : S_.BroadcastsInDim S1x32x2048x16x64 (![] : Fin 0 → Fin S1x32x2048x16x64.rank)
  bcast_S_S32x16 : S_.BroadcastsInDim S32x16 (![] : Fin 0 → Fin S32x16.rank)

variable [Facts]

def fn {F : FTy → Type} [FloatOps F] (main_arg0 : FVec F S32x4x1024 .f32) (main_arg1 : FVec F S32x4x1024 .f32) (main_arg2 : FVec F S32x4x1024 .f32) (main_arg3 : FVec F S1x32x2048x16x64 .f32) (main_arg4 : FVec F S1x32x2048x16x64 .f32) (main_arg5 : FVec F S32x16 .f32) : IVec S32x4x1024 1 × IVec S32x4x1024 1 × IVec S1x32x2048x16x64 1 × IVec S32x16 1 :=
  let main_v0 : FVec F S32x4x1024 .f32 := Host.absf main_arg0
  let main_cst : FVec F S_ .f32 := constant S_ .f32 0x7F800000#32
  let main_v1 : FVec F S32x4x1024 .f32 := broadcastInDim S32x4x1024 ![] bcast_S_S32x4x1024 main_cst
  let main_v2 : IVec S32x4x1024 1 := cmpf .olt main_v0 main_v1
  let main_v3 : FVec F S32x4x1024 .f32 := Host.absf main_arg1
  let main_cst_0 : FVec F S_ .f32 := constant S_ .f32 0x7F800000#32
  let main_v4 : FVec F S32x4x1024 .f32 := broadcastInDim S32x4x1024 ![] bcast_S_S32x4x1024 main_cst_0
  let main_v5 : IVec S32x4x1024 1 := cmpf .olt main_v3 main_v4
  let main_v6 : FVec F S1x32x2048x16x64 .f32 := Host.absf main_arg3
  let main_cst_1 : FVec F S_ .f32 := constant S_ .f32 0x7F800000#32
  let main_v7 : FVec F S1x32x2048x16x64 .f32 := broadcastInDim S1x32x2048x16x64 ![] bcast_S_S1x32x2048x16x64 main_cst_1
  let main_v8 : IVec S1x32x2048x16x64 1 := cmpf .olt main_v6 main_v7
  let main_v9 : FVec F S32x16 .f32 := Host.absf main_arg5
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  (main_v2, main_v5, main_v8, main_v11)
-- ==== Kernel.lean ====
abbrev S32x4x1024 : Shape := ⟨3, ![32, 4, 1024]⟩
abbrev S1x32x2048x16x64 : Shape := ⟨5, ![1, 32, 2048, 16, 64]⟩
abbrev S32x16 : Shape := ⟨2, ![32, 16]⟩
abbrev S4 : Shape := ⟨1, ![4]⟩
abbrev S4x1 : Shape := ⟨2, ![4, 1]⟩
abbrev S_ : Shape := ⟨0, ![]⟩
abbrev S2176 : Shape := ⟨1, ![2176]⟩
abbrev S1x2176 : Shape := ⟨2, ![1, 2176]⟩
abbrev S4x2176 : Shape := ⟨2, ![4, 2176]⟩
abbrev S4x2176x1 : Shape := ⟨3, ![4, 2176, 1]⟩
abbrev S4x2176x16 : Shape := ⟨3, ![4, 2176, 16]⟩
abbrev S16x4x2176 : Shape := ⟨3, ![16, 4, 2176]⟩
abbrev S8x8x2176 : Shape := ⟨3, ![8, 8, 2176]⟩
abbrev S1x4x1x2176 : Shape := ⟨4, ![1, 4, 1, 2176]⟩
abbrev S2x4x1x2176 : Shape := ⟨4, ![2, 4, 1, 2176]⟩
abbrev S8x2176 : Shape := ⟨2, ![8, 2176]⟩
abbrev S32x2048x16x64 : Shape := ⟨4, ![32, 2048, 16, 64]⟩
abbrev S32x2048x1024 : Shape := ⟨3, ![32, 2048, 1024]⟩
abbrev S1x4x128 : Shape := ⟨3, ![1, 4, 128]⟩
abbrev S1x2048x128 : Shape := ⟨3, ![1, 2048, 128]⟩
abbrev S1x8x2176 : Shape := ⟨3, ![1, 8, 2176]⟩
abbrev S2176x128 : Shape := ⟨2, ![2176, 128]⟩
abbrev S128x128 : Shape := ⟨2, ![128, 128]⟩
abbrev S2048x128 : Shape := ⟨2, ![2048, 128]⟩
abbrev S4x128 : Shape := ⟨2, ![4, 128]⟩
abbrev S8x128 : Shape := ⟨2, ![8, 128]⟩
abbrev S8 : Shape := ⟨1, ![8]⟩
abbrev S8x1 : Shape := ⟨2, ![8, 1]⟩

abbrev nBuf : Space → Nat
  | .hbm => 179
  | .vmem => 18
  | .smem => 0
  | _ => 0

abbrev hbmTy0_0 (i : Nat) : BufTy := match i % 128 with
  | 0 => ⟨S32x4x1024, .f32⟩
  | 1 => ⟨S32x4x1024, .f32⟩
  | 2 => ⟨S32x4x1024, .f32⟩
  | 3 => ⟨S1x32x2048x16x64, .f32⟩
  | 4 => ⟨S1x32x2048x16x64, .f32⟩
  | 5 => ⟨S32x16, .f32⟩
  | 6 => ⟨S4, .i32⟩
  | 7 => ⟨S4x1, .i32⟩
  | 8 => ⟨S_, .i32⟩
  | 9 => ⟨S4x1, .i32⟩
  | 10 => ⟨S4x1, .i32⟩
  | 11 => ⟨S2176, .i32⟩
  | 12 => ⟨S1x2176, .i32⟩
  | 13 => ⟨S4x2176, .i32⟩
  | 14 => ⟨S4x2176, .i32⟩
  | 15 => ⟨S4x2176, .i32⟩
  | 16 => ⟨S_, .i32⟩
  | 17 => ⟨S4x2176, .i32⟩
  | 18 => ⟨S4x2176, .i1⟩
  | 19 => ⟨S_, .i32⟩
  | 20 => ⟨S4x2176, .i32⟩
  | 21 => ⟨S4x2176, .i1⟩
  | 22 => ⟨S4x2176, .i1⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S4x2176, .i32⟩
  | 30 => ⟨S4x2176, .i32⟩
  | 31 => ⟨S_, .i32⟩
  | 32 => ⟨S4x2176, .i32⟩
  | 33 => ⟨S4x2176, .i1⟩
  | 34 => ⟨S_, .i32⟩
  | 35 => ⟨S4x2176, .i32⟩
  | 36 => ⟨S4x2176, .i1⟩
  | 37 => ⟨S_, .i32⟩
  | 38 => ⟨S_, .i1⟩
  | 39 => ⟨S4x2176, .i1⟩
  | 40 => ⟨S4x2176, .i1⟩
  | 41 => ⟨S4x2176, .i1⟩
  | 42 => ⟨S4x2176, .i32⟩
  | 43 => ⟨S4x2176, .i32⟩
  | 44 => ⟨S4x2176, .i32⟩
  | 45 => ⟨S_, .i32⟩
  | 46 => ⟨S4x2176, .i32⟩
  | 47 => ⟨S4x2176, .i1⟩
  | 48 => ⟨S4x2176, .i1⟩
  | 49 => ⟨S4x2176, .f32⟩
  | 50 => ⟨S_, .f32⟩
  | 51 => ⟨S4x2176, .f32⟩
  | 52 => ⟨S4x2176, .f32⟩
  | 53 => ⟨S_, .i32⟩
  | 54 => ⟨S4x2176, .i32⟩
  | 55 => ⟨S4x2176, .i1⟩
  | 56 => ⟨S_, .i32⟩
  | 57 => ⟨S4x2176, .i32⟩
  | 58 => ⟨S4x2176, .i1⟩
  | 59 => ⟨S4x2176, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S4x2176, .i32⟩
  | 67 => ⟨S4x2176, .i32⟩
  | 68 => ⟨S_, .i32⟩
  | 69 => ⟨S4x2176, .i32⟩
  | 70 => ⟨S4x2176, .i1⟩
  | 71 => ⟨S_, .i32⟩
  | 72 => ⟨S4x2176, .i32⟩
  | 73 => ⟨S4x2176, .i1⟩
  | 74 => ⟨S_, .i32⟩
  | 75 => ⟨S_, .i1⟩
  | 76 => ⟨S4x2176, .i1⟩
  | 77 => ⟨S4x2176, .i1⟩
  | 78 => ⟨S4x2176, .i1⟩
  | 79 => ⟨S4x2176, .i32⟩
  | 80 => ⟨S4x2176, .i32⟩
  | 81 => ⟨S4x2176, .i32⟩
  | 82 => ⟨S_, .i32⟩
  | 83 => ⟨S4x2176, .i32⟩
  | 84 => ⟨S4x2176, .i1⟩
  | 85 => ⟨S4x2176, .i1⟩
  | 86 => ⟨S4x2176, .f32⟩
  | 87 => ⟨S4x2176, .f32⟩
  | 88 => ⟨S_, .i32⟩
  | 89 => ⟨S4x2176, .i32⟩
  | 90 => ⟨S4x2176, .i1⟩
  | 91 => ⟨S_, .i32⟩
  | 92 => ⟨S4x2176, .i32⟩
  | 93 => ⟨S4x2176, .i1⟩
  | 94 => ⟨S4x2176, .i1⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S4x2176, .i32⟩
  | 102 => ⟨S4x2176, .i32⟩
  | 103 => ⟨S_, .i32⟩
  | 104 => ⟨S4x2176, .i32⟩
  | 105 => ⟨S4x2176, .i1⟩
  | 106 => ⟨S_, .i32⟩
  | 107 => ⟨S4x2176, .i32⟩
  | 108 => ⟨S4x2176, .i1⟩
  | 109 => ⟨S_, .i32⟩
  | 110 => ⟨S_, .i1⟩
  | 111 => ⟨S4x2176, .i1⟩
  | 112 => ⟨S4x2176, .i1⟩
  | 113 => ⟨S4x2176, .i1⟩
  | 114 => ⟨S4x2176, .i32⟩
  | 115 => ⟨S4x2176, .i32⟩
  | 116 => ⟨S4x2176, .i32⟩
  | 117 => ⟨S_, .i32⟩
  | 118 => ⟨S4x2176, .i32⟩
  | 119 => ⟨S4x2176, .i1⟩
  | 120 => ⟨S4x2176, .i1⟩
  | 121 => ⟨S4x2176, .f32⟩
  | 122 => ⟨S4x2176, .f32⟩
  | 123 => ⟨S_, .i32⟩
  | 124 => ⟨S4x2176, .i32⟩
  | 125 => ⟨S4x2176, .i32⟩
  | 126 => ⟨S_, .i32⟩
  | 127 => ⟨S4x2176, .i32⟩
  | _ => ⟨S32x4x1024, .f32⟩

abbrev hbmTy0_1 (i : Nat) : BufTy := match i % 128 with
  | 0 => ⟨S4x2176, .i32⟩
  | 1 => ⟨S4x2176, .f32⟩
  | 2 => ⟨S_, .f32⟩
  | 3 => ⟨S4x2176, .f32⟩
  | 4 => ⟨S4x2176, .f32⟩
  | 5 => ⟨S4x2176, .f32⟩
  | 6 => ⟨S_, .f32⟩
  | 7 => ⟨S4x2176, .f32⟩
  | 8 => ⟨S4x2176, .f32⟩
  | 9 => ⟨S_, .f32⟩
  | 10 => ⟨S4x2176, .f32⟩
  | 11 => ⟨S4x2176, .f32⟩
  | 12 => ⟨S4x2176, .i32⟩
  | 13 => ⟨S_, .i32⟩
  | 14 => ⟨S4x2176, .i32⟩
  | 15 => ⟨S4x2176, .i32⟩
  | 16 => ⟨S_, .i32⟩
  | 17 => ⟨S4x2176, .i32⟩
  | 18 => ⟨S4x2176, .i32⟩
  | 19 => ⟨S_, .i32⟩
  | 20 => ⟨S4x2176, .i32⟩
  | 21 => ⟨S4x2176, .i1⟩
  | 22 => ⟨S4x2176, .i32⟩
  | 23 => ⟨S_, .i32⟩
  | 24 => ⟨S4x2176, .i32⟩
  | 25 => ⟨S4x2176, .i1⟩
  | 26 => ⟨S_, .i32⟩
  | 27 => ⟨S4x2176, .i32⟩
  | 28 => ⟨S4x2176, .i32⟩
  | 29 => ⟨S4x2176, .i32⟩
  | 30 => ⟨S4x2176x1, .i32⟩
  | 31 => ⟨S4x2176x16, .f32⟩
  | 32 => ⟨S_, .f32⟩
  | 33 => ⟨S4x2176, .f32⟩
  | 34 => ⟨S4x2176, .i1⟩
  | 35 => ⟨S4x2176x1, .i1⟩
  | 36 => ⟨S_, .f32⟩
  | 37 => ⟨S_, .f32⟩
  | 38 => ⟨S4x2176x16, .i1⟩
  | 39 => ⟨S4x2176x16, .f32⟩
  | 40 => ⟨S4x2176x16, .f32⟩
  | 41 => ⟨S16x4x2176, .f32⟩
  | 42 => ⟨S8x8x2176, .f32⟩
  | 43 => ⟨S1x4x1x2176, .f32⟩
  | 44 => ⟨S2x4x1x2176, .f32⟩
  | 45 => ⟨S8x2176, .f32⟩
  | 46 => ⟨S32x2048x16x64, .f32⟩
  | 47 => ⟨S32x2048x1024, .f32⟩
  | 48 => ⟨S32x2048x16x64, .f32⟩
  | 49 => ⟨S32x2048x1024, .f32⟩
  | 50 => ⟨S32x4x1024, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x8x2176, .f32⟩
  | .local _ .vmem, ⟨11, _⟩ => ⟨S1x8x2176, .f32⟩
  | .local _ .vmem, ⟨12, _⟩ => ⟨S8x2176, .f32⟩
  | .local _ .vmem, ⟨13, _⟩ => ⟨S1x4x128, .f32⟩
  | .local _ .vmem, ⟨14, _⟩ => ⟨S1x4x128, .f32⟩
  | .local _ .vmem, ⟨15, _⟩ => ⟨S2176x128, .bf16⟩
  | .local _ .vmem, ⟨16, _⟩ => ⟨S2176x128, .bf16⟩
  | .local _ .vmem, ⟨17, _⟩ => ⟨S128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v26 : Ref sig .tc := ⟨.hbm, 81, rfl⟩
abbrev main_c_7 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_c_8 : Ref sig .tc := ⟨.hbm, 88, rfl⟩
abbrev main_v32 : Ref sig .tc := ⟨.hbm, 89, rfl⟩
abbrev main_v33 : Ref sig .tc := ⟨.hbm, 90, rfl⟩
abbrev main_c_9 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_c_10 : Ref sig .tc := ⟨.hbm, 95, rfl⟩
abbrev main_call2_v0 : Ref sig .tc := ⟨.hbm, 96, rfl⟩
abbrev main_call2_c : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_c_1 : Ref sig .tc := ⟨.hbm, 103, rfl⟩
abbrev main_call2_v5 : Ref sig .tc := ⟨.hbm, 104, rfl⟩
abbrev main_call2_v6 : Ref sig .tc := ⟨.hbm, 105, rfl⟩
abbrev main_call2_c_2 : Ref sig .tc := ⟨.hbm, 106, rfl⟩
abbrev main_call2_v7 : Ref sig .tc := ⟨.hbm, 107, rfl⟩
abbrev main_call2_v8 : Ref sig .tc := ⟨.hbm, 108, rfl⟩
abbrev main_call2_c_3 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_v37 : Ref sig .tc := ⟨.hbm, 116, rfl⟩
abbrev main_c_11 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_c_12 : Ref sig .tc := ⟨.hbm, 123, rfl⟩
abbrev main_v43 : Ref sig .tc := ⟨.hbm, 124, rfl⟩
abbrev main_v44 : Ref sig .tc := ⟨.hbm, 125, rfl⟩
abbrev main_c_13 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_cst_14 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_cst_15 : Ref sig .tc := ⟨.hbm, 134, rfl⟩
abbrev main_v51 : Ref sig .tc := ⟨.hbm, 135, rfl⟩
abbrev main_v52 : Ref sig .tc := ⟨.hbm, 136, rfl⟩
abbrev main_cst_16 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_c_17 : Ref sig .tc := ⟨.hbm, 141, rfl⟩
abbrev main_v56 : Ref sig .tc := ⟨.hbm, 142, rfl⟩
abbrev main_v57 : Ref sig .tc := ⟨.hbm, 143, rfl⟩
abbrev main_c_18 : Ref sig .tc := ⟨.hbm, 144, rfl⟩
abbrev main_v58 : Ref sig .tc := ⟨.hbm, 145, rfl⟩
abbrev main_v59 : Ref sig .tc := ⟨.hbm, 146, rfl⟩
abbrev main_c_19 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_c_20 : Ref sig .tc := ⟨.hbm, 151, rfl⟩
abbrev main_v63 : Ref sig .tc := ⟨.hbm, 152, rfl⟩
abbrev main_v64 : Ref sig .tc := ⟨.hbm, 153, rfl⟩
abbrev main_c_21 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_cst_22 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_cst_23 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x2176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32x4x1024 : Shape := ⟨3, ![32, 4, 1024]⟩
abbrev S1x32x2048x16x64 : Shape := ⟨5, ![1, 32, 2048, 16, 64]⟩
abbrev S32x16 : Shape := ⟨2, ![32, 16]⟩
abbrev S32x4x16x64 : Shape := ⟨4, ![32, 4, 16, 64]⟩
abbrev S32x2048x16x64 : Shape := ⟨4, ![32, 2048, 16, 64]⟩
abbrev S129 : Shape := ⟨1, ![129]⟩
abbrev S_ : Shape := ⟨0, ![]⟩
abbrev S387 : Shape := ⟨1, ![387]⟩
abbrev S387x1 : Shape := ⟨2, ![387, 1]⟩
abbrev S387x16 : Shape := ⟨2, ![387, 16]⟩
abbrev S16x387 : Shape := ⟨2, ![16, 387]⟩
abbrev S32x2052x16x64 : Shape := ⟨4, ![32, 2052, 16, 64]⟩
abbrev S4 : Shape := ⟨1, ![4]⟩
abbrev S4x1 : Shape := ⟨2, ![4, 1]⟩
abbrev S1x387 : Shape := ⟨2, ![1, 387]⟩
abbrev S4x387 : Shape := ⟨2, ![4, 387]⟩
abbrev S4x387x1 : Shape := ⟨3, ![4, 387, 1]⟩
abbrev S32x4x387x16x64 : Shape := ⟨5, ![32, 4, 387, 16, 64]⟩
abbrev S32x16x4x387 : Shape := ⟨4, ![32, 16, 4, 387]⟩
abbrev S1x16x1x387 : Shape := ⟨4, ![1, 16, 1, 387]⟩
abbrev S1x1x4x387 : Shape := ⟨4, ![1, 1, 4, 387]⟩
abbrev S32x16x4 : Shape := ⟨3, ![32, 16, 4]⟩
abbrev S32x16x4x1 : Shape := ⟨4, ![32, 16, 4, 1]⟩

abbrev nBuf : Space → Nat
  | .hbm => 120
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S1x32x2048x16x64, .f32⟩
  | .hbm, ⟨4, _⟩ => ⟨S1x32x2048x16x64, .f32⟩
  | .hbm, ⟨5, _⟩ => ⟨S32x16, .f32⟩
  | .hbm, ⟨6, _⟩ => ⟨S32x4x16x64, .f32⟩
  | .hbm, ⟨7, _⟩ => ⟨S32x4x16x64, .f32⟩
  | .hbm, ⟨8, _⟩ => ⟨S32x4x16x64, .f32⟩
  | .hbm, ⟨9, _⟩ => ⟨S32x2048x16x64, .f32⟩
  | .hbm, ⟨10, _⟩ => ⟨S32x2048x16x64, .f32⟩
  | .hbm, ⟨11, _⟩ => ⟨S129, .i32⟩
  | .hbm, ⟨12, _⟩ => ⟨S_, .i32⟩
  | .hbm, ⟨13, _⟩ => ⟨S129, .i32⟩
  | .hbm, ⟨14, _⟩ => ⟨S129, .i32⟩
  | .hbm, ⟨15, _⟩ => ⟨S129, .i32⟩
  | .hbm, ⟨16, _⟩ => ⟨S_, .i32⟩
  | .hbm, ⟨17, _⟩ => ⟨S129, .i32⟩
  | .hbm, ⟨18, _⟩ => ⟨S129, .i32⟩
  | .hbm, ⟨19, _⟩ => ⟨S129, .i32⟩
  | .hbm, ⟨20, _⟩ => ⟨S_, .i32⟩
  | .hbm, ⟨21, _⟩ => ⟨S129, .i32⟩
  | .hbm, ⟨22, _⟩ => ⟨S129, .i32⟩
  | .hbm, ⟨23, _⟩ => ⟨S387, .i32⟩
  | .hbm, ⟨24, _⟩ => ⟨S_, .i32⟩
  | .hbm, ⟨25, _⟩ => ⟨S387, .i32⟩
  | .hbm, ⟨26, _⟩ => ⟨S387, .i32⟩
  | .hbm, ⟨27, _⟩ => ⟨S387, .f32⟩
  | .hbm, ⟨28, _⟩ => ⟨S_, .f32⟩
  | .hbm, ⟨29, _⟩ => ⟨S387, .f32⟩
  | .hbm, ⟨30, _⟩ => ⟨S387, .f32⟩
  | .hbm, ⟨31, _⟩ => ⟨S387, .f32⟩
  | .hbm, ⟨32, _⟩ => ⟨S_, .f32⟩
  | .hbm, ⟨33, _⟩ => ⟨S387, .f32⟩
  | .hbm, ⟨34, _⟩ => ⟨S387, .f32⟩
  | .hbm, ⟨35, _⟩ => ⟨S_, .f32⟩
  | .hbm, ⟨36, _⟩ => ⟨S387, .f32⟩
  | .hbm, ⟨37, _⟩ => ⟨S387, .f32⟩
  | .hbm, ⟨38, _⟩ => ⟨S387, .i32⟩
  | .hbm, ⟨39, _⟩ => ⟨S_, .i32⟩
  | .hbm, ⟨40, _⟩ => ⟨S387, .i32⟩
  | .hbm, ⟨41, _⟩ => ⟨S387, .i32⟩
  | .hbm, ⟨42, _⟩ => ⟨S_, .i32⟩
  | .hbm, ⟨43, _⟩ => ⟨S387, .i32⟩
  | .hbm, ⟨44, _⟩ => ⟨S387, .i32⟩
  | .hbm, ⟨45, _⟩ => ⟨S_, .i32⟩
  | .hbm, ⟨46, _⟩ => ⟨S387, .i32⟩
  | .hbm, ⟨47, _⟩ => ⟨S387, .i1⟩
  | .hbm, ⟨48, _⟩ => ⟨S387, .i32⟩
  | .hbm, ⟨49, _⟩ => ⟨S_, .i32⟩
  | .hbm, ⟨50, _⟩ => ⟨S387, .i32⟩
  | .hbm, ⟨51, _⟩ => ⟨S387, .i1⟩
  | .hbm, ⟨52, _⟩ => ⟨S_, .i32⟩
  | .hbm, ⟨53, _⟩ => ⟨S387, .i32⟩
  | .hbm, ⟨54, _⟩ => ⟨S387, .i32⟩
  | .hbm, ⟨55, _⟩ => ⟨S387, .i32⟩
  | .hbm, ⟨56, _⟩ => ⟨S387x1, .i32⟩
  | .hbm, ⟨57, _⟩ => ⟨S387x16, .f32⟩
  | .hbm, ⟨58, _⟩ => ⟨S16x387, .f32⟩
  | .hbm, ⟨59, _⟩ => ⟨S32x2052x16x64, .f32⟩
  | .hbm, ⟨60, _⟩ => ⟨S32x2052x16x64, .f32⟩
  | .hbm, ⟨61, _⟩ => ⟨S4, .i32⟩
  | .hbm, ⟨62, _⟩ => ⟨S4x1, .i32⟩
  | .hbm, ⟨63, _⟩ => ⟨S_, .i32⟩
  | .hbm, ⟨64, _⟩ => ⟨S4x1, .i32⟩
  | .hbm, ⟨65, _⟩ => ⟨S4x1, .i32⟩
  | .hbm, ⟨66, _⟩ => ⟨S1x387, .i32⟩
  | .hbm, ⟨67, _⟩ => ⟨S4x387, .i32⟩
  | .hbm, ⟨68, _⟩ => ⟨S4x387, .i32⟩
  | .hbm, ⟨69, _⟩ => ⟨S4x387, .i32⟩
  | .hbm, ⟨70, _⟩ => ⟨S_, .i32⟩
  | .hbm, ⟨71, _⟩ => ⟨S4x387, .i32⟩
  | .hbm, ⟨72, _⟩ => ⟨S4x387, .i1⟩
  | .hbm, ⟨73, _⟩ => ⟨S_, .i32⟩
  | .hbm, ⟨74, _⟩ => ⟨S4x387, .i32⟩
  | .hbm, ⟨75, _⟩ => ⟨S4x387, .i32⟩
  | .hbm, ⟨76, _⟩ => ⟨S_, .i32⟩
  | .hbm, ⟨77, _⟩ => ⟨S4x387, .i32⟩
  | .hbm, ⟨78, _⟩ => ⟨S4x387, .i1⟩
  | .hbm, ⟨79, _⟩ => ⟨S_, .i32⟩
  | .hbm, ⟨80, _⟩ => ⟨S4x387, .i32⟩
  | .hbm, ⟨81, _⟩ => ⟨S4x387, .i32⟩
  | .hbm, ⟨82, _⟩ => ⟨S4x387, .i32⟩
  | .hbm, ⟨83, _⟩ => ⟨S4x387x1, .i32⟩
  | .hbm, ⟨84, _⟩ => ⟨S32x4x387x16x64, .f32⟩
  | .hbm, ⟨85, _⟩ => ⟨S_, .i32⟩
  | .hbm, ⟨86, _⟩ => ⟨S4x387, .i32⟩
  | .hbm, ⟨87, _⟩ => ⟨S4x387, .i1⟩
  | .hbm, ⟨88, _⟩ => ⟨S_, .i32⟩
  | .hbm, ⟨89, _⟩ => ⟨S4x387, .i32⟩
  | .hbm, ⟨90, _⟩ => ⟨S4x387, .i32⟩
  | .hbm, ⟨91, _⟩ => ⟨S4x387, .i32⟩
  | .hbm, ⟨92, _⟩ => ⟨S4x387x1, .i32⟩
  | .hbm, ⟨93, _⟩ => ⟨S32x4x387x16x64, .f32⟩
  | .hbm, ⟨94, _⟩ => ⟨S32x16x4x387, .f32⟩
  | .hbm, ⟨95, _⟩ => ⟨S1x16x1x387, .f32⟩
  | .hbm, ⟨96, _⟩ => ⟨S32x16x4x387, .f32⟩
  | .hbm, ⟨97, _⟩ => ⟨S32x16x4x387, .f32⟩
  | .hbm, ⟨98, _⟩ => ⟨S1x1x4x387, .i1⟩
  | .hbm, ⟨99, _⟩ => ⟨S_, .f32⟩
  | .hbm, ⟨100, _⟩ => ⟨S_, .f32⟩
  | .hbm, ⟨101, _⟩ => ⟨S32x16x4x387, .i1⟩
  | .hbm, ⟨102, _⟩ => ⟨S32x16x4x387, .f32⟩
  | .hbm, ⟨103, _⟩ => ⟨S32x16x4x387, .f32⟩
  | .hbm, ⟨104, _⟩ => ⟨S_, .f32⟩
  | .hbm, ⟨105, _⟩ => ⟨S32x16x4, .f32⟩
  | .hbm, ⟨106, _⟩ => ⟨S_, .f32⟩
  | .hbm, ⟨107, _⟩ => ⟨S32x16x4, .f32⟩
  | .hbm, ⟨108, _⟩ => ⟨S32x16x4, .f32⟩
  | .hbm, ⟨109, _⟩ => ⟨S32x16x4x1, .f32⟩
  | .hbm, ⟨110, _⟩ => ⟨S32x16x4x387, .f32⟩
  | .hbm, ⟨111, _⟩ => ⟨S32x16x4x387, .f32⟩
  | .hbm, ⟨112, _⟩ => ⟨S32x16x4x387, .f32⟩
  | .hbm, ⟨113, _⟩ => ⟨S_, .f32⟩
  | .hbm, ⟨114, _⟩ => ⟨S32x16x4, .f32⟩
  | .hbm, ⟨115, _⟩ => ⟨S32x16x4x1, .f32⟩
  | .hbm, ⟨116, _⟩ => ⟨S32x16x4x387, .f32⟩
  | .hbm, ⟨117, _⟩ => ⟨S32x16x4x387, .f32⟩
  | .hbm, ⟨118, _⟩ => ⟨S32x4x16x64, .f32⟩
  | .hbm, ⟨119, _⟩ => ⟨S32x4x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_c_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_20 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S2048x5632, .f32⟩
  | .hbm, ⟨35, _⟩ => ⟨S16384x5632, .f32⟩
  | .hbm, ⟨36, _⟩ => ⟨S16384x5632, .f32⟩
  | .hbm, ⟨37, _⟩ => ⟨S5632x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Out.lean ====
abbrev S16384x2048 : Shape := ⟨2, ![16384, 2048]⟩
abbrev S16384x1024 : Shape := ⟨2, ![16384, 1024]⟩
abbrev S1x2048x2048 : Shape := ⟨3, ![1, 2048, 2048]⟩
abbrev S2048x2048 : Shape := ⟨2, ![2048, 2048]⟩
abbrev S512x2048 : Shape := ⟨2, ![512, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S16384x2048 : Shape := ⟨2, ![16384, 2048]⟩
abbrev S16384x1024 : Shape := ⟨2, ![16384, 1024]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== In.lean ====
abbrev S8x2048x2048 : Shape := ⟨3, ![8, 2048, 2048]⟩
abbrev S1x2048 : Shape := ⟨2, ![1, 2048]⟩
abbrev S1x2048x4096 : Shape := ⟨3, ![1, 2048, 4096]⟩
abbrev S1x4x256x256 : Shape := ⟨4, ![1, 4, 256, 256]⟩
abbrev S1x1024 : Shape := ⟨2, ![1, 1024]⟩
abbrev S_ : Shape := ⟨0, ![]⟩
abbrev S16x1024 : Shape := ⟨2, ![16, 1024]⟩
abbrev S16384x2048 : Shape := ⟨2, ![16384, 2048]⟩
abbrev S2048 : Shape := ⟨1, ![2048]⟩
abbrev S2048x4096 : Shape := ⟨2, ![2048, 4096]⟩
abbrev S4x256x256 : Shape := ⟨3, ![4, 256, 256]⟩
abbrev S1024 : Shape := ⟨1, ![1024]⟩
abbrev S16384x1024 : Shape := ⟨2, ![16384, 1024]⟩
abbrev S512x2048 : Shape := ⟨2, ![512, 2048]⟩
abbrev S512x1024 : Shape := ⟨2, ![512, 1024]⟩
abbrev S528x1024 : Shape := ⟨2, ![528, 1024]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S128x1 : Shape := ⟨2, ![128, 1]⟩
abbrev S128x256 : Shape := ⟨2, ![128, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 21
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x4096, .f32⟩
  | .hbm, ⟨3, _⟩ => ⟨S1x4x256x256, .f32⟩
  | .hbm, ⟨4, _⟩ => ⟨S1x1024, .f32⟩
  | .hbm, ⟨5, _⟩ => ⟨S_, .f32⟩
  | .hbm, ⟨6, _⟩ => ⟨S16x1024, .f32⟩
  | .hbm, ⟨7, _⟩ => ⟨S16384x2048, .f32⟩
  | .hbm, ⟨8, _⟩ => ⟨S2048, .f32⟩
  | .hbm, ⟨9, _⟩ => ⟨S1x2048, .f32⟩
  | .hbm, ⟨10, _⟩ => ⟨S2048x4096, .f32⟩
  | .hbm, ⟨11, _⟩ => ⟨S2048x4096, .bf16⟩
  | .hbm, ⟨12, _⟩ => ⟨S4x256x256, .f32⟩
  | .hbm, ⟨13, _⟩ => ⟨S4x256x256, .bf16⟩
  | .hbm, ⟨14, _⟩ => ⟨S1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S16x1024, .f32⟩
  | .local _ .vmem, ⟨5, _⟩ => ⟨S4x256x256, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S528x1024, .f32⟩
  | .local _ .vmem, ⟨19, _⟩ => ⟨S512x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InRefIdeal.lean ====
abbrev S8x2048x2048 : Shape := ⟨3, ![8, 2048, 2048]⟩
abbrev S1x2048 : Shape := ⟨2, ![1, 2048]⟩
abbrev S1x2048x4096 : Shape := ⟨3, ![1, 2048, 4096]⟩
abbrev S1x4x256x256 : Shape := ⟨4, ![1, 4, 256, 256]⟩
abbrev S1x1024 : Shape := ⟨2, ![1, 1024]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x4096 : Shape := ⟨2, ![2048, 4096]⟩
abbrev S8x2048x4096 : Shape := ⟨3, ![8, 2048, 4096]⟩
abbrev S8x2048x1024 : Shape := ⟨3, ![8, 2048, 1024]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x4096, .f32⟩
  | .hbm, ⟨3, _⟩ => ⟨S1x4x256x256, .f32⟩
  | .hbm, ⟨4, _⟩ => ⟨S1x1024, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x4096, .f32⟩
  | .hbm, ⟨23, _⟩ => ⟨S8x2048x4096, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== InSample.lean ====
abbrev S32x4x2048 : Shape := ⟨3, ![32, 4, 2048]⟩
abbrev S1x2048 : Shape := ⟨2, ![1, 2048]⟩
abbrev S1x2048x4096 : Shape := ⟨3, ![1, 2048, 4096]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S4x32x2048 : Shape := ⟨3, ![4, 32, 2048]⟩
abbrev S128x2048 : Shape := ⟨2, ![128, 2048]⟩
abbrev S2048 : Shape := ⟨1, ![2048]⟩
abbrev S2048x4096 : Shape := ⟨2, ![2048, 4096]⟩
abbrev S4x256x256 : Shape := ⟨3, ![4, 256, 256]⟩
abbrev S1024 : Shape := ⟨1, ![1024]⟩
abbrev S_ : Shape := ⟨0, ![]⟩
abbrev S32x1024 : Shape := ⟨2, ![32, 1024]⟩
abbrev S32x15x1024 : Shape := ⟨3, ![32, 15, 1024]⟩
abbrev S15x32x1024 : Shape := ⟨3, ![15, 32, 1024]⟩
abbrev S480x1024 : Shape := ⟨2, ![480, 1024]⟩
abbrev S512x1024 : Shape := ⟨2, ![512, 1024]⟩
abbrev S128x1024 : Shape := ⟨2, ![128, 1024]⟩
abbrev S640x1024 : Shape := ⟨2, ![640, 1024]⟩
abbrev S128 : Shape := ⟨1, ![128]⟩
abbrev S128x1 : Shape := ⟨2, ![128, 1]⟩
abbrev S2048x512 : Shape := ⟨2, ![2048, 512]⟩
abbrev S128x512 : Shape := ⟨2, ![128, 512]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 27
  | .vmem => 14
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x4096, .f32⟩
  | .hbm, ⟨3, _⟩ => ⟨S1x32x15x1024, .f32⟩
  | .hbm, ⟨4, _⟩ => ⟨S1x4x256x256, .f32⟩
  | .hbm, ⟨5, _⟩ => ⟨S1x1024, .f32⟩
  | .hbm, ⟨6, _⟩ => ⟨S4x32x2048, .f32⟩
  | .hbm, ⟨7, _⟩ => ⟨S128x2048, .f32⟩
  | .hbm, ⟨8, _⟩ => ⟨S2048, .f32⟩
  | .hbm, ⟨9, _⟩ => ⟨S1x2048, .f32⟩
  | .hbm, ⟨10, _⟩ => ⟨S2048x4096, .f32⟩
  | .hbm, ⟨11, _⟩ => ⟨S2048x4096, .bf16⟩
  | .hbm, ⟨12, _⟩ => ⟨S4x256x256, .f32⟩
  | .hbm, ⟨13, _⟩ => ⟨S4x256x256, .bf16⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S32x1024, .f32⟩
  | .hbm, ⟨18, _⟩ => ⟨S32x15x1024, .f32⟩
  | .hbm, ⟨19, _⟩ => ⟨S15x32x1024, .f32⟩
  | .hbm, ⟨20, _⟩ => ⟨S480x1024, .f32⟩
  | .hbm, ⟨21, _⟩ => ⟨S512x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .bf16⟩
  | .local _ .vmem, ⟨0, _⟩ => ⟨S128x2048, .f32⟩
  | .local _ .vmem, ⟨1, _⟩ => ⟨S1x2048, .f32⟩
  | .local _ .vmem, ⟨2, _⟩ => ⟨S2048x4096, .bf16⟩
  | .local _ .vmem, ⟨3, _⟩ => ⟨S512x1024, .f32⟩
  | .local _ .vmem, ⟨4, _⟩ => ⟨S4x256x256, .bf16⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .bf16⟩
  | .local _ .vmem, ⟨11, _⟩ => ⟨S128x2048, .bf16⟩
  | .local _ .vmem, ⟨12, _⟩ => ⟨S640x1024, .f32⟩
  | .local _ .vmem, ⟨13, _⟩ => ⟨S128x1024, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== InSampleRefIdeal.lean ====
abbrev S32x4x2048 : Shape := ⟨3, ![32, 4, 2048]⟩
abbrev S1x2048 : Shape := ⟨2, ![1, 2048]⟩
abbrev S1x2048x4096 : Shape := ⟨3, ![1, 2048, 4096]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x4096 : Shape := ⟨2, ![2048, 4096]⟩
abbrev S32x4x4096 : Shape := ⟨3, ![32, 4, 4096]⟩
abbrev S32x4x1024 : Shape := ⟨3, ![32, 4, 1024]⟩
abbrev S4x32x1024 : Shape := ⟨3, ![4, 32, 1024]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x4096, .f32⟩
  | .hbm, ⟨3, _⟩ => ⟨S1x32x15x1024, .f32⟩
  | .hbm, ⟨4, _⟩ => ⟨S1x4x256x256, .f32⟩
  | .hbm, ⟨5, _⟩ => ⟨S1x1024, .f32⟩
  | .hbm, ⟨6, _⟩ => ⟨S2048, .f32⟩
  | .hbm, ⟨7, _⟩ => ⟨S32x4x2048, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x2048, .f32⟩
  | .hbm, ⟨19, _⟩ => ⟨S32x4x2048, .f32⟩
  | .hbm, ⟨20, _⟩ => ⟨S1x1x2048, .f32⟩
  | .hbm, ⟨21, _⟩ => ⟨S32x4x2048, .f32⟩
  | .hbm, ⟨22, _⟩ => ⟨S32x4x2048, .f32⟩
  | .hbm, ⟨23, _⟩ => ⟨S2048x4096, .f32⟩
  | .hbm, ⟨24, _⟩ => ⟨S32x4x4096, .f32⟩
  | .hbm, ⟨25, _⟩ => ⟨S32x4x1024, .f32⟩
  | .hbm, ⟨26, _⟩ => ⟨S_, .f32⟩
  | .hbm, ⟨27, _⟩ => ⟨S32x4x1024, .f32⟩
  | .hbm, ⟨28, _⟩ => ⟨S32x4x1024, .f32⟩
  | .hbm, ⟨29, _⟩ => ⟨S32x4x1024, .f32⟩
  | .hbm, ⟨30, _⟩ => ⟨S32x4x1024, .f32⟩
  | .hbm, ⟨31, _⟩ => ⟨S32x4x1024, .f32⟩
  | .hbm, ⟨32, _⟩ => ⟨S4x32x1024, .f32⟩
  | .hbm, ⟨33, _⟩ => ⟨S128x1024, .f32⟩
  | .hbm, ⟨34, _⟩ => ⟨S4x32x1024, .f32⟩
  | .hbm, ⟨35, _⟩ => ⟨S128x1024, .f32⟩
  | .hbm, ⟨36, _⟩ => ⟨S4x32x1024, .f32⟩
  | .hbm, ⟨37, _⟩ => ⟨S128x1024, .f32⟩
  | .hbm, ⟨38, _⟩ => ⟨S4x32x1024, .f32⟩
  | .hbm, ⟨39, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== FfnSample.lean ====
abbrev S128x2048 : Shape := ⟨2, ![128, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S128 : Shape := ⟨1, ![128]⟩
abbrev S128x1 : Shape := ⟨2, ![128, 1]⟩
abbrev S128x512 : Shape := ⟨2, ![128, 512]⟩

abbrev nBuf : Space → Nat
  | .hbm => 16
  | .vmem => 12
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSampleRefIdeal.lean ====
abbrev S128x2048 : Shape := ⟨2, ![128, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S128 : Shape := ⟨1, ![128]⟩
abbrev S128x1 : Shape := ⟨2, ![128, 1]⟩
abbrev S2048x5632 : Shape := ⟨2, ![2048, 5632]⟩
abbrev S128x5632 : Shape := ⟨2, ![128, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S2048x5632, .f32⟩
  | .hbm, ⟨24, _⟩ => ⟨S128x5632, .f32⟩
  | .hbm, ⟨25, _⟩ => ⟨S128x5632, .f32⟩
  | .hbm, ⟨26, _⟩ => ⟨S128x5632, .f32⟩
  | .hbm, ⟨27, _⟩ => ⟨S_, .f32⟩
  | .hbm, ⟨28, _⟩ => ⟨S128x5632, .f32⟩
  | .hbm, ⟨29, _⟩ => ⟨S128x5632, .f32⟩
  | .hbm, ⟨30, _⟩ => ⟨S_, .f32⟩
  | .hbm, ⟨31, _⟩ => ⟨S128x5632, .f32⟩
  | .hbm, ⟨32, _⟩ => ⟨S128x5632, .f32⟩
  | .hbm, ⟨33, _⟩ => ⟨S128x5632, .f32⟩
  | .hbm, ⟨34, _⟩ => ⟨S2048x5632, .f32⟩
  | .hbm, ⟨35, _⟩ => ⟨S128x5632, .f32⟩
  | .hbm, ⟨36, _⟩ => ⟨S128x5632, .f32⟩
  | .hbm, ⟨37, _⟩ => ⟨S5632x2048, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S128x2048, .f32⟩
  | .hbm, ⟨52, _⟩ => ⟨S128x2048, .f32⟩
  | .hbm, ⟨53, _⟩ => ⟨S1x2048, .f32⟩
  | .hbm, ⟨54, _⟩ => ⟨S128x2048, .f32⟩
  | .hbm, ⟨55, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== OutSample.lean ====
abbrev S128x2048 : Shape := ⟨2, ![128, 2048]⟩
abbrev S128x1024 : Shape := ⟨2, ![128, 1024]⟩
abbrev S1x2048x2048 : Shape := ⟨3, ![1, 2048, 2048]⟩
abbrev S2048x2048 : Shape := ⟨2, ![2048, 2048]⟩
abbrev S1024x512 : Shape := ⟨2, ![1024, 512]⟩
abbrev S128x512 : Shape := ⟨2, ![128, 512]⟩

abbrev nBuf : Space → Nat
  | .hbm => 7
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S128x1024, .f32⟩
  | .hbm, ⟨2, _⟩ => ⟨S128x1024, .bf16⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S128x2048, .f32⟩
  | .local _ .vmem, ⟨0, _⟩ => ⟨S128x2048, .f32⟩
  | .local _ .vmem, ⟨1, _⟩ => ⟨S128x1024, .f32⟩
  | .local _ .vmem, ⟨2, _⟩ => ⟨S128x1024, .bf16⟩
  | .local _ .vmem, ⟨3, _⟩ => ⟨S2048x2048, .bf16⟩
  | .local _ .vmem, ⟨4, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== OutSampleRefIdeal.lean ====
abbrev S128x2048 : Shape := ⟨2, ![128, 2048]⟩
abbrev S128x1024 : Shape := ⟨2, ![128, 1024]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x1024, .f32⟩
  | .hbm, ⟨2, _⟩ => ⟨S128x1024, .bf16⟩
  | .hbm, ⟨3, _⟩ => ⟨S1x2048x2048, .f32⟩
  | .hbm, ⟨4, _⟩ => ⟨S128x1024, .f32⟩
  | .hbm, ⟨5, _⟩ => ⟨S128x2048, .f32⟩
  | .hbm, ⟨6, _⟩ => ⟨S2048x2048, .f32⟩
  | .hbm, ⟨7, _⟩ => ⟨S128x2048, .f32⟩
  | .hbm, ⟨8, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PoolSample.lean ====
abbrev S32x4x2048 : Shape := ⟨3, ![32, 4, 2048]⟩
abbrev S1x2048 : Shape := ⟨2, ![1, 2048]⟩
abbrev S1x2048x4096 : Shape := ⟨3, ![1, 2048, 4096]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S4x32x2048 : Shape := ⟨3, ![4, 32, 2048]⟩
abbrev S128x2048 : Shape := ⟨2, ![128, 2048]⟩
abbrev S2048 : Shape := ⟨1, ![2048]⟩
abbrev S2048x4096 : Shape := ⟨2, ![2048, 4096]⟩
abbrev S4x256x256 : Shape := ⟨3, ![4, 256, 256]⟩
abbrev S1024 : Shape := ⟨1, ![1024]⟩
abbrev S_ : Shape := ⟨0, ![]⟩
abbrev S32x1024 : Shape := ⟨2, ![32, 1024]⟩
abbrev S32x15x1024 : Shape := ⟨3, ![32, 15, 1024]⟩
abbrev S15x32x1024 : Shape := ⟨3, ![15, 32, 1024]⟩
abbrev S480x1024 : Shape := ⟨2, ![480, 1024]⟩
abbrev S512x1024 : Shape := ⟨2, ![512, 1024]⟩
abbrev S128x1024 : Shape := ⟨2, ![128, 1024]⟩
abbrev S640x1024 : Shape := ⟨2, ![640, 1024]⟩
abbrev S128 : Shape := ⟨1, ![128]⟩
abbrev S128x1 : Shape := ⟨2, ![128, 1]⟩
abbrev S2048x512 : Shape := ⟨2, ![2048, 512]⟩
abbrev S128x512 : Shape := ⟨2, ![128, 512]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 27
  | .vmem => 14
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x4096, .f32⟩
  | .hbm, ⟨3, _⟩ => ⟨S1x32x15x1024, .f32⟩
  | .hbm, ⟨4, _⟩ => ⟨S1x4x256x256, .f32⟩
  | .hbm, ⟨5, _⟩ => ⟨S1x1024, .f32⟩
  | .hbm, ⟨6, _⟩ => ⟨S4x32x2048, .f32⟩
  | .hbm, ⟨7, _⟩ => ⟨S128x2048, .f32⟩
  | .hbm, ⟨8, _⟩ => ⟨S2048, .f32⟩
  | .hbm, ⟨9, _⟩ => ⟨S1x2048, .f32⟩
  | .hbm, ⟨10, _⟩ => ⟨S2048x4096, .f32⟩
  | .hbm, ⟨11, _⟩ => ⟨S2048x4096, .bf16⟩
  | .hbm, ⟨12, _⟩ => ⟨S4x256x256, .f32⟩
  | .hbm, ⟨13, _⟩ => ⟨S4x256x256, .bf16⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S32x1024, .f32⟩
  | .hbm, ⟨18, _⟩ => ⟨S32x15x1024, .f32⟩
  | .hbm, ⟨19, _⟩ => ⟨S15x32x1024, .f32⟩
  | .hbm, ⟨20, _⟩ => ⟨S480x1024, .f32⟩
  | .hbm, ⟨21, _⟩ => ⟨S512x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .bf16⟩
  | .local _ .vmem, ⟨0, _⟩ => ⟨S128x2048, .f32⟩
  | .local _ .vmem, ⟨1, _⟩ => ⟨S1x2048, .f32⟩
  | .local _ .vmem, ⟨2, _⟩ => ⟨S2048x4096, .bf16⟩
  | .local _ .vmem, ⟨3, _⟩ => ⟨S512x1024, .f32⟩
  | .local _ .vmem, ⟨4, _⟩ => ⟨S4x256x256, .bf16⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .bf16⟩
  | .local _ .vmem, ⟨11, _⟩ => ⟨S128x2048, .bf16⟩
  | .local _ .vmem, ⟨12, _⟩ => ⟨S640x1024, .f32⟩
  | .local _ .vmem, ⟨13, _⟩ => ⟨S128x1024, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== PoolSampleRefIdeal.lean ====
abbrev S32x4x2048 : Shape := ⟨3, ![32, 4, 2048]⟩
abbrev S1x2048 : Shape := ⟨2, ![1, 2048]⟩
abbrev S1x2048x4096 : Shape := ⟨3, ![1, 2048, 4096]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x4096 : Shape := ⟨2, ![2048, 4096]⟩
abbrev S32x4x4096 : Shape := ⟨3, ![32, 4, 4096]⟩
abbrev S32x4x1024 : Shape := ⟨3, ![32, 4, 1024]⟩
abbrev S32x15x1024 : Shape := ⟨3, ![32, 15, 1024]⟩
abbrev S32x19x1024 : Shape := ⟨3, ![32, 19, 1024]⟩
abbrev S32x1x1024 : Shape := ⟨3, ![32, 1, 1024]⟩
abbrev S32x20x1024 : Shape := ⟨3, ![32, 20, 1024]⟩
abbrev S4 : Shape := ⟨1, ![4]⟩
abbrev S32x20x256 : Shape := ⟨3, ![32, 20, 256]⟩
abbrev S4x1 : Shape := ⟨2, ![4, 1]⟩
abbrev S32x4x256 : Shape := ⟨3, ![32, 4, 256]⟩
abbrev S1x4x1 : Shape := ⟨3, ![1, 4, 1]⟩
abbrev S1x1x256x256 : Shape := ⟨4, ![1, 1, 256, 256]⟩
abbrev S256x256 : Shape := ⟨2, ![256, 256]⟩
abbrev S1024 : Shape := ⟨1, ![1024]⟩
abbrev S1x1x1024 : Shape := ⟨3, ![1, 1, 1024]⟩
abbrev S4x32x1024 : Shape := ⟨3, ![4, 32, 1024]⟩
abbrev S128x1024 : Shape := ⟨2, ![128, 1024]⟩

abbrev nBuf : Space → Nat
  | .hbm => 226
  | .vmem => 0
  | .smem => 0
  | _ => 0

abbrev hbmTy0_0 (i : Nat) : BufTy := match i % 128 with
  | 0 => ⟨S32x4x2048, .f32⟩
  | 1 => ⟨S1x2048, .f32⟩
  | 2 => ⟨S1x2048x4096, .f32⟩
  | 3 => ⟨S1x32x15x1024, .f32⟩
  | 4 => ⟨S1x4x256x256, .f32⟩
  | 5 => ⟨S1x1024, .f32⟩
  | 6 => ⟨S2048, .f32⟩
  | 7 => ⟨S32x4x2048, .f32⟩
  | 8 => ⟨S_, .f32⟩
  | 9 => ⟨S32x4, .f32⟩
  | 10 => ⟨S32x4x1, .f32⟩
  | 11 => ⟨S_, .f32⟩
  | 12 => ⟨S32x4x1, .f32⟩
  | 13 => ⟨S32x4x1, .f32⟩
  | 14 => ⟨S_, .f32⟩
  | 15 => ⟨S32x4x1, .f32⟩
  | 16 => ⟨S32x4x1, .f32⟩
  | 17 => ⟨S32x4x1, .f32⟩
  | 18 => ⟨S32x4x2048, .f32⟩
  | 19 => ⟨S32x4x2048, .f32⟩
  | 20 => ⟨S1x1x2048, .f32⟩
  | 21 => ⟨S32x4x2048, .f32⟩
  | 22 => ⟨S32x4x2048, .f32⟩
  | 23 => ⟨S2048x4096, .f32⟩
  | 24 => ⟨S32x4x4096, .f32⟩
  | 25 => ⟨S32x4x1024, .f32⟩
  | 26 => ⟨S32x15x1024, .f32⟩
  | 27 => ⟨S32x19x1024, .f32⟩
  | 28 => ⟨S_, .f32⟩
  | 29 => ⟨S32x1x1024, .f32⟩
  | 30 => ⟨S_, .f32⟩
  | 31 => ⟨S_, .f32⟩
  | 32 => ⟨S32x19x1024, .f32⟩
  | 33 => ⟨S32x20x1024, .f32⟩
  | 34 => ⟨S4, .i32⟩
  | 35 => ⟨S_, .i32⟩
  | 36 => ⟨S4, .i32⟩
  | 37 => ⟨S4, .i32⟩
  | 38 => ⟨S_, .i32⟩
  | 39 => ⟨S4, .i32⟩
  | 40 => ⟨S4, .i32⟩
  | 41 => ⟨S_, .i32⟩
  | 42 => ⟨S4, .i32⟩
  | 43 => ⟨S4, .i32⟩
  | 44 => ⟨S_, .i32⟩
  | 45 => ⟨S4, .i32⟩
  | 46 => ⟨S4, .i32⟩
  | 47 => ⟨S_, .i32⟩
  | 48 => ⟨S4, .i32⟩
  | 49 => ⟨S4, .i32⟩
  | 50 => ⟨S4, .i32⟩
  | 51 => ⟨S4, .f32⟩
  | 52 => ⟨S32x20x256, .f32⟩
  | 53 => ⟨S_, .i32⟩
  | 54 => ⟨S4, .i32⟩
  | 55 => ⟨S4, .i32⟩
  | 56 => ⟨S_, .i32⟩
  | 57 => ⟨S4, .i32⟩
  | 58 => ⟨S4, .i1⟩
  | 59 => ⟨S_, .i32⟩
  | 60 => ⟨S4, .i32⟩
  | 61 => ⟨S4, .i32⟩
  | 62 => ⟨S4, .i32⟩
  | 63 => ⟨S4x1, .i32⟩
  | 64 => ⟨S32x4x256, .f32⟩
  | 65 => ⟨S_, .i32⟩
  | 66 => ⟨S4, .i32⟩
  | 67 => ⟨S4, .i1⟩
  | 68 => ⟨S_, .i32⟩
  | 69 => ⟨S4, .i32⟩
  | 70 => ⟨S4, .i32⟩
  | 71 => ⟨S4, .i32⟩
  | 72 => ⟨S4x1, .i32⟩
  | 73 => ⟨S32x4x256, .f32⟩
  | 74 => ⟨S32x4x256, .f32⟩
  | 75 => ⟨S1x4x1, .f32⟩
  | 76 => ⟨S32x4x256, .f32⟩
  | 77 => ⟨S32x4x256, .f32⟩
  | 78 => ⟨S32x4x256, .f32⟩
  | 79 => ⟨S32x4x256, .f32⟩
  | 80 => ⟨S1x1x256x256, .f32⟩
  | 81 => ⟨S256x256, .f32⟩
  | 82 => ⟨S32x4x256, .f32⟩
  | 83 => ⟨S_, .i32⟩
  | 84 => ⟨S4, .i32⟩
  | 85 => ⟨S4, .i32⟩
  | 86 => ⟨S_, .i32⟩
  | 87 => ⟨S4, .i32⟩
  | 88 => ⟨S4, .i32⟩
  | 89 => ⟨S_, .i32⟩
  | 90 => ⟨S4, .i32⟩
  | 91 => ⟨S4, .i32⟩
  | 92 => ⟨S_, .i32⟩
  | 93 => ⟨S4, .i32⟩
  | 94 => ⟨S4, .i32⟩
  | 95 => ⟨S4, .i32⟩
  | 96 => ⟨S4, .f32⟩
  | 97 => ⟨S32x20x256, .f32⟩
  | 98 => ⟨S_, .i32⟩
  | 99 => ⟨S4, .i32⟩
  | 100 => ⟨S4, .i32⟩
  | 101 => ⟨S_, .i32⟩
  | 102 => ⟨S4, .i32⟩
  | 103 => ⟨S4, .i1⟩
  | 104 => ⟨S_, .i32⟩
  | 105 => ⟨S4, .i32⟩
  | 106 => ⟨S4, .i32⟩
  | 107 => ⟨S4, .i32⟩
  | 108 => ⟨S4x1, .i32⟩
  | 109 => ⟨S32x4x256, .f32⟩
  | 110 => ⟨S_, .i32⟩
  | 111 => ⟨S4, .i32⟩
  | 112 => ⟨S4, .i1⟩
  | 113 => ⟨S_, .i32⟩
  | 114 => ⟨S4, .i32⟩
  | 115 => ⟨S4, .i32⟩
  | 116 => ⟨S4, .i32⟩
  | 117 => ⟨S4x1, .i32⟩
  | 118 => ⟨S32x4x256, .f32⟩
  | 119 => ⟨S32x4x256, .f32⟩
  | 120 => ⟨S1x4x1, .f32⟩
  | 121 => ⟨S32x4x256, .f32⟩
  | 122 => ⟨S32x4x256, .f32⟩
  | 123 => ⟨S32x4x256, .f32⟩
  | 124 => ⟨S32x4x256, .f32⟩
  | 125 => ⟨S1x1x256x256, .f32⟩
  | 126 => ⟨S256x256, .f32⟩
  | 127 => ⟨S32x4x256, .f32⟩
  | _ => ⟨S32x4x2048, .f32⟩

abbrev hbmTy0_1 (i : Nat) : BufTy := match i % 128 with
  | 0 => ⟨S_, .i32⟩
  | 1 => ⟨S4, .i32⟩
  | 2 => ⟨S4, .i32⟩
  | 3 => ⟨S_, .i32⟩
  | 4 => ⟨S4, .i32⟩
  | 5 => ⟨S4, .i32⟩
  | 6 => ⟨S_, .i32⟩
  | 7 => ⟨S4, .i32⟩
  | 8 => ⟨S4, .i32⟩
  | 9 => ⟨S_, .i32⟩
  | 10 => ⟨S4, .i32⟩
  | 11 => ⟨S4, .i32⟩
  | 12 => ⟨S4, .i32⟩
  | 13 => ⟨S4, .f32⟩
  | 14 => ⟨S32x20x256, .f32⟩
  | 15 => ⟨S_, .i32⟩
  | 16 => ⟨S4, .i32⟩
  | 17 => ⟨S4, .i32⟩
  | 18 => ⟨S_, .i32⟩
  | 19 => ⟨S4, .i32⟩
  | 20 => ⟨S4, .i1⟩
  | 21 => ⟨S_, .i32⟩
  | 22 => ⟨S4, .i32⟩
  | 23 => ⟨S4, .i32⟩
  | 24 => ⟨S4, .i32⟩
  | 25 => ⟨S4x1, .i32⟩
  | 26 => ⟨S32x4x256, .f32⟩
  | 27 => ⟨S_, .i32⟩
  | 28 => ⟨S4, .i32⟩
  | 29 => ⟨S4, .i1⟩
  | 30 => ⟨S_, .i32⟩
  | 31 => ⟨S4, .i32⟩
  | 32 => ⟨S4, .i32⟩
  | 33 => ⟨S4, .i32⟩
  | 34 => ⟨S4x1, .i32⟩
  | 35 => ⟨S32x4x256, .f32⟩
  | 36 => ⟨S32x4x256, .f32⟩
  | 37 => ⟨S1x4x1, .f32⟩
  | 38 => ⟨S32x4x256, .f32⟩
  | 39 => ⟨S32x4x256, .f32⟩
  | 40 => ⟨S32x4x256, .f32⟩
  | 41 => ⟨S32x4x256, .f32⟩
  | 42 => ⟨S1x1x256x256, .f32⟩
  | 43 => ⟨S256x256, .f32⟩
  | 44 => ⟨S32x4x256, .f32⟩
  | 45 => ⟨S_, .i32⟩
  | 46 => ⟨S4, .i32⟩
  | 47 => ⟨S4, .i32⟩
  | 48 => ⟨S_, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .f32⟩
  | 59 => ⟨S32x20x256, .f32⟩
  | 60 => ⟨S_, .i32⟩
  | 61 => ⟨S4, .i32⟩
  | 62 => ⟨S4, .i32⟩
  | 63 => ⟨S_, .i32⟩
  | 64 => ⟨S4, .i32⟩
  | 65 => ⟨S4, .i1⟩
  | 66 => ⟨S_, .i32⟩
  | 67 => ⟨S4, .i32⟩
  | 68 => ⟨S4, .i32⟩
  | 69 => ⟨S4, .i32⟩
  | 70 => ⟨S4x1, .i32⟩
  | 71 => ⟨S32x4x256, .f32⟩
  | 72 => ⟨S_, .i32⟩
  | 73 => ⟨S4, .i32⟩
  | 74 => ⟨S4, .i1⟩
  | 75 => ⟨S_, .i32⟩
  | 76 => ⟨S4, .i32⟩
  | 77 => ⟨S4, .i32⟩
  | 78 => ⟨S4, .i32⟩
  | 79 => ⟨S4x1, .i32⟩
  | 80 => ⟨S32x4x256, .f32⟩
  | 81 => ⟨S32x4x256, .f32⟩
  | 82 => ⟨S1x4x1, .f32⟩
  | 83 => ⟨S32x4x256, .f32⟩
  | 84 => ⟨S32x4x256, .f32⟩
  | 85 => ⟨S32x4x256, .f32⟩
  | 86 => ⟨S32x4x256, .f32⟩
  | 87 => ⟨S1x1x256x256, .f32⟩
  | 88 => ⟨S256x256, .f32⟩
  | 89 => ⟨S32x4x256, .f32⟩
  | 90 => ⟨S32x4x1024, .f32⟩
  | 91 => ⟨S1024, .f32⟩
  | 92 => ⟨S1x1x1024, .f32⟩
  | 93 => ⟨S32x4x1024, .f32⟩
  | 94 => ⟨S32x4x1024, .f32⟩
  | 95 => ⟨S32x4x1024, .bf16⟩
  | 96 => ⟨S4x32x1024, .bf16⟩
  | 97 => ⟨S128x1024, .bf16⟩
  | _ => ⟨S32x4x2048, .f32⟩

abbrev hbmTy (i : Nat) : BufTy := match i / 128 with
  | 0 => hbmTy0_0 i
  | 1 => hbmTy0_1 i
  | _ => ⟨S32x4x2048, .f32⟩

abbrev bufTy : (tb : Table) → Fin (tcTables nBuf tb) → BufTy
  | .hbm, ⟨i, _⟩ => hbmTy i
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_call0_call0_cst : Ref sig .tc := ⟨.hbm, 30, rfl⟩
abbrev main_call0_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_19 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_21 : Ref sig .tc := ⟨.hbm, 128, rfl⟩
abbrev main_v97 : Ref sig .tc := ⟨.hbm, 129, rfl⟩
abbrev main_v98 : Ref sig .tc := ⟨.hbm, 130, rfl⟩
abbrev main_c_22 : Ref sig .tc := ⟨.hbm, 131, rfl⟩
abbrev main_v99 : Ref sig .tc := ⟨.hbm, 132, rfl⟩
abbrev main_v100 : Ref sig .tc := ⟨.hbm, 133, rfl⟩
abbrev main_c_23 : Ref sig .tc := ⟨.hbm, 134, rfl⟩
abbrev main_v101 : Ref sig .tc := ⟨.hbm, 135, rfl⟩
abbrev main_v102 : Ref sig .tc := ⟨.hbm, 136, rfl⟩
abbrev main_c_24 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_25 : Ref sig .tc := ⟨.hbm, 143, rfl⟩
abbrev main_v108 : Ref sig .tc := ⟨.hbm, 144, rfl⟩
abbrev main_v109 : Ref sig .tc := ⟨.hbm, 145, rfl⟩
abbrev main_c_26 : Ref sig .tc := ⟨.hbm, 146, rfl⟩
abbrev main_v110 : Ref sig .tc := ⟨.hbm, 147, rfl⟩
abbrev main_v111 : Ref sig .tc := ⟨.hbm, 148, rfl⟩
abbrev main_c_27 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_28 : Ref sig .tc := ⟨.hbm, 155, rfl⟩
abbrev main_v117 : Ref sig .tc := ⟨.hbm, 156, rfl⟩
abbrev main_v118 : Ref sig .tc := ⟨.hbm, 157, rfl⟩
abbrev main_c_29 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_30 : Ref sig .tc := ⟨.hbm, 173, rfl⟩
abbrev main_v133 : Ref sig .tc := ⟨.hbm, 174, rfl⟩
abbrev main_v134 : Ref sig .tc := ⟨.hbm, 175, rfl⟩
abbrev main_c_31 : Ref sig .tc := ⟨.hbm, 176, rfl⟩
abbrev main_v135 : Ref sig .tc := ⟨.hbm, 177, rfl⟩
abbrev main_v136 : Ref sig .tc := ⟨.hbm, 178, rfl⟩
abbrev main_c_32 : Ref sig .tc := ⟨.hbm, 179, rfl⟩
abbrev main_v137 : Ref sig .tc := ⟨.hbm, 180, rfl⟩
abbrev main_v138 : Ref sig .tc := ⟨.hbm, 181, rfl⟩
abbrev main_c_33 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_34 : Ref sig .tc := ⟨.hbm, 188, rfl⟩
abbrev main_v144 : Ref sig .tc := ⟨.hbm, 189, rfl⟩
abbrev main_v145 : Ref sig .tc := ⟨.hbm, 190, rfl⟩
abbrev main_c_35 : Ref sig .tc := ⟨.hbm, 191, rfl⟩
abbrev main_v146 : Ref sig .tc := ⟨.hbm, 192, rfl⟩
abbrev main_v147 : Ref sig .tc := ⟨.hbm, 193, rfl⟩
abbrev main_c_36 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_c_37 : Ref sig .tc := ⟨.hbm, 200, rfl⟩
abbrev main_v153 : Ref sig .tc := ⟨.hbm, 201, rfl⟩
abbrev main_v154 : Ref sig .tc := ⟨.hbm, 202, rfl⟩
abbrev main_c_38 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩

abbrev nD : Nat := 1
abbrev τ : Topo := Topo.v7x

variable {F : FTy → Type} [FloatOps F]
-- ==== Proof.Rms.lean ====
module

public import Idealize.ShloMosaic.Lib.Pointwise

@[expose] public section

noncomputable section

namespace Cert.Spec

open Idealize.ShloMosaic

/-- One row of the layer's root-mean-square norm with its gain: the row over the root of its mean square plus epsilon. -/
def rms (x g : Fin 2048 → EReal) (l : Fin 2048) : EReal :=
  x l * Ideal.rsqrt (Ideal.div (∑ k, x k * x k) (Ideal.ofBits FTy.f32 1157627904#32) + Ideal.ofBits FTy.f32 897988541#32) * g l

/-- Two index tuples of two axes agree when their coordinates do. -/
theorem idx2_ext {n m : ℕ} (x : Shape.Idx ⟨2, ![n, m]⟩) (a : Fin n) (b : Fin m) (h0 : (x 0).val = a.val) (h1 : (x 1).val = b.val) : x = ix2 a b :=
  funext fun d => by
    match d with
    | ⟨0, _⟩ => exact Fin.ext h0
    | ⟨1, _⟩ => exact Fin.ext h1

/-- Two index tuples of three axes agree when their coordinates do. -/
theorem idx3_ext {n m p : ℕ} (x : Shape.Idx ⟨3, ![n, m, p]⟩) (a : Fin n) (b : Fin m) (c : Fin p) (h0 : (x 0).val = a.val) (h1 : (x 1).val = b.val)
    (h2 : (x 2).val = c.val) : x = ix3 a b c :=
  funext fun d => by
    match d with
    | ⟨0, _⟩ => exact Fin.ext h0
    | ⟨1, _⟩ => exact Fin.ext h1
    | ⟨2, _⟩ => exact Fin.ext h2

/-- The zero offsets of a whole two-axis access. -/
theorem hz : (![0, 0] : Fin 2 → Nat) = fun _ => 0 := funext fun a => by fin_cases a <;> rfl

/-- The zero offsets of a whole three-axis access. -/
theorem hz3 : (![0, 0, 0] : Fin 3 → Nat) = fun _ => 0 := funext fun a => by fin_cases a <;> rfl

end Cert.Spec

end
-- ==== Proof.FfnBody.lean ====
module

public import proofs.«01_k».proof.Proof.Gen.FfnIdeal.Value
public import proofs.«01_k».proof.Proof.Rms

@[expose] public section

set_option maxRecDepth 16384

noncomputable section

/-! The feed-forward call, body by body: what each of the three cases leaves in the two carried scratch buffers and in the output, as the payloads of the values read. -/

namespace Cert.FfnIdeal.Closed

open Cert.FfnIdeal Cert.FfnIdeal.Gen Idealize.ShloMosaic Idealize.ShloMosaic.TcCoe Idealize.SL.Sem
open Cert.Spec (hz)

variable (c : Dev nD) (i : grid0.Coords) (a2 : Memref sig .tc .vmem S512x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S1x2048 .f32) (h7 : a7.IsWhole) (a8 : Memref sig .tc .vmem S512x2048 .f32) (h8 : a8.IsWhole) (a9 : Memref sig .tc .vmem S512x2048 .bf16) (h9 : a9.IsWhole) (a10 : Memref sig .tc .vmem S512x2048 .f32) (h10 : a10.IsWhole)
variable (x0 : Vec Ideal S512x2048 .f32) (x1 : Vec Ideal S1x2048 .f32) (x2 x3 : Vec Ideal S2048x512 .bf16) (x4 : Vec Ideal S512x2048 .bf16) (x5 : Vec Ideal S1x2048 .f32)
variable (s0 : Vec Ideal S512x2048 .bf16) (s1 : Vec Ideal S512x2048 .f32)

theorem soutA0 (hc0 : cond0_0 i) (hc1 : ¬cond0_1 i) :
    sout0_A_0 c i a2 h2 a3 h3 a4 h4 a5 h5 a6 h6 a7 h7 a8 h8 a9 h9 a10 h10 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero (S := S512x2048) hz]
  simp only [View.readAt_eq_ld, h2.read_unread, h3.read_unread, View.ld_unit_zero (S := S512x2048) hz, View.ld_unit_zero (S := S1x2048) hz, shapeCast_self]

theorem soutA1 (hc0 : cond0_0 i) (hc1 : ¬cond0_1 i) :
    sout0_A_1 c i a2 h2 a3 h3 a4 h4 a5 h5 a6 h6 a7 h7 a8 h8 a9 h9 a10 h10 hc0 hc1 x0 x1 x2 x3 x4 x5 = k0_pay3 (k0_pay1 x0 x1) x2 x3 (k0_pay2 x0) x4 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread, h5.read_unread, h6.read_unread,
    View.ld_unit_zero (S := S512x2048) hz, View.ld_unit_zero (S := S1x2048) hz, View.ld_unit_zero (S := S2048x512) hz, shapeCast_self]

theorem soutB1 (hc0 : ¬cond0_0 i) (hc1 : ¬cond0_1 i) :
    sout0_B_1 c i a2 h2 a3 h3 a4 h4 a5 h5 a6 h6 a7 h7 a8 h8 a9 h9 a10 h10 hc0 hc1 x0 x1 x2 x3 x4 x5 s0 s1 = k0_pay3 s0 x2 x3 s1 x4 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 s0 s1)]
  unfold kernelRun0_B
  dsimp only
  sl_unfold_words
  rw [View.canon_unit_zero (S := S512x2048) hz]
  simp only [View.readAt_eq_ld, h9.read_unread, h10.read_unread, h4.read_unread, h5.read_unread, h6.read_unread,
    View.ld_unit_zero (S := S512x2048) hz, View.ld_unit_zero (S := S1x2048) hz, View.ld_unit_zero (S := S2048x512) hz, shapeCast_self]

theorem soutC1 (hc0 : ¬cond0_0 i) (hc1 : cond0_1 i) :
    sout0_C_1 c i a2 h2 a3 h3 a4 h4 a5 h5 a6 h6 a7 h7 a8 h8 a9 h9 a10 h10 hc0 hc1 x0 x1 x2 x3 x4 x5 s0 s1 = k0_pay3 s0 x2 x3 s1 x4 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 x5 s0 s1)]
  unfold kernelRun0_C
  dsimp only
  sl_unfold_words
  rw [View.canon_unit_zero (S := S512x2048) hz]
  simp only [View.readAt_eq_ld, h9.read_unread, h10.read_unread, h4.read_unread, h5.read_unread, h6.read_unread,
    View.ld_unit_zero (S := S512x2048) hz, View.ld_unit_zero (S := S1x2048) hz, View.ld_unit_zero (S := S2048x512) hz, shapeCast_self]

theorem outC6 (hc0 : ¬cond0_0 i) (hc1 : cond0_1 i) :
    out0_C_6 c i a2 h2 a3 h3 a4 h4 a5 h5 a6 h6 a7 h7 a8 h8 a9 h9 a10 h10 hc0 hc1 x0 x1 x2 x3 x4 x5 s0 s1 = k0_pay4 (k0_pay3 s0 x2 x3 s1 x4) x5 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 s0 s1)]
  unfold kernelRun0_C
  dsimp only
  sl_unfold_words
  rw [View.canon_unit_zero (S := S512x2048) hz]
  simp only [View.readCov_unit_zero (S := S512x2048) _ hz, View.readAt_eq_ld, h9.read_unread, h10.read_unread, h4.read_unread, h5.read_unread, h6.read_unread, h7.read_unread,
    View.ld_unit_zero (S := S512x2048) hz, View.ld_unit_zero (S := S1x2048) hz, View.ld_unit_zero (S := S2048x512) hz, shapeCast_self]

end Cert.FfnIdeal.Closed

end
-- ==== Proof.FfnValue.lean ====
module

public import proofs.«01_k».proof.Proof.FfnBody
public import proofs.«01_k».proof.Proof.Gen.FfnRefIdeal.Read
public import proofs.«01_k».proof.Proof.Gen.FfnRefIdeal.Run
public import Idealize.ShloMosaic.Lib.Pointwise
public import proofs.«01_k».proof.Defs

@[expose] public section

set_option maxRecDepth 16384

noncomputable section

/-! The feed-forward call: the grid's eleven column steps accumulate one row's whole down projection. -/

namespace Cert.FfnIdeal.Closed

open Cert.FfnIdeal Cert.FfnIdeal.Gen Idealize.ShloMosaic Idealize.ShloMosaic.TcCoe Idealize.SL.Sem
open Idealize.ShloMosaic (Ideal ix1 ix2 ix3)
open Cert.Spec (hz rms idx2_ext idx3_ext)

/-! ## The function, over plain arrays -/

/-- One hidden unit: its gate, the gate's logistic and its up projection, multiplied. -/
def act (h wg wu : Fin 2048 → EReal) : EReal :=
  (∑ k, h k * wg k) * Ideal.logistic (∑ k, h k * wg k) * ∑ k, h k * wu k

section
variable (X0 : S16384x2048.Idx → EReal) (X1 : S1x2048.Idx → EReal) (X2 X3 : S1x2048x5632.Idx → EReal) (X4 : S1x5632x2048.Idx → EReal) (X5 : S2048.Idx → EReal)

/-- The normed row. -/
def hrow (R : Fin 16384) : Fin 2048 → EReal := rms (fun l => X0 (ix2 R l)) (fun l => X1 (ix2 (0 : Fin 1) l))

/-- What hidden unit `n` adds to output column `l` of row `R`. -/
def term (R : Fin 16384) (l : Fin 2048) (n : ℕ) : EReal :=
  if h : n < 5632 then act (hrow X0 X1 R) (fun k => X2 (ix3 (0 : Fin 1) k (⟨n, h⟩ : Fin 5632))) (fun k => X3 (ix3 (0 : Fin 1) k (⟨n, h⟩ : Fin 5632)))
    * X4 (ix3 (0 : Fin 1) (⟨n, h⟩ : Fin 5632) l) else 0

/-- The residual plus the first `n` hidden units. -/
def part (R : Fin 16384) (l : Fin 2048) (n : ℕ) : EReal := X0 (ix2 R l) + ∑ i ∈ Finset.range n, term X0 X1 X2 X3 X4 R l i

/-- The whole call: the residual plus all hidden units, normed. -/
def spec (i : S16384x2048.Idx) : EReal := rms (fun l => part X0 X1 X2 X3 X4 (i 0) l 5632) (fun l => X5 (ix1 l)) (i 1)

end

/-! ## The payloads at an index -/

theorem pay1_at (x0 : Vec Ideal S512x2048 .f32) (x1 : Vec Ideal S1x2048 .f32) (r : Fin 512) (l : Fin 2048) :
    k0_pay1 (F := Ideal) x0 x1 (ix2 r l) = rms (fun l => x0 (ix2 r l)) (fun l => x1 (ix2 (0 : Fin 1) l)) l := by
  pointwise [k0_pay1, rms]

theorem pay4_at (x0 : Vec Ideal S512x2048 .f32) (x1 : Vec Ideal S1x2048 .f32) (r : Fin 512) (l : Fin 2048) :
    k0_pay4 (F := Ideal) x0 x1 (ix2 r l) = rms (fun l => x0 (ix2 r l)) (fun l => x1 (ix2 (0 : Fin 1) l)) l := by
  pointwise [k0_pay4, rms]

theorem pay2_eq (x0 : Vec Ideal S512x2048 .f32) : k0_pay2 (F := Ideal) x0 = x0 := by
  unfold k0_pay2
  simp only [shapeCast_self]

theorem pay3_at (h : Vec Ideal S512x2048 .bf16) (wg wu : Vec Ideal S2048x512 .bf16) (a : Vec Ideal S512x2048 .f32) (wd : Vec Ideal S512x2048 .bf16) (r : Fin 512) (l : Fin 2048) :
    k0_pay3 (F := Ideal) h wg wu a wd (ix2 r l)
      = a (ix2 r l) + ∑ x : Fin 512, act (fun k => h (ix2 r k)) (fun k => wg (ix2 k x)) (fun k => wu (ix2 k x)) * wd (ix2 x l) := by
  pointwise [k0_pay3, act]

section
variable (X0 : S16384x2048.Idx → EReal) (X1 : S1x2048.Idx → EReal) (X2 X3 : S1x2048x5632.Idx → EReal) (X4 : S1x5632x2048.Idx → EReal) (X5 : S2048.Idx → EReal)

/-- One column step takes the partial sum over `512 j` hidden units to the one over `512 (j + 1)`. -/
theorem pay3_step (h : Vec Ideal S512x2048 .bf16) (wg wu : Vec Ideal S2048x512 .bf16) (a : Vec Ideal S512x2048 .f32) (wd : Vec Ideal S512x2048 .bf16)
    (r : Fin 512) (l : Fin 2048) (R : Fin 16384) (j : ℕ) (hj : j < 11)
    (eh : ∀ k, h (ix2 r k) = hrow X0 X1 R k)
    (eg : ∀ k (x : Fin 512), wg (ix2 k x) = X2 (ix3 (0 : Fin 1) k (⟨512 * j + x.val, by omega⟩ : Fin 5632)))
    (eu : ∀ k (x : Fin 512), wu (ix2 k x) = X3 (ix3 (0 : Fin 1) k (⟨512 * j + x.val, by omega⟩ : Fin 5632)))
    (ed : ∀ (x : Fin 512) l, wd (ix2 x l) = X4 (ix3 (0 : Fin 1) (⟨512 * j + x.val, by omega⟩ : Fin 5632) l))
    (ea : a (ix2 r l) = part X0 X1 X2 X3 X4 R l (512 * j)) :
    k0_pay3 (F := Ideal) h wg wu a wd (ix2 r l) = part X0 X1 X2 X3 X4 R l (512 * (j + 1)) := by
  rw [pay3_at, ea]
  simp only [eh, eg, eu, ed]
  unfold part
  rw [show 512 * (j + 1) = 512 * j + 512 by ring, Finset.sum_range_add, ← add_assoc]
  congr 1
  rw [Finset.sum_range]
  refine Finset.sum_congr rfl fun x _ => ?_
  unfold term
  rw [dif_pos (show 512 * j + x.val < 5632 by omega)]

end

/-! ## The arrays the call is given -/

variable (m : (ℓ : Loc nD τ sig) → Buf (Elt Ideal) ℓ)

theorem V_g (c : Dev nD) (l : Fin 2048) :
    (V m c main_v2 : S1x2048.Idx → EReal) (ix2 (0 : Fin 1) l) = m ((c : Thread nD τ).loc main_arg1) (ix2 (0 : Fin 1) l) := by
  unfold_abbrev_sides
  after_results
  pointwise

theorem V_gf (c : Dev nD) (l : Fin 2048) :
    (V m c main_v0 : S1x2048.Idx → EReal) (ix2 (0 : Fin 1) l) = m ((c : Thread nD τ).loc main_arg5) (ix1 l) := by
  unfold_abbrev_sides
  after_results
  pointwise

theorem V_wg (c : Dev nD) (a : Fin 2048) (b : Fin 5632) :
    (V m c main_v4 : S2048x5632.Idx → EReal) (ix2 a b) = m ((c : Thread nD τ).loc main_arg2) (ix3 (0 : Fin 1) a b) := by
  unfold_abbrev_sides
  after_results
  pointwise

theorem V_wu (c : Dev nD) (a : Fin 2048) (b : Fin 5632) :
    (V m c main_v6 : S2048x5632.Idx → EReal) (ix2 a b) = m ((c : Thread nD τ).loc main_arg3) (ix3 (0 : Fin 1) a b) := by
  unfold_abbrev_sides
  after_results
  pointwise

theorem V_wd (c : Dev nD) (a : Fin 5632) (b : Fin 2048) :
    (V m c main_v8 : S5632x2048.Idx → EReal) (ix2 a b) = m ((c : Thread nD τ).loc main_arg4) (ix3 (0 : Fin 1) a b) := by
  unfold_abbrev_sides
  after_results
  pointwise

theorem index_rows : ∀ t : Fin cfg0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0)
    ∧ (win0_6.index t 0 = t.val / 11 ∧ win0_6.index t 1 = 0) := by
  decide +kernel

theorem t_lt (t : Fin cfg0.N) : t.val < 352 := by have := t.isLt; have h : cfg0.N = 352 := N_0; omega

theorem blk0 (c : Dev nD) (t : Fin cfg0.N) (r : Fin 512) (l : Fin 2048) :
    iblk m c 0 t (ix2 r l) = m ((c : Thread nD τ).loc main_arg0) (ix2 (⟨512 * (t.val / 11) + r.val, by have := t_lt t; omega⟩ : Fin 16384) l) := by
  unfold iblk
  rw [View.read_apply]
  show V m c main_arg0 _ = _
  rw [V_main_arg0]
  congr 1
  obtain ⟨⟨h0, h1⟩, -⟩ := index_rows t
  refine idx2_ext _ _ _ ?_ ?_
  · show win0_0.index t 0 * 512 + 1 * r.val = 512 * (t.val / 11) + r.val; rw [h0]; omega
  · show win0_0.index t 1 * 2048 + 1 * l.val = l.val; rw [h1]; omega

theorem blk1 (c : Dev nD) (t : Fin cfg0.N) (l : Fin 2048) :
    iblk m c 1 t (ix2 (0 : Fin 1) l) = m ((c : Thread nD τ).loc main_arg1) (ix2 (0 : Fin 1) l) := by
  rw [← V_g m c l]
  unfold iblk
  rw [View.read_apply]
  show V m c main_v2 _ = _
  congr 1
  obtain ⟨-, ⟨h0, h1⟩, -⟩ := index_rows t
  refine idx2_ext _ _ _ ?_ ?_
  · show win0_1.index t 0 * 1 + 1 * 0 = 0; rw [h0]
  · show win0_1.index t 1 * 2048 + 1 * l.val = l.val; rw [h1]; omega

theorem blk5 (c : Dev nD) (t : Fin cfg0.N) (l : Fin 2048) :
    iblk m c 5 t (ix2 (0 : Fin 1) l) = m ((c : Thread nD τ).loc main_arg5) (ix1 l) := by
  rw [← V_gf m c l]
  unfold iblk
  rw [View.read_apply]
  show V m c main_v0 _ = _
  congr 1
  obtain ⟨-, -, -, -, -, ⟨h0, h1⟩, -⟩ := index_rows t
  refine idx2_ext _ _ _ ?_ ?_
  · show win0_5.index t 0 * 1 + 1 * 0 = 0; rw [h0]
  · show win0_5.index t 1 * 2048 + 1 * l.val = l.val; rw [h1]; omega

theorem blk2 (c : Dev nD) (t : Fin cfg0.N) (a : Fin 2048) (b : Fin 512) :
    iblk m c 2 t (ix2 a b) = m ((c : Thread nD τ).loc main_arg2) (ix3 (0 : Fin 1) a (⟨512 * (t.val % 11) + b.val, by omega⟩ : Fin 5632)) := by
  rw [← V_wg m c]
  unfold iblk
  rw [View.read_apply]
  show V m c main_v4 _ = _
  congr 1
  obtain ⟨-, -, ⟨h0, h1⟩, -⟩ := index_rows t
  refine idx2_ext _ _ _ ?_ ?_
  · show win0_2.index t 0 * 2048 + 1 * a.val = a.val; rw [h0]; omega
  · show win0_2.index t 1 * 512 + 1 * b.val = 512 * (t.val % 11) + b.val; rw [h1]; omega

theorem blk3 (c : Dev nD) (t : Fin cfg0.N) (a : Fin 2048) (b : Fin 512) :
    iblk m c 3 t (ix2 a b) = m ((c : Thread nD τ).loc main_arg3) (ix3 (0 : Fin 1) a (⟨512 * (t.val % 11) + b.val, by omega⟩ : Fin 5632)) := by
  rw [← V_wu m c]
  unfold iblk
  rw [View.read_apply]
  show V m c main_v6 _ = _
  congr 1
  obtain ⟨-, -, -, ⟨h0, h1⟩, -⟩ := index_rows t
  refine idx2_ext _ _ _ ?_ ?_
  · show win0_3.index t 0 * 2048 + 1 * a.val = a.val; rw [h0]; omega
  · show win0_3.index t 1 * 512 + 1 * b.val = 512 * (t.val % 11) + b.val; rw [h1]; omega

theorem blk4 (c : Dev nD) (t : Fin cfg0.N) (a : Fin 512) (b : Fin 2048) :
    iblk m c 4 t (ix2 a b) = m ((c : Thread nD τ).loc main_arg4) (ix3 (0 : Fin 1) (⟨512 * (t.val % 11) + a.val, by omega⟩ : Fin 5632) b) := by
  rw [← V_wd m c]
  unfold iblk
  rw [View.read_apply]
  show V m c main_v8 _ = _
  congr 1
  obtain ⟨-, -, -, -, ⟨h0, h1⟩, -⟩ := index_rows t
  refine idx2_ext _ _ _ ?_ ?_
  · show win0_4.index t 0 * 512 + 1 * a.val = 512 * (t.val % 11) + a.val; rw [h0]; omega
  · show win0_4.index t 1 * 2048 + 1 * b.val = b.val; rw [h1]; omega

/-! ## What the carried scratch holds after each point -/

/-- The normed row and the partial sum, over the arguments. -/
def H (c : Dev nD) : Fin 16384 → Fin 2048 → EReal := hrow (m ((c : Thread nD τ).loc main_arg0)) (m ((c : Thread nD τ).loc main_arg1))

def P (c : Dev nD) : Fin 16384 → Fin 2048 → ℕ → EReal :=
  part (m ((c : Thread nD τ).loc main_arg0)) (m ((c : Thread nD τ).loc main_arg1)) (m ((c : Thread nD τ).loc main_arg2)) (m ((c : Thread nD τ).loc main_arg3)) (m ((c : Thread nD τ).loc main_arg4))

def G (c : Dev nD) : Buf (Elt Ideal) ((c : Thread nD τ).loc main_v9) :=
  spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The row of the arrays that row `r` of point `n`'s tile is. -/
def rowOf (n : ℕ) (hn : n < cfg0.N) (r : Fin 512) : Fin 16384 := ⟨512 * (n / 11) + r.val, by have := t_lt ⟨n, hn⟩; have : n < 352 := this; omega⟩

/-- The first point of a row tile leaves the normed rows. -/
theorem start_h (c : Dev nD) (t : Fin cfg0.N) (r : Fin 512) (l : Fin 2048) :
    k0_pay1 (F := Ideal) (iblk m c 0 t) (iblk m c 1 t) (ix2 r l) = H m c (rowOf t.val t.isLt r) l := by
  rw [pay1_at]
  unfold H hrow
  congr 1
  · funext l; exact blk0 m c t r l
  · funext l; exact blk1 m c t l

theorem step (c : Dev nD) (t : Fin cfg0.N) (h : Vec Ideal S512x2048 .bf16) (a : Vec Ideal S512x2048 .f32) (r : Fin 512) (l : Fin 2048)
    (eh : ∀ k, h (ix2 r k) = H m c (rowOf t.val t.isLt r) k) (ea : a (ix2 r l) = P m c (rowOf t.val t.isLt r) l (512 * (t.val % 11))) :
    k0_pay3 (F := Ideal) h (iblk m c 2 t) (iblk m c 3 t) a (iblk m c 4 t) (ix2 r l) = P m c (rowOf t.val t.isLt r) l (512 * (t.val % 11 + 1)) :=
  pay3_step _ _ _ _ _ h _ _ a _ r l _ _ (Nat.mod_lt _ (by decide)) eh (fun k x => blk2 m c t k x) (fun k x => blk3 m c t k x) (fun x l => blk4 m c t x l) ea

theorem carried (c : Dev nD) : ∀ (n : ℕ) (hn : n < cfg0.N) (r : Fin 512),
    (∀ l, (outsAt0 m c n hn).2.1 (ix2 r l) = H m c (rowOf n hn r) l) ∧
    (∀ l, (outsAt0 m c n hn).2.2 (ix2 r l) = P m c (rowOf n hn r) l (512 * (n % 11 + 1))) := by
  intro n
  induction n using Nat.strong_induction_on with
  | _ n ih =>
  intro hn r
  by_cases h0 : n % 11 = 0
  · rw [outsAt0_A m c ⟨n, hn⟩ h0 (by dsimp only; omega)]
    dsimp only
    rw [soutA0, soutA1]
    refine ⟨fun l => start_h m c ⟨n, hn⟩ r l, fun l => step m c ⟨n, hn⟩ _ _ r l (fun k => start_h m c ⟨n, hn⟩ r k) ?_⟩
    rw [pay2_eq]
    show iblk m c 0 ⟨n, hn⟩ (ix2 r l) = P m c _ l (512 * (n % 11))
    rw [h0]
    unfold P part
    rw [show 512 * 0 = 0 from rfl, Finset.sum_range_zero, add_zero]
    exact blk0 m c ⟨n, hn⟩ r l
  · have hp : n - 1 < cfg0.N := by omega
    obtain ⟨i1, i2⟩ := ih (n - 1) (by omega) hp r
    have er : rowOf (n - 1) hp r = rowOf n hn r := Fin.ext (by show 512 * ((n - 1) / 11) + r.val = 512 * (n / 11) + r.val; omega)
    have em : (n - 1) % 11 + 1 = n % 11 := by omega
    rw [er] at i1 i2
    rw [em] at i2
    by_cases h1 : n % 11 = 10
    · rw [outsAt0_C m c ⟨n, hn⟩ h0 h1]
      dsimp only
      rw [soutC1]
      exact ⟨i1, fun l => step m c ⟨n, hn⟩ _ _ r l i1 (i2 l)⟩
    · rw [outsAt0_B m c ⟨n, hn⟩ h0 h1]
      dsimp only
      rw [soutB1]
      exact ⟨i1, fun l => step m c ⟨n, hn⟩ _ _ r l i1 (i2 l)⟩

/-- The last point of a row tile leaves the tile's rows of the result. -/
theorem out_at (c : Dev nD) (t : Fin cfg0.N) (h1 : t.val % 11 = 10) (r : Fin 512) (l : Fin 2048) :
    (outsAt0 m c t.val t.isLt).1 (ix2 r l) = G m c (ix2 (rowOf t.val t.isLt r) l) := by
  have h0 : ¬t.val % 11 = 0 := by omega
  have hc := (carried m c t.val t.isLt r).2
  rw [outsAt0_C m c t h0 h1] at hc ⊢
  dsimp only at hc ⊢
  rw [soutC1] at hc
  rw [outC6, pay4_at]
  have e1 : (fun l => k0_pay3 (F := Ideal) (outsAt0 m c (t.val - 1) (Nat.lt_of_le_of_lt (Nat.sub_le _ _) t.isLt)).2.1 (iblk m c 2 t) (iblk m c 3 t)
      (outsAt0 m c (t.val - 1) (Nat.lt_of_le_of_lt (Nat.sub_le _ _) t.isLt)).2.2 (iblk m c 4 t) (ix2 r l)) = fun l => P m c (rowOf t.val t.isLt r) l 5632 := by
    funext l
    rw [hc l, h1]
  have e2 : (fun l => iblk m c 5 t (ix2 (0 : Fin 1) l)) = fun l => m ((c : Thread nD τ).loc main_arg5) (ix1 l) := funext fun l => blk5 m c t l
  exact congrArg₂ (fun a b => rms a b l) e1 e2

theorem flushed_eq (c : Dev nD) (t : Fin cfg0.N) (hf : (cfg0.win 6).flush t = true) :
    (dats m 0 c).flushed 6 t = ((cfg0.win 6).blk t).view.read (Elt Ideal) (G m c) := by
  have h1 := (flush0_6 t).mp hf
  rw [Value.flushed6]
  funext y
  rw [View.read_apply]
  obtain ⟨-, -, -, -, -, -, ⟨e0, e1⟩⟩ := index_rows t
  have e : ((cfg0.win 6).blk t).view.emb y = ix2 (rowOf t.val t.isLt (y 0)) (y 1) := by
    refine idx2_ext _ _ _ ?_ ?_
    · show win0_6.index t 0 * 512 + 1 * (y 0).val = 512 * (t.val / 11) + (y 0).val; rw [e0]; omega
    · show win0_6.index t 1 * 2048 + 1 * (y 1).val = (y 1).val; rw [e1]; omega
  rw [e]
  refine Eq.trans ?_ (out_at m c t h1 (y 0) (y 1))
  show (outsAt0 m c t.val t.isLt).1 _ = _
  exact congrArg (outsAt0 m c t.val t.isLt).1 (idx2_ext (n := 512) (m := 2048) y (y 0) (y 1) rfl rfl)

/-- The row tiles' last blocks tile the result, so the array ends holding `G`. -/
theorem final_o (c : Dev nD) : (dats m 0 c).arrAt 6 cfg0.N = G m c :=
  (dats m 0 c).arrAt_eq_of_cover 6 (G m c) (fun t hf => flushed_eq m c t hf) fun i => by
    have h0 : (i 0 : Nat) < 16384 := (i 0).isLt
    have h1 : (i 1 : Nat) < 2048 := (i 1).isLt
    let t : Fin cfg0.N := ⟨11 * ((i 0 : Nat) / 512) + 10, by rw [show cfg0.N = 352 from N_0]; omega⟩
    have hv : t.val = 11 * ((i 0 : Nat) / 512) + 10 := rfl
    obtain ⟨-, -, -, -, -, -, ⟨e0, e1⟩⟩ := index_rows t
    refine ⟨t, (flush0_6 t).mpr (by omega), ?_⟩
    show i ∈ ((View.whole main_v9).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [e0]; omega
    | ⟨1, _⟩ =>
      show win0_6.index t 1 * 2048 ≤ (i 1 : Nat) ∧ (i 1 : Nat) < win0_6.index t 1 * 2048 + 2048
      rw [e1]; omega

end Cert.FfnIdeal.Closed

/-! ## The reference -/

namespace Cert.FfnRefIdeal.Closed

open Cert.FfnRefIdeal Cert.FfnRefIdeal.Gen Cert.FfnRefIdeal.Read Idealize.ShloMosaic Idealize.ShloMosaic.TcCoe Idealize.SL.Sem
open Idealize.ShloMosaic (Ideal ix1 ix2 ix3)
open Cert.Spec (rms)

variable (x0 : S16384x2048.Idx → EReal) (x1 : S1x2048.Idx → EReal) (x2 x3 : S1x2048x5632.Idx → EReal) (x4 : S1x5632x2048.Idx → EReal) (x5 : S2048.Idx → EReal)

theorem h_at (r : Fin 16384) (l : Fin 2048) :
    val_main_v13 (F := Ideal) x0 x1 (ix2 r l) = Cert.FfnIdeal.Closed.hrow x0 x1 r l := by
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, Cert.FfnIdeal.Closed.hrow, rms]

theorem act_at (r : Fin 16384) (n : Fin 5632) :
    val_main_v19 (F := Ideal) x0 x1 x2 x3 (ix2 r n)
      = Cert.FfnIdeal.Closed.act (Cert.FfnIdeal.Closed.hrow x0 x1 r) (fun k => x2 (ix3 (0 : Fin 1) k n)) (fun k => x3 (ix3 (0 : Fin 1) k n)) := by
  unfold Cert.FfnIdeal.Closed.act
  simp only [← h_at]
  unfold val_main_v19 val_main_v18 val_main_v16 val_main_call0_v5 val_main_call0_v3 val_main_call0_v1 val_main_call0_v0 val_main_v15
  generalize val_main_v13 (F := Ideal) x0 x1 = h
  pointwise [val_main_v14, val_main_v17, val_main_call0_v4, val_main_call0_v2, val_main_call0_cst, val_main_call0_cst_0]
  rfl

theorem y_at (r : Fin 16384) (l : Fin 2048) :
    val_main_v22 (F := Ideal) x0 x1 x2 x3 x4 (ix2 r l) = Cert.FfnIdeal.Closed.part x0 x1 x2 x3 x4 r l 5632 := by
  unfold Cert.FfnIdeal.Closed.part
  rw [Finset.sum_range]
  have e : ∀ n : Fin 5632, Cert.FfnIdeal.Closed.term x0 x1 x2 x3 x4 r l n.val = val_main_v19 (F := Ideal) x0 x1 x2 x3 (ix2 r n) * x4 (ix3 (0 : Fin 1) n l) := fun n => by
    rw [act_at]
    unfold Cert.FfnIdeal.Closed.term
    rw [dif_pos n.isLt]
  simp only [e]
  unfold val_main_v22 val_main_v21
  generalize val_main_v19 (F := Ideal) x0 x1 x2 x3 = h
  pointwise [val_main_v20]

theorem val_eq (i : S16384x2048.Idx) :
    val_main_v35 (F := Ideal) x0 x1 x2 x3 x4 x5 i = Cert.FfnIdeal.Closed.spec x0 x1 x2 x3 x4 x5 i := by
  obtain ⟨r, l, rfl⟩ : ∃ r l, i = ix2 r l := ⟨i 0, i 1, eq_ix2 i⟩
  show _ = rms (fun l => Cert.FfnIdeal.Closed.part x0 x1 x2 x3 x4 r l 5632) (fun l => x5 (ix1 l)) l
  simp only [← y_at]
  unfold val_main_v35 val_main_v32 val_main_v31 val_main_v30 val_main_v29 val_main_v27 val_main_v25 val_main_v24 val_main_v23
  generalize val_main_v22 (F := Ideal) x0 x1 x2 x3 x4 = y
  pointwise [val_main_v34, val_main_v33, val_main_v28, val_main_v26, val_main_cst_2, val_main_cst_3, val_main_cst_4, rms]

end Cert.FfnRefIdeal.Closed

namespace Cert.Proof

open Idealize.ShloMosaic Idealize.ShloMosaic.TcCoe Idealize.SL.Sem

/-- The feed-forward call's two programs compute one function of the arguments. -/
theorem ffn_algebraic [Cert.FfnIdeal.Facts] [Cert.FfnRefIdeal.Facts] : Cert.algebraic_FfnIdeal_FfnRefIdeal := by
  intro m g m' g' _ hag
  refine ⟨fun c => Cert.FfnIdeal.Closed.G m c, ?_, ?_⟩
  · exact (θ_run _ _ _).mono (fun r h c => ⟨(h c).1.trans (Cert.FfnIdeal.Closed.final_o m c), (h c).2⟩) (Cert.FfnIdeal.Value.run_blocks m g)
  · refine (θ_run _ _ _).mono (fun r h c => ⟨(h c).1.trans ?_, (h c).2⟩) (Cert.FfnRefIdeal.Value.run m' g')
    obtain ⟨e0, e1, e2, e3, e4, e5⟩ := hag c
    rw [Cert.FfnRefIdeal.Read.val_main_v35_eq, e0, e1, e2, e3, e4, e5]
    funext i
    exact Cert.FfnRefIdeal.Closed.val_eq _ _ _ _ _ _ i

end Cert.Proof

end
-- ==== Proof.OutValue.lean ====
/-
  The output projection: what the kernel's result array holds, element by element.
  Point `t` of the grid handles rows `512 t … 512 t + 511`; it writes its 2048 columns in four pieces of 512,
  each `x + (a · w[0:1024] + p · w[1024:2048])`.
-/
module

public import proofs.«01_k».proof.Proof.Gen.OutIdeal.Value
public import proofs.«01_k».proof.Proof.Gen.OutRefIdeal.Read
public import Idealize.ShloMosaic.Lib.Pointwise
public import proofs.«01_k».proof.Defs

@[expose] public section

noncomputable section

namespace Cert.OutIdeal.Closed

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The projected element: the residual plus the two half contractions. -/
def blockG (x0 : Vec Ideal S512x2048 .f32) (x1 x2 : Vec Ideal S512x1024 .bf16) (x3 : Vec Ideal S2048x2048 .bf16) :
    Vec Ideal S512x2048 .f32 := fun j =>
  x0 j + ((∑ k : Fin 1024, x1 (ix2 (j 0) k) * x3 (ix2 ⟨k.val, by omega⟩ (j 1)))
    + ∑ k : Fin 1024, x2 (ix2 (j 0) k) * x3 (ix2 ⟨1024 + k.val, by omega⟩ (j 1)))

/-- A coordinate pair names the index. -/
theorem idx2_eq {n0 n1 : Nat} (y : (⟨2, ![n0, n1]⟩ : Shape).Idx) (a : Fin n0) (b : Fin n1) (h0 : (y 0).val = a.val) (h1 : (y 1).val = b.val) :
    y = ix2 a b := by
  funext d
  match d with
  | ⟨0, _⟩ => exact Fin.ext h0
  | ⟨1, _⟩ => exact Fin.ext h1

/-- The body's four stores hold the pieces of `blockG`. -/
theorem out0_4_eq (x0 : Vec Ideal S512x2048 .f32) (x1 x2 : Vec Ideal S512x1024 .bf16) (x3 : Vec Ideal S2048x2048 .bf16) :
    out0_4 (F := Ideal) x0 x1 x2 x3 = blockG x0 x1 x2 x3 := by
  funext y
  unfold out0_4
  refine View.canon_apply_of_pieces (blockG x0 x1 x2 x3) _ ?_ y (cover0_4 _ _ _ _ y)
  intro p hp
  simp only [List.mem_cons, List.not_mem_nil, or_false] at hp
  rcases hp with rfl | rfl | rfl | rfl
  · intro x
    have e : r0_12.emb x = ix2 (x 0) ⟨1536 + (x 1).val, by have := (x 1).isLt; change (x 1).val < 512 at this; omega⟩ :=
      idx2_eq _ _ _ (by rw [Rect.emb_apply]; show 0 + 1 * (x 0).val = _; simp) (by rw [Rect.emb_apply]; show 1536 + 1 * (x 1).val = _; simp)
    show _ = blockG x0 x1 x2 x3 (r0_12.emb x)
    rw [e]
    pointwise [k0_pay2, blockG]
  · intro x
    have e : r0_9.emb x = ix2 (x 0) ⟨1024 + (x 1).val, by have := (x 1).isLt; change (x 1).val < 512 at this; omega⟩ :=
      idx2_eq _ _ _ (by rw [Rect.emb_apply]; show 0 + 1 * (x 0).val = _; simp) (by rw [Rect.emb_apply]; show 1024 + 1 * (x 1).val = _; simp)
    show _ = blockG x0 x1 x2 x3 (r0_9.emb x)
    rw [e]
    pointwise [k0_pay1, k0_pay5, k0_pay6, blockG]
  · intro x
    have e : r0_6.emb x = ix2 (x 0) ⟨512 + (x 1).val, by have := (x 1).isLt; change (x 1).val < 512 at this; omega⟩ :=
      idx2_eq _ _ _ (by rw [Rect.emb_apply]; show 0 + 1 * (x 0).val = _; simp) (by rw [Rect.emb_apply]; show 512 + 1 * (x 1).val = _; simp)
    show _ = blockG x0 x1 x2 x3 (r0_6.emb x)
    rw [e]
    pointwise [k0_pay4, blockG]
  · intro x
    have e : r0_3.emb x = ix2 (x 0) ⟨(x 1).val, by have := (x 1).isLt; change (x 1).val < 512 at this; omega⟩ :=
      idx2_eq _ _ _ (by rw [Rect.emb_apply]; show 0 + 1 * (x 0).val = _; simp) (by rw [Rect.emb_apply]; show 0 + 1 * (x 1).val = _; simp)
    show _ = blockG x0 x1 x2 x3 (r0_3.emb x)
    rw [e]
    pointwise [k0_pay3, blockG]

/-- The weight array the call is given: the argument's one matrix. -/
theorem V_w (c : Dev nD) (a b : Fin 2048) :
    (V m c main_v1 : S2048x2048.Idx → EReal) (ix2 a b) = m ((c : Thread nD τ).loc main_arg3) (ix3 (0 : Fin 1) a b) := by
  unfold_abbrev_sides
  after_results
  pointwise

/-- The layer's output projection: the residual plus the two half contractions, over plain arrays. -/
def spec (x0 : S16384x2048.Idx → EReal) (x1 x2 : S16384x1024.Idx → EReal) (x3 : S1x2048x2048.Idx → EReal) (i : S16384x2048.Idx) : EReal :=
  x0 i + ((∑ k : Fin 1024, x1 (ix2 (i 0) k) * x3 (ix3 (0 : Fin 1) (⟨k.val, by omega⟩ : Fin 2048) (i 1)))
    + ∑ k : Fin 1024, x2 (ix2 (i 0) k) * x3 (ix3 (0 : Fin 1) (⟨1024 + k.val, by omega⟩ : Fin 2048) (i 1)))

/-- The whole result, over the arguments. -/
def G (c : Dev nD) : Buf (Elt Ideal) ((c : Thread nD τ).loc main_v2) :=
  spec (m ((c : Thread nD τ).loc main_arg0)) (m ((c : Thread nD τ).loc main_arg1)) (m ((c : Thread nD τ).loc main_arg2)) (m ((c : Thread nD τ).loc main_arg3))

theorem index_rows : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = t.val ∧ win0_4.index t 1 = 0 := by
  decide +kernel

theorem t_lt (t : Fin cfg0.N) : t.val < 32 := by have := t.isLt; have h : cfg0.N = 32 := N_0; omega

/-- Row `r` of the residual's block at point `t`. -/
theorem blk0 (c : Dev nD) (t : Fin cfg0.N) (r : Fin 512) (l : Fin 2048) :
    iblk m c 0 t (ix2 r l) = m ((c : Thread nD τ).loc main_arg0) (ix2 (⟨512 * t.val + r.val, by have := t_lt t; omega⟩ : Fin 16384) l) := by
  unfold iblk
  rw [View.read_apply]
  show V m c main_arg0 _ = _
  rw [V_main_arg0]
  congr 1
  obtain ⟨h0, h1, -⟩ := index_rows t
  refine idx2_eq _ _ _ ?_ ?_
  · show win0_0.index t 0 * 512 + 1 * r.val = 512 * t.val + r.val; rw [h0]; omega
  · show win0_0.index t 1 * 2048 + 1 * l.val = l.val; rw [h1]; omega

theorem blk1 (c : Dev nD) (t : Fin cfg0.N) (r : Fin 512) (l : Fin 1024) :
    iblk m c 1 t (ix2 r l) = m ((c : Thread nD τ).loc main_arg1) (ix2 (⟨512 * t.val + r.val, by have := t_lt t; omega⟩ : Fin 16384) l) := by
  unfold iblk
  rw [View.read_apply]
  show V m c main_arg1 _ = _
  rw [V_main_arg1]
  congr 1
  obtain ⟨-, -, h0, h1, -⟩ := index_rows t
  refine idx2_eq _ _ _ ?_ ?_
  · show win0_1.index t 0 * 512 + 1 * r.val = 512 * t.val + r.val; rw [h0]; omega
  · show win0_1.index t 1 * 1024 + 1 * l.val = l.val; rw [h1]; omega

theorem blk2 (c : Dev nD) (t : Fin cfg0.N) (r : Fin 512) (l : Fin 1024) :
    iblk m c 2 t (ix2 r l) = m ((c : Thread nD τ).loc main_arg2) (ix2 (⟨512 * t.val + r.val, by have := t_lt t; omega⟩ : Fin 16384) l) := by
  unfold iblk
  rw [View.read_apply]
  show V m c main_arg2 _ = _
  rw [V_main_arg2]
  congr 1
  obtain ⟨-, -, -, -, h0, h1, -⟩ := index_rows t
  refine idx2_eq _ _ _ ?_ ?_
  · show win0_2.index t 0 * 512 + 1 * r.val = 512 * t.val + r.val; rw [h0]; omega
  · show win0_2.index t 1 * 1024 + 1 * l.val = l.val; rw [h1]; omega

theorem blk3 (c : Dev nD) (t : Fin cfg0.N) (a b : Fin 2048) :
    iblk m c 3 t (ix2 a b) = m ((c : Thread nD τ).loc main_arg3) (ix3 (0 : Fin 1) a b) := by
  rw [← V_w m c a b]
  unfold iblk
  rw [View.read_apply]
  show V m c main_v1 _ = _
  congr 1
  obtain ⟨-, -, -, -, -, -, h0, h1, -⟩ := index_rows t
  refine idx2_eq _ _ _ ?_ ?_
  · show win0_3.index t 0 * 2048 + 1 * a.val = a.val; rw [h0]; omega
  · show win0_3.index t 1 * 2048 + 1 * b.val = b.val; rw [h1]; omega

/-- A block whose rows are rows of the arrays is a block of the layer's projection. -/
theorem blockG_rows (x0 : S512x2048.Idx → EReal) (x1 x2 : S512x1024.Idx → EReal) (x3 : S2048x2048.Idx → EReal)
    (X0 : S16384x2048.Idx → EReal) (X1 X2 : S16384x1024.Idx → EReal) (X3 : S1x2048x2048.Idx → EReal)
    (r : Fin 512) (R : Fin 16384) (l : Fin 2048) (h0 : ∀ l, x0 (ix2 r l) = X0 (ix2 R l)) (h1 : ∀ l, x1 (ix2 r l) = X1 (ix2 R l))
    (h2 : ∀ l, x2 (ix2 r l) = X2 (ix2 R l)) (h3 : ∀ a b, x3 (ix2 a b) = X3 (ix3 (0 : Fin 1) a b)) :
    blockG x0 x1 x2 x3 (ix2 r l) = spec X0 X1 X2 X3 (ix2 R l) := by
  show x0 (ix2 r l) + ((∑ k : Fin 1024, x1 (ix2 r k) * x3 (ix2 (⟨k.val, by omega⟩ : Fin 2048) l)) + ∑ k : Fin 1024, x2 (ix2 r k) * x3 (ix2 (⟨1024 + k.val, by omega⟩ : Fin 2048) l)) = _
  simp only [h0, h1, h2, h3]
  rfl

/-- The block's function at point `t`, over the arguments. -/
theorem block_at (c : Dev nD) (t : Fin cfg0.N) (r : Fin 512) (l : Fin 2048) :
    blockG (iblk m c 0 t) (iblk m c 1 t) (iblk m c 2 t) (iblk m c 3 t) (ix2 r l)
      = G m c (ix2 (⟨512 * t.val + r.val, by have := t_lt t; omega⟩ : Fin 16384) l) := by
  exact blockG_rows _ _ _ _ _ _ _ _ r _ l (fun l => blk0 m c t r l) (fun l => blk1 m c t r l) (fun l => blk2 m c t r l) (fun a b => blk3 m c t a b)

/-- What point `t` writes back is its block of `G`. -/
theorem flushed_eq (c : Dev nD) (t : Fin cfg0.N) :
    (dats m 0 c).flushed 4 t = ((cfg0.win 4).blk t).view.read (Elt Ideal) (G m c) := by
  rw [Value.flushed4, out0_4_eq]
  funext y
  rw [View.read_apply]
  obtain ⟨-, -, -, -, -, -, -, -, h0, h1⟩ := index_rows t
  have e : ((cfg0.win 4).blk t).view.emb y = ix2 (⟨512 * t.val + (y 0).val, by have := t_lt t; have := (y 0).isLt; change (y 0).val < 512 at this; omega⟩ : Fin 16384) (y 1) := by
    refine idx2_eq _ _ _ ?_ ?_
    · show win0_4.index t 0 * 512 + 1 * (y 0).val = 512 * t.val + (y 0).val; rw [h0]; omega
    · show win0_4.index t 1 * 2048 + 1 * (y 1).val = (y 1).val; rw [h1]; omega
  rw [e]
  conv_lhs => rw [show y = ix2 (y 0) (y 1) from eq_ix2 y]
  exact block_at m c t (y 0) (y 1)

/-- The grid's blocks tile the result, so the array ends holding `G`. -/
theorem final_o (c : Dev nD) : (dats m 0 c).arrAt 4 cfg0.N = G m c :=
  (dats m 0 c).arrAt_eq_of_cover 4 (G m c) (fun t _ => flushed_eq m c t) fun i => by
    have h0 : (i 0 : Nat) < 16384 := (i 0).isLt
    have h1 : (i 1 : Nat) < 2048 := (i 1).isLt
    let t : Fin cfg0.N := ⟨(i 0 : Nat) / 512, by rw [show cfg0.N = 32 from N_0]; omega⟩
    obtain ⟨-, -, -, -, -, -, -, -, e0, e1⟩ := index_rows t
    refine ⟨t, flush0_4 t, ?_⟩
    show i ∈ ((View.whole main_v2).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [e0]; show (i 0 : Nat) / 512 * 512 ≤ _ ∧ _ < (i 0 : Nat) / 512 * 512 + 512; omega
    | ⟨1, _⟩ =>
      show win0_4.index t 1 * 2048 ≤ (i 1 : Nat) ∧ (i 1 : Nat) < win0_4.index t 1 * 2048 + 2048
      rw [e1]; omega

end Cert.OutIdeal.Closed

namespace Cert.OutRefIdeal.Closed

open Cert.OutRefIdeal Cert.OutRefIdeal.Gen Cert.OutRefIdeal.Read Idealize.ShloMosaic Idealize.ShloMosaic.TcCoe Idealize.SL.Sem

/-- A sum over 2048 terms as its two halves. -/
theorem sum_split (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The reference's element: the residual plus the contraction of the joined row. -/
theorem val_eq (x0 : (⟨S16384x2048, .f32⟩ : BufTy).Contents (Elt Ideal)) (x1 x2 : (⟨S16384x1024, .bf16⟩ : BufTy).Contents (Elt Ideal))
    (x3 : (⟨S1x2048x2048, .f32⟩ : BufTy).Contents (Elt Ideal)) (i : S16384x2048.Idx) :
    val_main_v5 (F := Ideal) x0 x1 x2 x3 i = Cert.OutIdeal.Closed.spec x0 x1 x2 x3 i := by
  rw [val_main_v5_apply, val_main_v4_apply, sum_split]
  pointwise [val_main_v2, val_main_v1, val_main_v0, val_main_v3, Cert.OutIdeal.Closed.spec]
  rfl

end Cert.OutRefIdeal.Closed

namespace Cert.Proof

open Idealize.ShloMosaic Idealize.ShloMosaic.TcCoe Idealize.SL.Sem

/-- The output projection's two programs compute one function of the arguments. -/
theorem out_algebraic [Cert.OutIdeal.Facts] [Cert.OutRefIdeal.Facts] : Cert.algebraic_OutIdeal_OutRefIdeal := by
  intro m g m' g' _ hag
  refine ⟨fun c => Cert.OutIdeal.Closed.G m c, ?_, ?_⟩
  · exact (θ_run _ _ _).mono (fun r h c => ⟨(h c).1.trans (Cert.OutIdeal.Closed.final_o m c), (h c).2⟩) (Cert.OutIdeal.Value.run_blocks m g)
  · refine (θ_run _ _ _).mono (fun r h c => ⟨(h c).1.trans ?_, (h c).2⟩) (Cert.OutRefIdeal.Value.run m' g')
    obtain ⟨e0, e1, e2, e3⟩ := hag c
    rw [e0, e1, e2, e3]
    funext i
    exact Cert.OutRefIdeal.Closed.val_eq _ _ _ _ i

end Cert.Proof

end
-- ==== Proof.FfnSampleBody.lean ====
module

public import proofs.«01_k».proof.Proof.Gen.FfnSampleIdeal.Value
public import proofs.«01_k».proof.Proof.Rms

@[expose] public section

set_option maxRecDepth 16384

noncomputable section

/-! The feed-forward call at the samples' shapes, body by body: what each of the three cases leaves in the two carried scratch buffers and in the output, as the payloads of the values read. -/

namespace Cert.FfnSampleIdeal.Closed

open Cert.FfnSampleIdeal Cert.FfnSampleIdeal.Gen Idealize.ShloMosaic Idealize.ShloMosaic.TcCoe Idealize.SL.Sem
open Cert.Spec (hz)

variable (c : Dev nD) (i : grid0.Coords) (a2 : Memref sig .tc .vmem S128x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S1x2048 .f32) (h7 : a7.IsWhole) (a8 : Memref sig .tc .vmem S128x2048 .f32) (h8 : a8.IsWhole) (a9 : Memref sig .tc .vmem S128x2048 .bf16) (h9 : a9.IsWhole) (a10 : Memref sig .tc .vmem S128x2048 .f32) (h10 : a10.IsWhole)
variable (x0 : Vec Ideal S128x2048 .f32) (x1 : Vec Ideal S1x2048 .f32) (x2 x3 : Vec Ideal S2048x512 .bf16) (x4 : Vec Ideal S512x2048 .bf16) (x5 : Vec Ideal S1x2048 .f32)
variable (s0 : Vec Ideal S128x2048 .bf16) (s1 : Vec Ideal S128x2048 .f32)

theorem soutA0 (hc0 : cond0_0 i) (hc1 : ¬cond0_1 i) :
    sout0_A_0 c i a2 h2 a3 h3 a4 h4 a5 h5 a6 h6 a7 h7 a8 h8 a9 h9 a10 h10 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero (S := S128x2048) hz]
  simp only [View.readAt_eq_ld, h2.read_unread, h3.read_unread, View.ld_unit_zero (S := S128x2048) hz, View.ld_unit_zero (S := S1x2048) hz, shapeCast_self]

theorem soutA1 (hc0 : cond0_0 i) (hc1 : ¬cond0_1 i) :
    sout0_A_1 c i a2 h2 a3 h3 a4 h4 a5 h5 a6 h6 a7 h7 a8 h8 a9 h9 a10 h10 hc0 hc1 x0 x1 x2 x3 x4 x5 = k0_pay3 (k0_pay1 x0 x1) x2 x3 (k0_pay2 x0) x4 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S128x2048) hz]
  simp only [View.readCov_unit_zero (S := S128x2048) _ hz, View.readAt_eq_ld, h2.read_unread, h3.read_unread, h4.read_unread, h5.read_unread, h6.read_unread,
    View.ld_unit_zero (S := S128x2048) hz, View.ld_unit_zero (S := S1x2048) hz, View.ld_unit_zero (S := S2048x512) hz, View.ld_unit_zero (S := S512x2048) hz, shapeCast_self]

theorem soutB1 (hc0 : ¬cond0_0 i) (hc1 : ¬cond0_1 i) :
    sout0_B_1 c i a2 h2 a3 h3 a4 h4 a5 h5 a6 h6 a7 h7 a8 h8 a9 h9 a10 h10 hc0 hc1 x0 x1 x2 x3 x4 x5 s0 s1 = k0_pay3 s0 x2 x3 s1 x4 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 s0 s1)]
  unfold kernelRun0_B
  dsimp only
  sl_unfold_words
  rw [View.canon_unit_zero (S := S128x2048) hz]
  simp only [View.readAt_eq_ld, h9.read_unread, h10.read_unread, h4.read_unread, h5.read_unread, h6.read_unread,
    View.ld_unit_zero (S := S128x2048) hz, View.ld_unit_zero (S := S1x2048) hz, View.ld_unit_zero (S := S2048x512) hz, View.ld_unit_zero (S := S512x2048) hz, shapeCast_self]

theorem soutC1 (hc0 : ¬cond0_0 i) (hc1 : cond0_1 i) :
    sout0_C_1 c i a2 h2 a3 h3 a4 h4 a5 h5 a6 h6 a7 h7 a8 h8 a9 h9 a10 h10 hc0 hc1 x0 x1 x2 x3 x4 x5 s0 s1 = k0_pay3 s0 x2 x3 s1 x4 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 x5 s0 s1)]
  unfold kernelRun0_C
  dsimp only
  sl_unfold_words
  rw [View.canon_unit_zero (S := S128x2048) hz]
  simp only [View.readAt_eq_ld, h9.read_unread, h10.read_unread, h4.read_unread, h5.read_unread, h6.read_unread,
    View.ld_unit_zero (S := S128x2048) hz, View.ld_unit_zero (S := S1x2048) hz, View.ld_unit_zero (S := S2048x512) hz, View.ld_unit_zero (S := S512x2048) hz, shapeCast_self]

theorem outC6 (hc0 : ¬cond0_0 i) (hc1 : cond0_1 i) :
    out0_C_6 c i a2 h2 a3 h3 a4 h4 a5 h5 a6 h6 a7 h7 a8 h8 a9 h9 a10 h10 hc0 hc1 x0 x1 x2 x3 x4 x5 s0 s1 = k0_pay4 (k0_pay3 s0 x2 x3 s1 x4) x5 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 s0 s1)]
  unfold kernelRun0_C
  dsimp only
  sl_unfold_words
  rw [View.canon_unit_zero (S := S128x2048) hz]
  simp only [View.readCov_unit_zero (S := S128x2048) _ hz, View.readAt_eq_ld, h9.read_unread, h10.read_unread, h4.read_unread, h5.read_unread, h6.read_unread, h7.read_unread,
    View.ld_unit_zero (S := S128x2048) hz, View.ld_unit_zero (S := S1x2048) hz, View.ld_unit_zero (S := S2048x512) hz, View.ld_unit_zero (S := S512x2048) hz, shapeCast_self]

end Cert.FfnSampleIdeal.Closed

end
-- ==== Proof.FfnSampleValue.lean ====
module

public import proofs.«01_k».proof.Proof.FfnSampleBody
public import proofs.«01_k».proof.Proof.Gen.FfnSampleRefIdeal.Read
public import proofs.«01_k».proof.Proof.Gen.FfnSampleRefIdeal.Run
public import Idealize.ShloMosaic.Lib.Pointwise
public import proofs.«01_k».proof.Defs

@[expose] public section

set_option maxRecDepth 16384

noncomputable section

/-! The feed-forward call at the samples' shapes: the grid's eleven column steps accumulate one row's whole down projection. -/

namespace Cert.FfnSampleIdeal.Closed

open Cert.FfnSampleIdeal Cert.FfnSampleIdeal.Gen Idealize.ShloMosaic Idealize.ShloMosaic.TcCoe Idealize.SL.Sem
open Idealize.ShloMosaic (Ideal ix1 ix2 ix3)
open Cert.Spec (hz rms idx2_ext idx3_ext)

/-! ## The function, over plain arrays -/

/-- One hidden unit: its gate, the gate's logistic and its up projection, multiplied. -/
def act (h wg wu : Fin 2048 → EReal) : EReal :=
  (∑ k, h k * wg k) * Ideal.logistic (∑ k, h k * wg k) * ∑ k, h k * wu k

section
variable (X0 : S128x2048.Idx → EReal) (X1 : S1x2048.Idx → EReal) (X2 X3 : S1x2048x5632.Idx → EReal) (X4 : S1x5632x2048.Idx → EReal) (X5 : S2048.Idx → EReal)

/-- The normed row. -/
def hrow (R : Fin 128) : Fin 2048 → EReal := rms (fun l => X0 (ix2 R l)) (fun l => X1 (ix2 (0 : Fin 1) l))

/-- What hidden unit `n` adds to output column `l` of row `R`. -/
def term (R : Fin 128) (l : Fin 2048) (n : ℕ) : EReal :=
  if h : n < 5632 then act (hrow X0 X1 R) (fun k => X2 (ix3 (0 : Fin 1) k (⟨n, h⟩ : Fin 5632))) (fun k => X3 (ix3 (0 : Fin 1) k (⟨n, h⟩ : Fin 5632)))
    * X4 (ix3 (0 : Fin 1) (⟨n, h⟩ : Fin 5632) l) else 0

/-- The residual plus the first `n` hidden units. -/
def part (R : Fin 128) (l : Fin 2048) (n : ℕ) : EReal := X0 (ix2 R l) + ∑ i ∈ Finset.range n, term X0 X1 X2 X3 X4 R l i

/-- The whole call: the residual plus all hidden units, normed. -/
def spec (i : S128x2048.Idx) : EReal := rms (fun l => part X0 X1 X2 X3 X4 (i 0) l 5632) (fun l => X5 (ix1 l)) (i 1)

end

/-! ## The payloads at an index -/

theorem pay1_at (x0 : Vec Ideal S128x2048 .f32) (x1 : Vec Ideal S1x2048 .f32) (r : Fin 128) (l : Fin 2048) :
    k0_pay1 (F := Ideal) x0 x1 (ix2 r l) = rms (fun l => x0 (ix2 r l)) (fun l => x1 (ix2 (0 : Fin 1) l)) l := by
  pointwise [k0_pay1, rms]

theorem pay4_at (x0 : Vec Ideal S128x2048 .f32) (x1 : Vec Ideal S1x2048 .f32) (r : Fin 128) (l : Fin 2048) :
    k0_pay4 (F := Ideal) x0 x1 (ix2 r l) = rms (fun l => x0 (ix2 r l)) (fun l => x1 (ix2 (0 : Fin 1) l)) l := by
  pointwise [k0_pay4, rms]

theorem pay2_eq (x0 : Vec Ideal S128x2048 .f32) : k0_pay2 (F := Ideal) x0 = x0 := by
  unfold k0_pay2
  simp only [shapeCast_self]

theorem pay3_at (h : Vec Ideal S128x2048 .bf16) (wg wu : Vec Ideal S2048x512 .bf16) (a : Vec Ideal S128x2048 .f32) (wd : Vec Ideal S512x2048 .bf16) (r : Fin 128) (l : Fin 2048) :
    k0_pay3 (F := Ideal) h wg wu a wd (ix2 r l)
      = a (ix2 r l) + ∑ x : Fin 512, act (fun k => h (ix2 r k)) (fun k => wg (ix2 k x)) (fun k => wu (ix2 k x)) * wd (ix2 x l) := by
  pointwise [k0_pay3, act]

section
variable (X0 : S128x2048.Idx → EReal) (X1 : S1x2048.Idx → EReal) (X2 X3 : S1x2048x5632.Idx → EReal) (X4 : S1x5632x2048.Idx → EReal) (X5 : S2048.Idx → EReal)

/-- One column step takes the partial sum over `512 j` hidden units to the one over `512 (j + 1)`. -/
theorem pay3_step (h : Vec Ideal S128x2048 .bf16) (wg wu : Vec Ideal S2048x512 .bf16) (a : Vec Ideal S128x2048 .f32) (wd : Vec Ideal S512x2048 .bf16)
    (r : Fin 128) (l : Fin 2048) (R : Fin 128) (j : ℕ) (hj : j < 11)
    (eh : ∀ k, h (ix2 r k) = hrow X0 X1 R k)
    (eg : ∀ k (x : Fin 512), wg (ix2 k x) = X2 (ix3 (0 : Fin 1) k (⟨512 * j + x.val, by omega⟩ : Fin 5632)))
    (eu : ∀ k (x : Fin 512), wu (ix2 k x) = X3 (ix3 (0 : Fin 1) k (⟨512 * j + x.val, by omega⟩ : Fin 5632)))
    (ed : ∀ (x : Fin 512) l, wd (ix2 x l) = X4 (ix3 (0 : Fin 1) (⟨512 * j + x.val, by omega⟩ : Fin 5632) l))
    (ea : a (ix2 r l) = part X0 X1 X2 X3 X4 R l (512 * j)) :
    k0_pay3 (F := Ideal) h wg wu a wd (ix2 r l) = part X0 X1 X2 X3 X4 R l (512 * (j + 1)) := by
  rw [pay3_at, ea]
  simp only [eh, eg, eu, ed]
  unfold part
  rw [show 512 * (j + 1) = 512 * j + 512 by ring, Finset.sum_range_add, ← add_assoc]
  congr 1
  rw [Finset.sum_range]
  refine Finset.sum_congr rfl fun x _ => ?_
  unfold term
  rw [dif_pos (show 512 * j + x.val < 5632 by omega)]

end

/-! ## The arrays the call is given -/

variable (m : (ℓ : Loc nD τ sig) → Buf (Elt Ideal) ℓ)

theorem V_g (c : Dev nD) (l : Fin 2048) :
    (V m c main_v2 : S1x2048.Idx → EReal) (ix2 (0 : Fin 1) l) = m ((c : Thread nD τ).loc main_arg1) (ix2 (0 : Fin 1) l) := by
  unfold_abbrev_sides
  after_results
  pointwise

theorem V_gf (c : Dev nD) (l : Fin 2048) :
    (V m c main_v0 : S1x2048.Idx → EReal) (ix2 (0 : Fin 1) l) = m ((c : Thread nD τ).loc main_arg5) (ix1 l) := by
  unfold_abbrev_sides
  after_results
  pointwise

theorem V_wg (c : Dev nD) (a : Fin 2048) (b : Fin 5632) :
    (V m c main_v4 : S2048x5632.Idx → EReal) (ix2 a b) = m ((c : Thread nD τ).loc main_arg2) (ix3 (0 : Fin 1) a b) := by
  unfold_abbrev_sides
  after_results
  pointwise

theorem V_wu (c : Dev nD) (a : Fin 2048) (b : Fin 5632) :
    (V m c main_v6 : S2048x5632.Idx → EReal) (ix2 a b) = m ((c : Thread nD τ).loc main_arg3) (ix3 (0 : Fin 1) a b) := by
  unfold_abbrev_sides
  after_results
  pointwise

theorem V_wd (c : Dev nD) (a : Fin 5632) (b : Fin 2048) :
    (V m c main_v8 : S5632x2048.Idx → EReal) (ix2 a b) = m ((c : Thread nD τ).loc main_arg4) (ix3 (0 : Fin 1) a b) := by
  unfold_abbrev_sides
  after_results
  pointwise

theorem index_rows : ∀ t : Fin cfg0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0)
    ∧ (win0_6.index t 0 = t.val / 11 ∧ win0_6.index t 1 = 0) := by
  decide +kernel

theorem t_lt (t : Fin cfg0.N) : t.val < 11 := by have := t.isLt; have h : cfg0.N = 11 := N_0; omega

theorem blk0 (c : Dev nD) (t : Fin cfg0.N) (r : Fin 128) (l : Fin 2048) :
    iblk m c 0 t (ix2 r l) = m ((c : Thread nD τ).loc main_arg0) (ix2 (⟨128 * (t.val / 11) + r.val, by have := t_lt t; omega⟩ : Fin 128) l) := by
  unfold iblk
  rw [View.read_apply]
  show V m c main_arg0 _ = _
  rw [V_main_arg0]
  congr 1
  obtain ⟨⟨h0, h1⟩, -⟩ := index_rows t
  refine idx2_ext _ _ _ ?_ ?_
  · show win0_0.index t 0 * 128 + 1 * r.val = 128 * (t.val / 11) + r.val; rw [h0]; omega
  · show win0_0.index t 1 * 2048 + 1 * l.val = l.val; rw [h1]; omega

theorem blk1 (c : Dev nD) (t : Fin cfg0.N) (l : Fin 2048) :
    iblk m c 1 t (ix2 (0 : Fin 1) l) = m ((c : Thread nD τ).loc main_arg1) (ix2 (0 : Fin 1) l) := by
  rw [← V_g m c l]
  unfold iblk
  rw [View.read_apply]
  show V m c main_v2 _ = _
  congr 1
  obtain ⟨-, ⟨h0, h1⟩, -⟩ := index_rows t
  refine idx2_ext _ _ _ ?_ ?_
  · show win0_1.index t 0 * 1 + 1 * 0 = 0; rw [h0]
  · show win0_1.index t 1 * 2048 + 1 * l.val = l.val; rw [h1]; omega

theorem blk5 (c : Dev nD) (t : Fin cfg0.N) (l : Fin 2048) :
    iblk m c 5 t (ix2 (0 : Fin 1) l) = m ((c : Thread nD τ).loc main_arg5) (ix1 l) := by
  rw [← V_gf m c l]
  unfold iblk
  rw [View.read_apply]
  show V m c main_v0 _ = _
  congr 1
  obtain ⟨-, -, -, -, -, ⟨h0, h1⟩, -⟩ := index_rows t
  refine idx2_ext _ _ _ ?_ ?_
  · show win0_5.index t 0 * 1 + 1 * 0 = 0; rw [h0]
  · show win0_5.index t 1 * 2048 + 1 * l.val = l.val; rw [h1]; omega

theorem blk2 (c : Dev nD) (t : Fin cfg0.N) (a : Fin 2048) (b : Fin 512) :
    iblk m c 2 t (ix2 a b) = m ((c : Thread nD τ).loc main_arg2) (ix3 (0 : Fin 1) a (⟨512 * (t.val % 11) + b.val, by omega⟩ : Fin 5632)) := by
  rw [← V_wg m c]
  unfold iblk
  rw [View.read_apply]
  show V m c main_v4 _ = _
  congr 1
  obtain ⟨-, -, ⟨h0, h1⟩, -⟩ := index_rows t
  refine idx2_ext _ _ _ ?_ ?_
  · show win0_2.index t 0 * 2048 + 1 * a.val = a.val; rw [h0]; omega
  · show win0_2.index t 1 * 512 + 1 * b.val = 512 * (t.val % 11) + b.val; rw [h1]; omega

theorem blk3 (c : Dev nD) (t : Fin cfg0.N) (a : Fin 2048) (b : Fin 512) :
    iblk m c 3 t (ix2 a b) = m ((c : Thread nD τ).loc main_arg3) (ix3 (0 : Fin 1) a (⟨512 * (t.val % 11) + b.val, by omega⟩ : Fin 5632)) := by
  rw [← V_wu m c]
  unfold iblk
  rw [View.read_apply]
  show V m c main_v6 _ = _
  congr 1
  obtain ⟨-, -, -, ⟨h0, h1⟩, -⟩ := index_rows t
  refine idx2_ext _ _ _ ?_ ?_
  · show win0_3.index t 0 * 2048 + 1 * a.val = a.val; rw [h0]; omega
  · show win0_3.index t 1 * 512 + 1 * b.val = 512 * (t.val % 11) + b.val; rw [h1]; omega

theorem blk4 (c : Dev nD) (t : Fin cfg0.N) (a : Fin 512) (b : Fin 2048) :
    iblk m c 4 t (ix2 a b) = m ((c : Thread nD τ).loc main_arg4) (ix3 (0 : Fin 1) (⟨512 * (t.val % 11) + a.val, by omega⟩ : Fin 5632) b) := by
  rw [← V_wd m c]
  unfold iblk
  rw [View.read_apply]
  show V m c main_v8 _ = _
  congr 1
  obtain ⟨-, -, -, -, ⟨h0, h1⟩, -⟩ := index_rows t
  refine idx2_ext _ _ _ ?_ ?_
  · show win0_4.index t 0 * 512 + 1 * a.val = 512 * (t.val % 11) + a.val; rw [h0]; omega
  · show win0_4.index t 1 * 2048 + 1 * b.val = b.val; rw [h1]; omega

/-! ## What the carried scratch holds after each point -/

/-- The normed row and the partial sum, over the arguments. -/
def H (c : Dev nD) : Fin 128 → Fin 2048 → EReal := hrow (m ((c : Thread nD τ).loc main_arg0)) (m ((c : Thread nD τ).loc main_arg1))

def P (c : Dev nD) : Fin 128 → Fin 2048 → ℕ → EReal :=
  part (m ((c : Thread nD τ).loc main_arg0)) (m ((c : Thread nD τ).loc main_arg1)) (m ((c : Thread nD τ).loc main_arg2)) (m ((c : Thread nD τ).loc main_arg3)) (m ((c : Thread nD τ).loc main_arg4))

def G (c : Dev nD) : Buf (Elt Ideal) ((c : Thread nD τ).loc main_v9) :=
  spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The row of the arrays that row `r` of point `n`'s tile is. -/
def rowOf (n : ℕ) (hn : n < cfg0.N) (r : Fin 128) : Fin 128 := ⟨128 * (n / 11) + r.val, by have := t_lt ⟨n, hn⟩; have : n < 11 := this; omega⟩

/-- The first point of a row tile leaves the normed rows. -/
theorem start_h (c : Dev nD) (t : Fin cfg0.N) (r : Fin 128) (l : Fin 2048) :
    k0_pay1 (F := Ideal) (iblk m c 0 t) (iblk m c 1 t) (ix2 r l) = H m c (rowOf t.val t.isLt r) l := by
  rw [pay1_at]
  unfold H hrow
  congr 1
  · funext l; exact blk0 m c t r l
  · funext l; exact blk1 m c t l

theorem step (c : Dev nD) (t : Fin cfg0.N) (h : Vec Ideal S128x2048 .bf16) (a : Vec Ideal S128x2048 .f32) (r : Fin 128) (l : Fin 2048)
    (eh : ∀ k, h (ix2 r k) = H m c (rowOf t.val t.isLt r) k) (ea : a (ix2 r l) = P m c (rowOf t.val t.isLt r) l (512 * (t.val % 11))) :
    k0_pay3 (F := Ideal) h (iblk m c 2 t) (iblk m c 3 t) a (iblk m c 4 t) (ix2 r l) = P m c (rowOf t.val t.isLt r) l (512 * (t.val % 11 + 1)) :=
  pay3_step _ _ _ _ _ h _ _ a _ r l _ _ (Nat.mod_lt _ (by decide)) eh (fun k x => blk2 m c t k x) (fun k x => blk3 m c t k x) (fun x l => blk4 m c t x l) ea

theorem carried (c : Dev nD) : ∀ (n : ℕ) (hn : n < cfg0.N) (r : Fin 128),
    (∀ l, (outsAt0 m c n hn).2.1 (ix2 r l) = H m c (rowOf n hn r) l) ∧
    (∀ l, (outsAt0 m c n hn).2.2 (ix2 r l) = P m c (rowOf n hn r) l (512 * (n % 11 + 1))) := by
  intro n
  induction n using Nat.strong_induction_on with
  | _ n ih =>
  intro hn r
  by_cases h0 : n % 11 = 0
  · rw [outsAt0_A m c ⟨n, hn⟩ h0 (by dsimp only; omega)]
    dsimp only
    rw [soutA0, soutA1]
    refine ⟨fun l => start_h m c ⟨n, hn⟩ r l, fun l => step m c ⟨n, hn⟩ _ _ r l (fun k => start_h m c ⟨n, hn⟩ r k) ?_⟩
    rw [pay2_eq]
    show iblk m c 0 ⟨n, hn⟩ (ix2 r l) = P m c _ l (512 * (n % 11))
    rw [h0]
    unfold P part
    rw [show 512 * 0 = 0 from rfl, Finset.sum_range_zero, add_zero]
    exact blk0 m c ⟨n, hn⟩ r l
  · have hp : n - 1 < cfg0.N := by omega
    obtain ⟨i1, i2⟩ := ih (n - 1) (by omega) hp r
    have er : rowOf (n - 1) hp r = rowOf n hn r := Fin.ext (by show 128 * ((n - 1) / 11) + r.val = 128 * (n / 11) + r.val; omega)
    have em : (n - 1) % 11 + 1 = n % 11 := by omega
    rw [er] at i1 i2
    rw [em] at i2
    by_cases h1 : n % 11 = 10
    · rw [outsAt0_C m c ⟨n, hn⟩ h0 h1]
      dsimp only
      rw [soutC1]
      exact ⟨i1, fun l => step m c ⟨n, hn⟩ _ _ r l i1 (i2 l)⟩
    · rw [outsAt0_B m c ⟨n, hn⟩ h0 h1]
      dsimp only
      rw [soutB1]
      exact ⟨i1, fun l => step m c ⟨n, hn⟩ _ _ r l i1 (i2 l)⟩

/-- The last point of a row tile leaves the tile's rows of the result. -/
theorem out_at (c : Dev nD) (t : Fin cfg0.N) (h1 : t.val % 11 = 10) (r : Fin 128) (l : Fin 2048) :
    (outsAt0 m c t.val t.isLt).1 (ix2 r l) = G m c (ix2 (rowOf t.val t.isLt r) l) := by
  have h0 : ¬t.val % 11 = 0 := by omega
  have hc := (carried m c t.val t.isLt r).2
  rw [outsAt0_C m c t h0 h1] at hc ⊢
  dsimp only at hc ⊢
  rw [soutC1] at hc
  rw [outC6, pay4_at]
  have e1 : (fun l => k0_pay3 (F := Ideal) (outsAt0 m c (t.val - 1) (Nat.lt_of_le_of_lt (Nat.sub_le _ _) t.isLt)).2.1 (iblk m c 2 t) (iblk m c 3 t)
      (outsAt0 m c (t.val - 1) (Nat.lt_of_le_of_lt (Nat.sub_le _ _) t.isLt)).2.2 (iblk m c 4 t) (ix2 r l)) = fun l => P m c (rowOf t.val t.isLt r) l 5632 := by
    funext l
    rw [hc l, h1]
  have e2 : (fun l => iblk m c 5 t (ix2 (0 : Fin 1) l)) = fun l => m ((c : Thread nD τ).loc main_arg5) (ix1 l) := funext fun l => blk5 m c t l
  exact congrArg₂ (fun a b => rms a b l) e1 e2

theorem flushed_eq (c : Dev nD) (t : Fin cfg0.N) (hf : (cfg0.win 6).flush t = true) :
    (dats m 0 c).flushed 6 t = ((cfg0.win 6).blk t).view.read (Elt Ideal) (G m c) := by
  have h1 := (flush0_6 t).mp hf
  rw [Value.flushed6]
  funext y
  rw [View.read_apply]
  obtain ⟨-, -, -, -, -, -, ⟨e0, e1⟩⟩ := index_rows t
  have e : ((cfg0.win 6).blk t).view.emb y = ix2 (rowOf t.val t.isLt (y 0)) (y 1) := by
    refine idx2_ext _ _ _ ?_ ?_
    · show win0_6.index t 0 * 128 + 1 * (y 0).val = 128 * (t.val / 11) + (y 0).val; rw [e0]; omega
    · show win0_6.index t 1 * 2048 + 1 * (y 1).val = (y 1).val; rw [e1]; omega
  rw [e]
  refine Eq.trans ?_ (out_at m c t h1 (y 0) (y 1))
  show (outsAt0 m c t.val t.isLt).1 _ = _
  exact congrArg (outsAt0 m c t.val t.isLt).1 (idx2_ext (n := 128) (m := 2048) y (y 0) (y 1) rfl rfl)

/-- The row tiles' last blocks tile the result, so the array ends holding `G`. -/
theorem final_o (c : Dev nD) : (dats m 0 c).arrAt 6 cfg0.N = G m c :=
  (dats m 0 c).arrAt_eq_of_cover 6 (G m c) (fun t hf => flushed_eq m c t hf) fun i => by
    have h0 : (i 0 : Nat) < 128 := (i 0).isLt
    have h1 : (i 1 : Nat) < 2048 := (i 1).isLt
    let t : Fin cfg0.N := ⟨11 * ((i 0 : Nat) / 128) + 10, by rw [show cfg0.N = 11 from N_0]; omega⟩
    have hv : t.val = 11 * ((i 0 : Nat) / 128) + 10 := rfl
    obtain ⟨-, -, -, -, -, -, ⟨e0, e1⟩⟩ := index_rows t
    refine ⟨t, (flush0_6 t).mpr (by omega), ?_⟩
    show i ∈ ((View.whole main_v9).slice (win0_6.rect t)).set
    rw [View.set_slice_whole, Rect.mem_set_unit]
    intro a
    match a with
    | ⟨0, _⟩ =>
      show win0_6.index t 0 * 128 ≤ (i 0 : Nat) ∧ (i 0 : Nat) < win0_6.index t 0 * 128 + 128
      rw [e0]; omega
    | ⟨1, _⟩ =>
      show win0_6.index t 1 * 2048 ≤ (i 1 : Nat) ∧ (i 1 : Nat) < win0_6.index t 1 * 2048 + 2048
      rw [e1]; omega

end Cert.FfnSampleIdeal.Closed

/-! ## The reference -/

namespace Cert.FfnSampleRefIdeal.Closed

open Cert.FfnSampleRefIdeal Cert.FfnSampleRefIdeal.Gen Cert.FfnSampleRefIdeal.Read Idealize.ShloMosaic Idealize.ShloMosaic.TcCoe Idealize.SL.Sem
open Idealize.ShloMosaic (Ideal ix1 ix2 ix3)
open Cert.Spec (rms)

variable (x0 : S128x2048.Idx → EReal) (x1 : S1x2048.Idx → EReal) (x2 x3 : S1x2048x5632.Idx → EReal) (x4 : S1x5632x2048.Idx → EReal) (x5 : S2048.Idx → EReal)

theorem h_at (r : Fin 128) (l : Fin 2048) :
    val_main_v13 (F := Ideal) x0 x1 (ix2 r l) = Cert.FfnSampleIdeal.Closed.hrow x0 x1 r l := by
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, Cert.FfnSampleIdeal.Closed.hrow, rms]

theorem act_at (r : Fin 128) (n : Fin 5632) :
    val_main_v19 (F := Ideal) x0 x1 x2 x3 (ix2 r n)
      = Cert.FfnSampleIdeal.Closed.act (Cert.FfnSampleIdeal.Closed.hrow x0 x1 r) (fun k => x2 (ix3 (0 : Fin 1) k n)) (fun k => x3 (ix3 (0 : Fin 1) k n)) := by
  unfold Cert.FfnSampleIdeal.Closed.act
  simp only [← h_at]
  unfold val_main_v19 val_main_v18 val_main_v16 val_main_call0_v5 val_main_call0_v3 val_main_call0_v1 val_main_call0_v0 val_main_v15
  generalize val_main_v13 (F := Ideal) x0 x1 = h
  pointwise [val_main_v14, val_main_v17, val_main_call0_v4, val_main_call0_v2, val_main_call0_cst, val_main_call0_cst_0]
  rfl

theorem y_at (r : Fin 128) (l : Fin 2048) :
    val_main_v22 (F := Ideal) x0 x1 x2 x3 x4 (ix2 r l) = Cert.FfnSampleIdeal.Closed.part x0 x1 x2 x3 x4 r l 5632 := by
  unfold Cert.FfnSampleIdeal.Closed.part
  rw [Finset.sum_range]
  have e : ∀ n : Fin 5632, Cert.FfnSampleIdeal.Closed.term x0 x1 x2 x3 x4 r l n.val = val_main_v19 (F := Ideal) x0 x1 x2 x3 (ix2 r n) * x4 (ix3 (0 : Fin 1) n l) := fun n => by
    rw [act_at]
    unfold Cert.FfnSampleIdeal.Closed.term
    rw [dif_pos n.isLt]
  simp only [e]
  unfold val_main_v22 val_main_v21
  generalize val_main_v19 (F := Ideal) x0 x1 x2 x3 = h
  pointwise [val_main_v20]

theorem val_eq (i : S128x2048.Idx) :
    val_main_v35 (F := Ideal) x0 x1 x2 x3 x4 x5 i = Cert.FfnSampleIdeal.Closed.spec x0 x1 x2 x3 x4 x5 i := by
  obtain ⟨r, l, rfl⟩ : ∃ r l, i = ix2 r l := ⟨i 0, i 1, eq_ix2 i⟩
  show _ = rms (fun l => Cert.FfnSampleIdeal.Closed.part x0 x1 x2 x3 x4 r l 5632) (fun l => x5 (ix1 l)) l
  simp only [← y_at]
  unfold val_main_v35 val_main_v32 val_main_v31 val_main_v30 val_main_v29 val_main_v27 val_main_v25 val_main_v24 val_main_v23
  generalize val_main_v22 (F := Ideal) x0 x1 x2 x3 x4 = y
  pointwise [val_main_v34, val_main_v33, val_main_v28, val_main_v26, val_main_cst_2, val_main_cst_3, val_main_cst_4, rms]

end Cert.FfnSampleRefIdeal.Closed

namespace Cert.Proof

open Idealize.ShloMosaic Idealize.ShloMosaic.TcCoe Idealize.SL.Sem

/-- The feed-forward call's two programs compute one function of the arguments. -/
theorem ffn_sample_algebraic [Cert.FfnSampleIdeal.Facts] [Cert.FfnSampleRefIdeal.Facts] : Cert.algebraic_FfnSampleIdeal_FfnSampleRefIdeal := by
  intro m g m' g' _ hag
  refine ⟨fun c => Cert.FfnSampleIdeal.Closed.G m c, ?_, ?_⟩
  · exact (θ_run _ _ _).mono (fun r h c => ⟨(h c).1.trans (Cert.FfnSampleIdeal.Closed.final_o m c), (h c).2⟩) (Cert.FfnSampleIdeal.Value.run_blocks m g)
  · refine (θ_run _ _ _).mono (fun r h c => ⟨(h c).1.trans ?_, (h c).2⟩) (Cert.FfnSampleRefIdeal.Value.run m' g')
    obtain ⟨e0, e1, e2, e3, e4, e5⟩ := hag c
    rw [Cert.FfnSampleRefIdeal.Read.val_main_v35_eq, e0, e1, e2, e3, e4, e5]
    funext i
    exact Cert.FfnSampleRefIdeal.Closed.val_eq _ _ _ _ _ _ i

end Cert.Proof

end
-- ==== Proof.OutSampleValue.lean ====
/-
  The output projection at the samples' shapes: what the kernel's result array holds, element by element.
  The one point of the grid handles all 128 rows; it writes its 2048 columns in four pieces of 512,
  each `x + (a · w[0:1024] + p · w[1024:2048])`.
-/
module

public import proofs.«01_k».proof.Proof.Gen.OutSampleIdeal.Value
public import proofs.«01_k».proof.Proof.Gen.OutSampleRefIdeal.Read
public import Idealize.ShloMosaic.Lib.Pointwise
public import proofs.«01_k».proof.Defs

@[expose] public section

noncomputable section

namespace Cert.OutSampleIdeal.Closed

open Cert.OutSampleIdeal Cert.OutSampleIdeal.Gen Idealize.ShloMosaic Idealize.ShloMosaic.TcCoe Idealize.SL.Sem
open Idealize.ShloMosaic.Pipeline (Dat)

variable (m : (ℓ : Loc nD τ sig) → Buf (Elt Ideal) ℓ)

/-- The projected element: the residual plus the two half contractions. -/
def blockG (x0 : Vec Ideal S128x2048 .f32) (x1 : Vec Ideal S128x1024 .f32) (x2 : Vec Ideal S128x1024 .bf16) (x3 : Vec Ideal S2048x2048 .bf16) :
    Vec Ideal S128x2048 .f32 := fun j =>
  x0 j + ((∑ k : Fin 1024, x1 (ix2 (j 0) k) * x3 (ix2 ⟨k.val, by omega⟩ (j 1)))
    + ∑ k : Fin 1024, x2 (ix2 (j 0) k) * x3 (ix2 ⟨1024 + k.val, by omega⟩ (j 1)))

/-- A coordinate pair names the index. -/
theorem idx2_eq {n0 n1 : Nat} (y : (⟨2, ![n0, n1]⟩ : Shape).Idx) (a : Fin n0) (b : Fin n1) (h0 : (y 0).val = a.val) (h1 : (y 1).val = b.val) :
    y = ix2 a b := by
  funext d
  match d with
  | ⟨0, _⟩ => exact Fin.ext h0
  | ⟨1, _⟩ => exact Fin.ext h1

/-- The body's four stores hold the pieces of `blockG`. -/
theorem out0_4_eq (x0 : Vec Ideal S128x2048 .f32) (x1 : Vec Ideal S128x1024 .f32) (x2 : Vec Ideal S128x1024 .bf16) (x3 : Vec Ideal S2048x2048 .bf16) :
    out0_4 (F := Ideal) x0 x1 x2 x3 = blockG x0 x1 x2 x3 := by
  funext y
  unfold out0_4
  refine View.canon_apply_of_pieces (blockG x0 x1 x2 x3) _ ?_ y (cover0_4 _ _ _ _ y)
  intro p hp
  simp only [List.mem_cons, List.not_mem_nil, or_false] at hp
  rcases hp with rfl | rfl | rfl | rfl
  · intro x
    have e : r0_12.emb x = ix2 (x 0) ⟨1536 + (x 1).val, by have := (x 1).isLt; change (x 1).val < 512 at this; omega⟩ :=
      idx2_eq _ _ _ (by rw [Rect.emb_apply]; show 0 + 1 * (x 0).val = _; simp) (by rw [Rect.emb_apply]; show 1536 + 1 * (x 1).val = _; simp)
    show _ = blockG x0 x1 x2 x3 (r0_12.emb x)
    rw [e]
    pointwise [k0_pay2, k0_pay3, blockG]
  · intro x
    have e : r0_9.emb x = ix2 (x 0) ⟨1024 + (x 1).val, by have := (x 1).isLt; change (x 1).val < 512 at this; omega⟩ :=
      idx2_eq _ _ _ (by rw [Rect.emb_apply]; show 0 + 1 * (x 0).val = _; simp) (by rw [Rect.emb_apply]; show 1024 + 1 * (x 1).val = _; simp)
    show _ = blockG x0 x1 x2 x3 (r0_9.emb x)
    rw [e]
    pointwise [k0_pay1, k0_pay3, k0_pay6, k0_pay7, blockG]
  · intro x
    have e : r0_6.emb x = ix2 (x 0) ⟨512 + (x 1).val, by have := (x 1).isLt; change (x 1).val < 512 at this; omega⟩ :=
      idx2_eq _ _ _ (by rw [Rect.emb_apply]; show 0 + 1 * (x 0).val = _; simp) (by rw [Rect.emb_apply]; show 512 + 1 * (x 1).val = _; simp)
    show _ = blockG x0 x1 x2 x3 (r0_6.emb x)
    rw [e]
    pointwise [k0_pay5, k0_pay3, blockG]
  · intro x
    have e : r0_3.emb x = ix2 (x 0) ⟨(x 1).val, by have := (x 1).isLt; change (x 1).val < 512 at this; omega⟩ :=
      idx2_eq _ _ _ (by rw [Rect.emb_apply]; show 0 + 1 * (x 0).val = _; simp) (by rw [Rect.emb_apply]; show 0 + 1 * (x 1).val = _; simp)
    show _ = blockG x0 x1 x2 x3 (r0_3.emb x)
    rw [e]
    pointwise [k0_pay4, k0_pay3, blockG]

/-- The weight array the call is given: the argument's one matrix. -/
theorem V_w (c : Dev nD) (a b : Fin 2048) :
    (V m c main_v1 : S2048x2048.Idx → EReal) (ix2 a b) = m ((c : Thread nD τ).loc main_arg3) (ix3 (0 : Fin 1) a b) := by
  unfold_abbrev_sides
  after_results
  pointwise

/-- The layer's output projection: the residual plus the two half contractions, over plain arrays. -/
def spec (x0 : S128x2048.Idx → EReal) (x1 x2 : S128x1024.Idx → EReal) (x3 : S1x2048x2048.Idx → EReal) (i : S128x2048.Idx) : EReal :=
  x0 i + ((∑ k : Fin 1024, x1 (ix2 (i 0) k) * x3 (ix3 (0 : Fin 1) (⟨k.val, by omega⟩ : Fin 2048) (i 1)))
    + ∑ k : Fin 1024, x2 (ix2 (i 0) k) * x3 (ix3 (0 : Fin 1) (⟨1024 + k.val, by omega⟩ : Fin 2048) (i 1)))

/-- The whole result, over the arguments. -/
def G (c : Dev nD) : Buf (Elt Ideal) ((c : Thread nD τ).loc main_v2) :=
  spec (m ((c : Thread nD τ).loc main_arg0)) (m ((c : Thread nD τ).loc main_arg1)) (m ((c : Thread nD τ).loc main_arg2)) (m ((c : Thread nD τ).loc main_arg3))

theorem index_rows : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = t.val ∧ win0_4.index t 1 = 0 := by
  decide +kernel

theorem t_lt (t : Fin cfg0.N) : t.val < 1 := by have := t.isLt; have h : cfg0.N = 1 := N_0; omega

/-- Row `r` of the residual's block at point `t`. -/
theorem blk0 (c : Dev nD) (t : Fin cfg0.N) (r : Fin 128) (l : Fin 2048) :
    iblk m c 0 t (ix2 r l) = m ((c : Thread nD τ).loc main_arg0) (ix2 (⟨128 * t.val + r.val, by have := t_lt t; omega⟩ : Fin 128) l) := by
  unfold iblk
  rw [View.read_apply]
  show V m c main_arg0 _ = _
  rw [V_main_arg0]
  congr 1
  obtain ⟨h0, h1, -⟩ := index_rows t
  refine idx2_eq _ _ _ ?_ ?_
  · show win0_0.index t 0 * 128 + 1 * r.val = 128 * t.val + r.val; rw [h0]; omega
  · show win0_0.index t 1 * 2048 + 1 * l.val = l.val; rw [h1]; omega

theorem blk1 (c : Dev nD) (t : Fin cfg0.N) (r : Fin 128) (l : Fin 1024) :
    iblk m c 1 t (ix2 r l) = m ((c : Thread nD τ).loc main_arg1) (ix2 (⟨128 * t.val + r.val, by have := t_lt t; omega⟩ : Fin 128) l) := by
  unfold iblk
  rw [View.read_apply]
  show V m c main_arg1 _ = _
  rw [V_main_arg1]
  congr 1
  obtain ⟨-, -, h0, h1, -⟩ := index_rows t
  refine idx2_eq _ _ _ ?_ ?_
  · show win0_1.index t 0 * 128 + 1 * r.val = 128 * t.val + r.val; rw [h0]; omega
  · show win0_1.index t 1 * 1024 + 1 * l.val = l.val; rw [h1]; omega

theorem blk2 (c : Dev nD) (t : Fin cfg0.N) (r : Fin 128) (l : Fin 1024) :
    iblk m c 2 t (ix2 r l) = m ((c : Thread nD τ).loc main_arg2) (ix2 (⟨128 * t.val + r.val, by have := t_lt t; omega⟩ : Fin 128) l) := by
  unfold iblk
  rw [View.read_apply]
  show V m c main_arg2 _ = _
  rw [V_main_arg2]
  congr 1
  obtain ⟨-, -, -, -, h0, h1, -⟩ := index_rows t
  refine idx2_eq _ _ _ ?_ ?_
  · show win0_2.index t 0 * 128 + 1 * r.val = 128 * t.val + r.val; rw [h0]; omega
  · show win0_2.index t 1 * 1024 + 1 * l.val = l.val; rw [h1]; omega

theorem blk3 (c : Dev nD) (t : Fin cfg0.N) (a b : Fin 2048) :
    iblk m c 3 t (ix2 a b) = m ((c : Thread nD τ).loc main_arg3) (ix3 (0 : Fin 1) a b) := by
  rw [← V_w m c a b]
  unfold iblk
  rw [View.read_apply]
  show V m c main_v1 _ = _
  congr 1
  obtain ⟨-, -, -, -, -, -, h0, h1, -⟩ := index_rows t
  refine idx2_eq _ _ _ ?_ ?_
  · show win0_3.index t 0 * 2048 + 1 * a.val = a.val; rw [h0]; omega
  · show win0_3.index t 1 * 2048 + 1 * b.val = b.val; rw [h1]; omega

/-- A block whose rows are rows of the arrays is a block of the layer's projection. -/
theorem blockG_rows (x0 : S128x2048.Idx → EReal) (x1 x2 : S128x1024.Idx → EReal) (x3 : S2048x2048.Idx → EReal)
    (X0 : S128x2048.Idx → EReal) (X1 X2 : S128x1024.Idx → EReal) (X3 : S1x2048x2048.Idx → EReal)
    (r : Fin 128) (R : Fin 128) (l : Fin 2048) (h0 : ∀ l, x0 (ix2 r l) = X0 (ix2 R l)) (h1 : ∀ l, x1 (ix2 r l) = X1 (ix2 R l))
    (h2 : ∀ l, x2 (ix2 r l) = X2 (ix2 R l)) (h3 : ∀ a b, x3 (ix2 a b) = X3 (ix3 (0 : Fin 1) a b)) :
    blockG x0 x1 x2 x3 (ix2 r l) = spec X0 X1 X2 X3 (ix2 R l) := by
  show x0 (ix2 r l) + ((∑ k : Fin 1024, x1 (ix2 r k) * x3 (ix2 (⟨k.val, by omega⟩ : Fin 2048) l)) + ∑ k : Fin 1024, x2 (ix2 r k) * x3 (ix2 (⟨1024 + k.val, by omega⟩ : Fin 2048) l)) = _
  simp only [h0, h1, h2, h3]
  rfl

/-- The block's function at point `t`, over the arguments. -/
theorem block_at (c : Dev nD) (t : Fin cfg0.N) (r : Fin 128) (l : Fin 2048) :
    blockG (iblk m c 0 t) (iblk m c 1 t) (iblk m c 2 t) (iblk m c 3 t) (ix2 r l)
      = G m c (ix2 (⟨128 * t.val + r.val, by have := t_lt t; omega⟩ : Fin 128) l) := by
  exact blockG_rows _ _ _ _ _ _ _ _ r _ l (fun l => blk0 m c t r l) (fun l => blk1 m c t r l) (fun l => blk2 m c t r l) (fun a b => blk3 m c t a b)

/-- What point `t` writes back is its block of `G`. -/
theorem flushed_eq (c : Dev nD) (t : Fin cfg0.N) :
    (dats m 0 c).flushed 4 t = ((cfg0.win 4).blk t).view.read (Elt Ideal) (G m c) := by
  rw [Value.flushed4, out0_4_eq]
  funext y
  rw [View.read_apply]
  obtain ⟨-, -, -, -, -, -, -, -, h0, h1⟩ := index_rows t
  have e : ((cfg0.win 4).blk t).view.emb y = ix2 (⟨128 * t.val + (y 0).val, by have := t_lt t; have := (y 0).isLt; change (y 0).val < 128 at this; omega⟩ : Fin 128) (y 1) := by
    refine idx2_eq _ _ _ ?_ ?_
    · show win0_4.index t 0 * 128 + 1 * (y 0).val = 128 * t.val + (y 0).val; rw [h0]; omega
    · show win0_4.index t 1 * 2048 + 1 * (y 1).val = (y 1).val; rw [h1]; omega
  rw [e]
  conv_lhs => rw [show y = ix2 (y 0) (y 1) from eq_ix2 y]
  exact block_at m c t (y 0) (y 1)

/-- The grid's blocks tile the result, so the array ends holding `G`. -/
theorem final_o (c : Dev nD) : (dats m 0 c).arrAt 4 cfg0.N = G m c :=
  (dats m 0 c).arrAt_eq_of_cover 4 (G m c) (fun t _ => flushed_eq m c t) fun i => by
    have h0 : (i 0 : Nat) < 128 := (i 0).isLt
    have h1 : (i 1 : Nat) < 2048 := (i 1).isLt
    let t : Fin cfg0.N := ⟨(i 0 : Nat) / 128, by rw [show cfg0.N = 1 from N_0]; omega⟩
    obtain ⟨-, -, -, -, -, -, -, -, e0, e1⟩ := index_rows t
    refine ⟨t, flush0_4 t, ?_⟩
    show i ∈ ((View.whole main_v2).slice (win0_4.rect t)).set
    rw [View.set_slice_whole, Rect.mem_set_unit]
    intro a
    match a with
    | ⟨0, _⟩ =>
      show win0_4.index t 0 * 128 ≤ (i 0 : Nat) ∧ (i 0 : Nat) < win0_4.index t 0 * 128 + 128
      rw [e0]; show (i 0 : Nat) / 128 * 128 ≤ _ ∧ _ < (i 0 : Nat) / 128 * 128 + 128; omega
    | ⟨1, _⟩ =>
      show win0_4.index t 1 * 2048 ≤ (i 1 : Nat) ∧ (i 1 : Nat) < win0_4.index t 1 * 2048 + 2048
      rw [e1]; omega

end Cert.OutSampleIdeal.Closed

namespace Cert.OutSampleRefIdeal.Closed

open Cert.OutSampleRefIdeal Cert.OutSampleRefIdeal.Gen Cert.OutSampleRefIdeal.Read Idealize.ShloMosaic Idealize.ShloMosaic.TcCoe Idealize.SL.Sem

/-- A sum over 2048 terms as its two halves. -/
theorem sum_split (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The reference's element: the residual plus the contraction of the joined row. -/
theorem val_eq (x0 : (⟨S128x2048, .f32⟩ : BufTy).Contents (Elt Ideal)) (x1 : (⟨S128x1024, .f32⟩ : BufTy).Contents (Elt Ideal)) (x2 : (⟨S128x1024, .bf16⟩ : BufTy).Contents (Elt Ideal))
    (x3 : (⟨S1x2048x2048, .f32⟩ : BufTy).Contents (Elt Ideal)) (i : S128x2048.Idx) :
    val_main_v4 (F := Ideal) x0 x1 x2 x3 i = Cert.OutSampleIdeal.Closed.spec x0 x1 x2 x3 i := by
  rw [val_main_v4_apply, val_main_v3_apply, sum_split]
  pointwise [val_main_v2, val_main_v1, val_main_v0, Cert.OutSampleIdeal.Closed.spec]
  rfl

end Cert.OutSampleRefIdeal.Closed

namespace Cert.Proof

open Idealize.ShloMosaic Idealize.ShloMosaic.TcCoe Idealize.SL.Sem

/-- The output projection's two programs compute one function of the arguments. -/
theorem out_sample_algebraic [Cert.OutSampleIdeal.Facts] [Cert.OutSampleRefIdeal.Facts] : Cert.algebraic_OutSampleIdeal_OutSampleRefIdeal := by
  intro m g m' g' _ hag
  refine ⟨fun c => Cert.OutSampleIdeal.Closed.G m c, ?_, ?_⟩
  · exact (θ_run _ _ _).mono (fun r h c => ⟨(h c).1.trans (Cert.OutSampleIdeal.Closed.final_o m c), (h c).2⟩) (Cert.OutSampleIdeal.Value.run_blocks m g)
  · refine (θ_run _ _ _).mono (fun r h c => ⟨(h c).1.trans ?_, (h c).2⟩) (Cert.OutSampleRefIdeal.Value.run m' g')
    obtain ⟨e0, e1, e2, e3⟩ := hag c
    rw [e0, e1, e2, e3]
    funext i
    exact Cert.OutSampleRefIdeal.Closed.val_eq _ _ _ _ i

end Cert.Proof

end
-- ==== Proof.InSpec.lean ====
module

public import proofs.«01_k».proof.Proof.Rms

@[expose] public section

noncomputable section

/-! The input projection, over plain arrays: the normed row times one column of the weights. -/

namespace Cert.Spec

open Idealize.ShloMosaic
open Idealize.ShloMosaic (Ideal ix1 ix2 ix3)

/-- The attention's factor on the queries, one eighth. -/
def eighth : EReal := Ideal.ofBits .f32 0x3E000000#32

/-- Column `n` of row `r` of sequence `b`. -/
def proj {B T : ℕ} (X0 : (⟨3, ![B, T, 2048]⟩ : Shape).Idx → EReal) (X1 : (⟨2, ![1, 2048]⟩ : Shape).Idx → EReal) (X2 : (⟨3, ![1, 2048, 4096]⟩ : Shape).Idx → EReal)
    (b : Fin B) (r : Fin T) (n : Fin 4096) : EReal :=
  ∑ k, rms (fun l => X0 (ix3 b r l)) (fun l => X1 (ix2 (0 : Fin 1) l)) k * X2 (ix3 (0 : Fin 1) k n)

/-- Column `l` of the `p`-th quarter of the weights. -/
def col (p : Fin 4) (l : Fin 1024) : Fin 4096 := ⟨1024 * p.val + l.val, by omega⟩

end Cert.Spec

end
-- ==== Proof.InBody.lean ====
module

public import proofs.«01_k».proof.Proof.Gen.InIdeal.Value
public import proofs.«01_k».proof.Proof.InSpec
public import Idealize.ShloMosaic.Lib.Pointwise

@[expose] public section

set_option maxRecDepth 16384

noncomputable section

/-! The input projection's body: its first four outputs are the normed rows times the four quarters of the weights. -/

namespace Cert.InIdeal.Closed

open Cert.InIdeal Cert.InIdeal.Gen Idealize.ShloMosaic Idealize.ShloMosaic.TcCoe Idealize.SL.Sem
open Cert.Spec (hz idx2_ext col eighth rms)
open Idealize.ShloMosaic (Ideal ix1 ix2 ix3 eq_ix2)

/-- The rows of a tile times one quarter of the weights' columns. -/
def cols (p : Fin 4) (h : Vec Ideal S512x2048 .bf16) (x2 : Vec Ideal S2048x4096 .bf16) : Vec Ideal S512x1024 .f32 := fun j =>
  ∑ k : Fin 2048, h (ix2 (j 0) k) * x2 (ix2 k (col p (j 1)))

/-- The queries' quarter, scaled. -/
def colsQ (h : Vec Ideal S512x2048 .bf16) (x2 : Vec Ideal S2048x4096 .bf16) : Vec Ideal S512x1024 .f32 := fun j =>
  (∑ k : Fin 2048, h (ix2 (j 0) k) * x2 (ix2 k (col 0 (j 1)))) * eighth

/-- Two stores, each of half the columns, leave the tile they are halves of. -/
theorem canon_halves (inb : ∀ a, (![0, 0] : Fin 2 → ℕ) a + S512x512.size a ≤ S512x1024.size a) (inb5 : ∀ a, (![0, 512] : Fin 2 → ℕ) a + S512x512.size a ≤ S512x1024.size a)
    (G : Vec Ideal S512x1024 .f32) (w1 w0 : Vec Ideal S512x512 .f32)
    (e1 : ∀ (r : Fin 512) (l : Fin 512), w1 (ix2 r l) = G (ix2 r (⟨512 + l.val, by omega⟩ : Fin 1024)))
    (e0 : ∀ (r : Fin 512) (l : Fin 512), w0 (ix2 r l) = G (ix2 r (⟨l.val, by omega⟩ : Fin 1024))) :
    View.canon [(⟨Rect.unit (s := S512x1024) ![0, 512] S512x512.size inb5, w1⟩ : View.Piece (Elt Ideal) S512x1024 .f32), ⟨Rect.unit (s := S512x1024) ![0, 0] S512x512.size inb, w0⟩] = G := by
  funext j
  have hj := (j 1).isLt
  change (j 1).val < 1024 at hj
  by_cases h : (j 1).val < 512
  · rw [View.canon_cons_of_not_mem]
    · have e : j = (Rect.unit (s := S512x1024) ![0, 0] S512x512.size inb).emb (ix2 (j 0) (⟨(j 1).val, h⟩ : Fin 512)) := by
        refine (idx2_ext (n := 512) (m := 1024) j (j 0) (j 1) rfl rfl).trans (idx2_ext (n := 512) (m := 1024) _ _ _ ?_ ?_).symm
        · show 0 + 1 * (j 0).val = (j 0).val; omega
        · show 0 + 1 * (j 1).val = (j 1).val; omega
      conv_lhs => rw [e]
      rw [View.canon_cons_emb]
      exact (e0 (j 0) ⟨(j 1).val, h⟩).trans (congrArg G (idx2_ext (n := 512) (m := 1024) j (j 0) (j 1) rfl rfl).symm)
    · rw [Rect.mem_set_unit]
      intro hh
      have := (hh 1).1
      change 512 ≤ (j 1).val at this
      omega
  · have e : j = (Rect.unit (s := S512x1024) ![0, 512] S512x512.size inb5).emb (ix2 (j 0) (⟨(j 1).val - 512, by omega⟩ : Fin 512)) := by
      refine (idx2_ext (n := 512) (m := 1024) j (j 0) (j 1) rfl rfl).trans (idx2_ext (n := 512) (m := 1024) _ _ _ ?_ ?_).symm
      · show 0 + 1 * (j 0).val = (j 0).val; omega
      · show 512 + 1 * ((j 1).val - 512) = (j 1).val; omega
    conv_lhs => rw [e]
    rw [View.canon_cons_emb]
    refine (e1 (j 0) ⟨(j 1).val - 512, by omega⟩).trans (congrArg G ?_)
    refine (idx2_ext (n := 512) (m := 1024) j (j 0) _ rfl ?_).symm
    show (j 1).val = 512 + ((j 1).val - 512); omega

theorem norm_at (x0 : Vec Ideal S512x2048 .f32) (x1 : Vec Ideal S1x2048 .f32) (r : Fin 512) (l : Fin 2048) :
    k0_pay3 (F := Ideal) x0 x1 (ix2 r l) = rms (fun l => x0 (ix2 r l)) (fun l => x1 (ix2 (0 : Fin 1) l)) l := by
  pointwise [k0_pay3, rms]

theorem pay4_at (h : Vec Ideal S512x2048 .bf16) (x2 : Vec Ideal S2048x4096 .bf16) (w : Vec Ideal S2048x512 .bf16)
    (hw : ∀ (k : Fin 2048) (l : Fin 512), w (ix2 k l) = x2 (ix2 k (⟨0 + l.val, by omega⟩ : Fin 4096))) (r : Fin 512) (l : Fin 512) :
    k0_pay4 (F := Ideal) h w (ix2 r l) = colsQ h x2 (ix2 r (⟨l.val, by omega⟩ : Fin 1024)) := by
  have e : k0_pay4 (F := Ideal) h w (ix2 r l) = (∑ k : Fin 2048, h (ix2 r k) * w (ix2 k l)) * eighth := by
    pointwise [k0_pay4, eighth]
  rw [e]
  refine congrArg (fun a : EReal => a * eighth) ?_
  refine Finset.sum_congr rfl fun k _ => ?_
  rw [hw]
  refine congrArg (fun i => h (ix2 r k) * x2 (ix2 k i)) (Fin.ext ?_)
  show 0 + l.val = 1024 * 0 + l.val; omega

theorem pay5_at (h : Vec Ideal S512x2048 .bf16) (x2 : Vec Ideal S2048x4096 .bf16) (w : Vec Ideal S2048x512 .bf16)
    (hw : ∀ (k : Fin 2048) (l : Fin 512), w (ix2 k l) = x2 (ix2 k (⟨512 + l.val, by omega⟩ : Fin 4096))) (r : Fin 512) (l : Fin 512) :
    k0_pay5 (F := Ideal) h w (ix2 r l) = colsQ h x2 (ix2 r (⟨512 + l.val, by omega⟩ : Fin 1024)) := by
  have e : k0_pay5 (F := Ideal) h w (ix2 r l) = (∑ k : Fin 2048, h (ix2 r k) * w (ix2 k l)) * eighth := by
    pointwise [k0_pay5, eighth]
  rw [e]
  refine congrArg (fun a : EReal => a * eighth) ?_
  refine Finset.sum_congr rfl fun k _ => ?_
  rw [hw]
  refine congrArg (fun i => h (ix2 r k) * x2 (ix2 k i)) (Fin.ext ?_)
  show 512 + l.val = 1024 * 0 + (512 + l.val); omega

theorem pay6_at (h : Vec Ideal S512x2048 .bf16) (x2 : Vec Ideal S2048x4096 .bf16) (w : Vec Ideal S2048x512 .bf16)
    (hw : ∀ (k : Fin 2048) (l : Fin 512), w (ix2 k l) = x2 (ix2 k (⟨1024 + l.val, by omega⟩ : Fin 4096))) (r : Fin 512) (l : Fin 512) :
    k0_pay6 (F := Ideal) h w (ix2 r l) = cols 1 h x2 (ix2 r (⟨l.val, by omega⟩ : Fin 1024)) := by
  have e : k0_pay6 (F := Ideal) h w (ix2 r l) = ∑ k : Fin 2048, h (ix2 r k) * w (ix2 k l) := by
    pointwise [k0_pay6]
  rw [e]
  show _ = ∑ k : Fin 2048, _
  refine Finset.sum_congr rfl fun k _ => ?_
  rw [hw]
  refine congrArg (fun i => h (ix2 r k) * x2 (ix2 k i)) (Fin.ext ?_)
  show 1024 + l.val = 1024 * 1 + l.val; omega

theorem pay7_at (h : Vec Ideal S512x2048 .bf16) (x2 : Vec Ideal S2048x4096 .bf16) (w : Vec Ideal S2048x512 .bf16)
    (hw : ∀ (k : Fin 2048) (l : Fin 512), w (ix2 k l) = x2 (ix2 k (⟨1536 + l.val, by omega⟩ : Fin 4096))) (r : Fin 512) (l : Fin 512) :
    k0_pay7 (F := Ideal) h w (ix2 r l) = cols 1 h x2 (ix2 r (⟨512 + l.val, by omega⟩ : Fin 1024)) := by
  have e : k0_pay7 (F := Ideal) h w (ix2 r l) = ∑ k : Fin 2048, h (ix2 r k) * w (ix2 k l) := by
    pointwise [k0_pay7]
  rw [e]
  show _ = ∑ k : Fin 2048, _
  refine Finset.sum_congr rfl fun k _ => ?_
  rw [hw]
  refine congrArg (fun i => h (ix2 r k) * x2 (ix2 k i)) (Fin.ext ?_)
  show 1536 + l.val = 1024 * 1 + (512 + l.val); omega

theorem pay8_at (h : Vec Ideal S512x2048 .bf16) (x2 : Vec Ideal S2048x4096 .bf16) (w : Vec Ideal S2048x512 .bf16)
    (hw : ∀ (k : Fin 2048) (l : Fin 512), w (ix2 k l) = x2 (ix2 k (⟨2048 + l.val, by omega⟩ : Fin 4096))) (r : Fin 512) (l : Fin 512) :
    k0_pay8 (F := Ideal) h w (ix2 r l) = cols 2 h x2 (ix2 r (⟨l.val, by omega⟩ : Fin 1024)) := by
  have e : k0_pay8 (F := Ideal) h w (ix2 r l) = ∑ k : Fin 2048, h (ix2 r k) * w (ix2 k l) := by
    pointwise [k0_pay8]
  rw [e]
  show _ = ∑ k : Fin 2048, _
  refine Finset.sum_congr rfl fun k _ => ?_
  rw [hw]
  refine congrArg (fun i => h (ix2 r k) * x2 (ix2 k i)) (Fin.ext ?_)
  show 2048 + l.val = 1024 * 2 + l.val; omega

theorem pay9_at (h : Vec Ideal S512x2048 .bf16) (x2 : Vec Ideal S2048x4096 .bf16) (w : Vec Ideal S2048x512 .bf16)
    (hw : ∀ (k : Fin 2048) (l : Fin 512), w (ix2 k l) = x2 (ix2 k (⟨2560 + l.val, by omega⟩ : Fin 4096))) (r : Fin 512) (l : Fin 512) :
    k0_pay9 (F := Ideal) h w (ix2 r l) = cols 2 h x2 (ix2 r (⟨512 + l.val, by omega⟩ : Fin 1024)) := by
  have e : k0_pay9 (F := Ideal) h w (ix2 r l) = ∑ k : Fin 2048, h (ix2 r k) * w (ix2 k l) := by
    pointwise [k0_pay9]
  rw [e]
  show _ = ∑ k : Fin 2048, _
  refine Finset.sum_congr rfl fun k _ => ?_
  rw [hw]
  refine congrArg (fun i => h (ix2 r k) * x2 (ix2 k i)) (Fin.ext ?_)
  show 2560 + l.val = 1024 * 2 + (512 + l.val); omega

theorem pay10_at (h : Vec Ideal S512x2048 .bf16) (x2 : Vec Ideal S2048x4096 .bf16) (w : Vec Ideal S2048x512 .bf16)
    (hw : ∀ (k : Fin 2048) (l : Fin 512), w (ix2 k l) = x2 (ix2 k (⟨3072 + l.val, by omega⟩ : Fin 4096))) (r : Fin 512) (l : Fin 512) :
    k0_pay10 (F := Ideal) h w (ix2 r l) = cols 3 h x2 (ix2 r (⟨l.val, by omega⟩ : Fin 1024)) := by
  have e : k0_pay10 (F := Ideal) h w (ix2 r l) = ∑ k : Fin 2048, h (ix2 r k) * w (ix2 k l) := by
    pointwise [k0_pay10]
  rw [e]
  show _ = ∑ k : Fin 2048, _
  refine Finset.sum_congr rfl fun k _ => ?_
  rw [hw]
  refine congrArg (fun i => h (ix2 r k) * x2 (ix2 k i)) (Fin.ext ?_)
  show 3072 + l.val = 1024 * 3 + l.val; omega

theorem pay11_at (h : Vec Ideal S512x2048 .bf16) (x2 : Vec Ideal S2048x4096 .bf16) (w : Vec Ideal S2048x512 .bf16)
    (hw : ∀ (k : Fin 2048) (l : Fin 512), w (ix2 k l) = x2 (ix2 k (⟨3584 + l.val, by omega⟩ : Fin 4096))) (r : Fin 512) (l : Fin 512) :
    k0_pay11 (F := Ideal) h w (ix2 r l) = cols 3 h x2 (ix2 r (⟨512 + l.val, by omega⟩ : Fin 1024)) := by
  have e : k0_pay11 (F := Ideal) h w (ix2 r l) = ∑ k : Fin 2048, h (ix2 r k) * w (ix2 k l) := by
    pointwise [k0_pay11]
  rw [e]
  show _ = ∑ k : Fin 2048, _
  refine Finset.sum_congr rfl fun k _ => ?_
  rw [hw]
  refine congrArg (fun i => h (ix2 r k) * x2 (ix2 k i)) (Fin.ext ?_)
  show 3584 + l.val = 1024 * 3 + (512 + l.val); omega

/-- A block of the weights read through a rectangle of whole rows. -/
theorem ld_cols (x2 : Vec Ideal S2048x4096 .bf16) (o : ℕ) (ho : o + 512 ≤ 4096) (inb : ∀ a, (![0, o] : Fin 2 → ℕ) a + S2048x512.size a ≤ S2048x4096.size a)
    (k : Fin 2048) (l : Fin 512) :
    View.ld x2 (Rect.unit (s := S2048x4096) ![0, o] S2048x512.size inb) (ix2 k l) = x2 (ix2 k (⟨o + l.val, by omega⟩ : Fin 4096)) := by
  refine congrArg x2 (idx2_ext (n := 2048) (m := 4096) _ _ _ ?_ ?_)
  · show 0 + 1 * k.val = k.val; omega
  · show o + 1 * l.val = o + l.val; omega

variable (c : Dev nD) (i : grid0.Coords) (a1 : Memref sig .tc .vmem S512x2048 .f32) (h1 : a1.IsWhole) (a2 : Memref sig .tc .vmem S1x2048 .f32) (h2 : a2.IsWhole) (a3 : Memref sig .tc .vmem S2048x4096 .bf16) (h3 : a3.IsWhole) (a4 : Memref sig .tc .vmem S16x1024 .f32) (h4 : a4.IsWhole) (a5 : Memref sig .tc .vmem S4x256x256 .bf16) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .f32) (h9 : a9.IsWhole) (a10 : Memref sig .tc .vmem S512x1024 .f32) (h10 : a10.IsWhole) (a11 : Memref sig .tc .vmem S512x1024 .bf16) (h11 : a11.IsWhole) (a12 : Memref sig .tc .vmem S512x2048 .bf16) (h12 : a12.IsWhole) (a13 : Memref sig .tc .vmem S528x1024 .f32) (h13 : a13.IsWhole) (a14 : Memref sig .tc .vmem S512x1024 .bf16) (h14 : a14.IsWhole)
variable (x0 : Vec Ideal S512x2048 .f32) (x1 : Vec Ideal S1x2048 .f32) (x2 : Vec Ideal S2048x4096 .bf16) (x3 : Vec Ideal S16x1024 .f32) (x4 : Vec Ideal S4x256x256 .bf16) (x5 : Vec Ideal S1x1024 .f32) (xs1 : Vec Ideal S528x1024 .f32)

theorem outA6 (hc0 : cond0_0 i) :
    out0_A_6 c i a1 h1 a2 h2 a3 h3 a4 h4 a5 h5 a6 h6 a7 h7 a8 h8 a9 h9 a10 h10 a11 h11 a12 h12 a13 h13 a14 h14 hc0 x0 x1 x2 x3 x4 x5 = colsQ (k0_pay3 x0 x1) x2 := by
  unfold out0_A_6
  rw [View.read_writes_eq_canon _ _ _ (cover0_A_6 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay5_at _ x2 _ fun k l => ld_cols x2 512 (by decide) _ k l) (pay4_at _ x2 _ fun k l => ld_cols x2 0 (by decide) _ k l)

theorem outA7 (hc0 : cond0_0 i) :
    out0_A_7 c i a1 h1 a2 h2 a3 h3 a4 h4 a5 h5 a6 h6 a7 h7 a8 h8 a9 h9 a10 h10 a11 h11 a12 h12 a13 h13 a14 h14 hc0 x0 x1 x2 x3 x4 x5 = cols 1 (k0_pay3 x0 x1) x2 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay7_at _ x2 _ fun k l => ld_cols x2 1536 (by decide) _ k l) (pay6_at _ x2 _ fun k l => ld_cols x2 1024 (by decide) _ k l)

theorem outA8 (hc0 : cond0_0 i) :
    out0_A_8 c i a1 h1 a2 h2 a3 h3 a4 h4 a5 h5 a6 h6 a7 h7 a8 h8 a9 h9 a10 h10 a11 h11 a12 h12 a13 h13 a14 h14 hc0 x0 x1 x2 x3 x4 x5 = cols 2 (k0_pay3 x0 x1) x2 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay9_at _ x2 _ fun k l => ld_cols x2 2560 (by decide) _ k l) (pay8_at _ x2 _ fun k l => ld_cols x2 2048 (by decide) _ k l)

theorem outA9 (hc0 : cond0_0 i) :
    out0_A_9 c i a1 h1 a2 h2 a3 h3 a4 h4 a5 h5 a6 h6 a7 h7 a8 h8 a9 h9 a10 h10 a11 h11 a12 h12 a13 h13 a14 h14 hc0 x0 x1 x2 x3 x4 x5 = cols 3 (k0_pay3 x0 x1) x2 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay11_at _ x2 _ fun k l => ld_cols x2 3584 (by decide) _ k l) (pay10_at _ x2 _ fun k l => ld_cols x2 3072 (by decide) _ k l)

theorem outB6 (hc0 : ¬cond0_0 i) :
    out0_B_6 c i a1 h1 a2 h2 a3 h3 a4 h4 a5 h5 a6 h6 a7 h7 a8 h8 a9 h9 a10 h10 a11 h11 a12 h12 a13 h13 a14 h14 hc0 x0 x1 x2 x3 x4 x5 xs1 = colsQ (k0_pay3 x0 x1) x2 := by
  unfold out0_B_6
  rw [View.read_writes_eq_canon _ _ _ (cover0_B_6 c i a1 h1 a2 h2 a3 h3 a4 h4 a5 h5 a6 h6 a7 h7 a8 h8 a9 h9 a10 h10 a11 h11 a12 h12 a13 h13 a14 h14 hc0 x0 x1 x2 x3 x4 x5 xs1)]
  unfold kernelRun0_B
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay5_at _ x2 _ fun k l => ld_cols x2 512 (by decide) _ k l) (pay4_at _ x2 _ fun k l => ld_cols x2 0 (by decide) _ k l)

theorem outB7 (hc0 : ¬cond0_0 i) :
    out0_B_7 c i a1 h1 a2 h2 a3 h3 a4 h4 a5 h5 a6 h6 a7 h7 a8 h8 a9 h9 a10 h10 a11 h11 a12 h12 a13 h13 a14 h14 hc0 x0 x1 x2 x3 x4 x5 xs1 = cols 1 (k0_pay3 x0 x1) x2 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 a14 h14 hc0 x0 x1 x2 x3 x4 x5 xs1)]
  unfold kernelRun0_B
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay7_at _ x2 _ fun k l => ld_cols x2 1536 (by decide) _ k l) (pay6_at _ x2 _ fun k l => ld_cols x2 1024 (by decide) _ k l)

theorem outB8 (hc0 : ¬cond0_0 i) :
    out0_B_8 c i a1 h1 a2 h2 a3 h3 a4 h4 a5 h5 a6 h6 a7 h7 a8 h8 a9 h9 a10 h10 a11 h11 a12 h12 a13 h13 a14 h14 hc0 x0 x1 x2 x3 x4 x5 xs1 = cols 2 (k0_pay3 x0 x1) x2 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc0 x0 x1 x2 x3 x4 x5 xs1)]
  unfold kernelRun0_B
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay9_at _ x2 _ fun k l => ld_cols x2 2560 (by decide) _ k l) (pay8_at _ x2 _ fun k l => ld_cols x2 2048 (by decide) _ k l)

theorem outB9 (hc0 : ¬cond0_0 i) :
    out0_B_9 c i a1 h1 a2 h2 a3 h3 a4 h4 a5 h5 a6 h6 a7 h7 a8 h8 a9 h9 a10 h10 a11 h11 a12 h12 a13 h13 a14 h14 hc0 x0 x1 x2 x3 x4 x5 xs1 = cols 3 (k0_pay3 x0 x1) x2 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc0 x0 x1 x2 x3 x4 x5 xs1)]
  unfold kernelRun0_B
  dsimp only
  sl_unfold_words
  simp only [View.readCov_unit_zero (S := S512x2048) _ hz, View.readAt_eq_ld, h1.read_unread, h2.read_unread, h3.read_unread,
    View.ld_unit_zero (S := S512x2048) hz, View.ld_unit_zero (S := S1x2048) hz, shapeCast_self]
  exact canon_halves _ _ _ _ _ (pay11_at _ x2 _ fun k l => ld_cols x2 3584 (by decide) _ k l) (pay10_at _ x2 _ fun k l => ld_cols x2 3072 (by decide) _ k l)

end Cert.InIdeal.Closed

end
-- ==== Proof.InValue.lean ====
module

public import proofs.«01_k».proof.Proof.InBody
public import proofs.«01_k».proof.Proof.Gen.InRefIdeal.Read
public import proofs.«01_k».proof.Proof.Gen.InRefIdeal.Run
public import Idealize.ShloMosaic.Lib.StableHlo.ReadAt
public import proofs.«01_k».proof.Defs

@[expose] public section

set_option maxRecDepth 16384

noncomputable section

/-! The input projection on the prompt: the grid's 32 row tiles fill the four results. -/

namespace Cert.InIdeal.Closed

open Cert.InIdeal Cert.InIdeal.Gen Idealize.ShloMosaic Idealize.ShloMosaic.TcCoe Idealize.SL.Sem
open Idealize.ShloMosaic (Ideal ix1 ix2 ix3 eq_ix2)
open Cert.Spec (hz rms idx2_ext idx3_ext col eighth proj)

/-- The sequence and the position of row `n` of the call. -/
def bIdx (n : Fin 16384) : Fin 8 := ⟨n.val / 2048, by omega⟩
def rIdx (n : Fin 16384) : Fin 2048 := ⟨n.val % 2048, by omega⟩

section
variable (X0 : S8x2048x2048.Idx → EReal) (X1 : S1x2048.Idx → EReal) (X2 : S1x2048x4096.Idx → EReal)

/-- One quarter of the projection, row by row. -/
def specP (p : Fin 4) (i : S16384x1024.Idx) : EReal := proj X0 X1 X2 (bIdx (i 0)) (rIdx (i 0)) (col p (i 1))

/-- The queries, scaled. -/
def specQ (i : S16384x1024.Idx) : EReal := proj X0 X1 X2 (bIdx (i 0)) (rIdx (i 0)) (col 0 (i 1)) * eighth

/-- A tile whose rows are rows of the arrays holds a tile of the projection. -/
theorem cols_rows (x0 : Vec Ideal S512x2048 .f32) (x1 : Vec Ideal S1x2048 .f32) (x2 : Vec Ideal S2048x4096 .bf16) (r : Fin 512) (n : Fin 16384)
    (h0 : ∀ l, x0 (ix2 r l) = X0 (ix3 (bIdx n) (rIdx n) l)) (h1 : ∀ l, x1 (ix2 (0 : Fin 1) l) = X1 (ix2 (0 : Fin 1) l))
    (h2 : ∀ k j, x2 (ix2 k j) = X2 (ix3 (0 : Fin 1) k j)) (p : Fin 4) (l : Fin 1024) :
    cols p (k0_pay3 (F := Ideal) x0 x1) x2 (ix2 r l) = specP X0 X1 X2 p (ix2 n l) := by
  unfold cols specP proj
  refine Finset.sum_congr rfl fun k _ => ?_
  show k0_pay3 (F := Ideal) x0 x1 (ix2 r k) * x2 (ix2 k (col p l)) = rms _ _ k * X2 (ix3 (0 : Fin 1) k (col p l))
  rw [norm_at, h2]
  exact congrArg (fun a : EReal => a * X2 (ix3 (0 : Fin 1) k (col p l))) (congrArg₂ (fun a b => rms a b k) (funext h0) (funext h1))

theorem colsQ_rows (x0 : Vec Ideal S512x2048 .f32) (x1 : Vec Ideal S1x2048 .f32) (x2 : Vec Ideal S2048x4096 .bf16) (r : Fin 512) (n : Fin 16384)
    (h0 : ∀ l, x0 (ix2 r l) = X0 (ix3 (bIdx n) (rIdx n) l)) (h1 : ∀ l, x1 (ix2 (0 : Fin 1) l) = X1 (ix2 (0 : Fin 1) l))
    (h2 : ∀ k j, x2 (ix2 k j) = X2 (ix3 (0 : Fin 1) k j)) (l : Fin 1024) :
    colsQ (k0_pay3 (F := Ideal) x0 x1) x2 (ix2 r l) = specQ X0 X1 X2 (ix2 n l) :=
  congrArg (fun a : EReal => a * eighth) (cols_rows X0 X1 X2 x0 x1 x2 r n h0 h1 h2 0 l)

end

variable (m : (ℓ : Loc nD τ sig) → Buf (Elt Ideal) ℓ)

theorem V_x (c : Dev nD) (n : Fin 16384) (l : Fin 2048) :
    (V m c main_v1) (ix2 n l) = m ((c : Thread nD τ).loc main_arg0) (ix3 (bIdx n) (rIdx n) l) := by
  unfold V
  after_reads_at
  pointwise [bIdx, rIdx]

theorem V_g (c : Dev nD) (l : Fin 2048) :
    (V m c main_v3) (ix2 (0 : Fin 1) l) = m ((c : Thread nD τ).loc main_arg1) (ix2 (0 : Fin 1) l) := by
  unfold V
  after_reads_at

theorem V_w (c : Dev nD) (a : Fin 2048) (b : Fin 4096) :
    (V m c main_v5) (ix2 a b) = m ((c : Thread nD τ).loc main_arg2) (ix3 (0 : Fin 1) a b) := by
  unfold V
  after_reads_at

theorem index_rows : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) := by
  decide +kernel

theorem t_lt (t : Fin cfg0.N) : t.val < 32 := by have := t.isLt; have h : cfg0.N = 32 := N_0; omega

/-- Row `r` of point `t`'s tile. -/
def rowOf (t : Fin cfg0.N) (r : Fin 512) : Fin 16384 := ⟨512 * t.val + r.val, by have := t_lt t; omega⟩

theorem blk0 (c : Dev nD) (t : Fin cfg0.N) (r : Fin 512) (l : Fin 2048) :
    iblk m c 0 t (ix2 r l) = m ((c : Thread nD τ).loc main_arg0) (ix3 (bIdx (rowOf t r)) (rIdx (rowOf t r)) l) := by
  rw [← V_x m c]
  unfold iblk
  rw [View.read_apply]
  show V m c main_v1 _ = _
  congr 1
  obtain ⟨⟨h0, h1⟩, -⟩ := index_rows t
  refine idx2_ext _ _ _ ?_ ?_
  · show win0_0.index t 0 * 512 + 1 * r.val = 512 * t.val + r.val; rw [h0]; omega
  · show win0_0.index t 1 * 2048 + 1 * l.val = l.val; rw [h1]; omega

theorem blk1 (c : Dev nD) (t : Fin cfg0.N) (l : Fin 2048) :
    iblk m c 1 t (ix2 (0 : Fin 1) l) = m ((c : Thread nD τ).loc main_arg1) (ix2 (0 : Fin 1) l) := by
  rw [← V_g m c l]
  unfold iblk
  rw [View.read_apply]
  show V m c main_v3 _ = _
  congr 1
  obtain ⟨-, ⟨h0, h1⟩, -⟩ := index_rows t
  refine idx2_ext _ _ _ ?_ ?_
  · show win0_1.index t 0 * 1 + 1 * 0 = 0; rw [h0]
  · show win0_1.index t 1 * 2048 + 1 * l.val = l.val; rw [h1]; omega

theorem blk2 (c : Dev nD) (t : Fin cfg0.N) (a : Fin 2048) (b : Fin 4096) :
    iblk m c 2 t (ix2 a b) = m ((c : Thread nD τ).loc main_arg2) (ix3 (0 : Fin 1) a b) := by
  rw [← V_w m c a b]
  unfold iblk
  rw [View.read_apply]
  show V m c main_v5 _ = _
  congr 1
  obtain ⟨-, -, ⟨h0, h1⟩, -⟩ := index_rows t
  refine idx2_ext _ _ _ ?_ ?_
  · show win0_2.index t 0 * 2048 + 1 * a.val = a.val; rw [h0]; omega
  · show win0_2.index t 1 * 4096 + 1 * b.val = b.val; rw [h1]; omega

/-- Output 0, over the arguments. -/
def G6 (c : Dev nD) : Buf (Elt Ideal) ((c : Thread nD τ).loc main_v10_0) := specQ (m ((c : Thread nD τ).loc main_arg0)) (m ((c : Thread nD τ).loc main_arg1)) (m ((c : Thread nD τ).loc main_arg2))

theorem stored6 (c : Dev nD) (t : Fin cfg0.N) (r : Fin 512) (l : Fin 1024) :
    colsQ (k0_pay3 (F := Ideal) (iblk m c 0 t) (iblk m c 1 t)) (iblk m c 2 t) (ix2 r l) = G6 m c (ix2 (rowOf t r) l) :=
  colsQ_rows _ _ _ _ _ _ r (rowOf t r) (fun l => blk0 m c t r l) (fun l => blk1 m c t l) (fun k j => blk2 m c t k j) l

theorem flushed6_tile (c : Dev nD) (t : Fin cfg0.N) :
    (dats m 0 c).flushed 6 t = (cfg0.win 6).cut (grid0.coords t) (colsQ (k0_pay3 (F := Ideal) (iblk m c 0 t) (iblk m c 1 t)) (iblk m c 2 t)) := by
  by_cases hc : t.val % 4 = 0
  · rw [Value.flushed6_A m c t hc, outA6]
  · rw [Value.flushed6_B m c t hc, outB6]

theorem flushed6_eq (c : Dev nD) (t : Fin cfg0.N) :
    (dats m 0 c).flushed 6 t = ((cfg0.win 6).blk t).view.read (Elt Ideal) (G6 m c) := by
  rw [flushed6_tile]
  funext y
  rw [View.read_apply]
  obtain ⟨-, -, -, ⟨h0, h1⟩, -⟩ := index_rows t
  have e : ((cfg0.win 6).blk t).view.emb y = ix2 (rowOf t (y 0)) (y 1) := by
    refine idx2_ext _ _ _ ?_ ?_
    · show win0_6.index t 0 * 512 + 1 * (y 0).val = 512 * t.val + (y 0).val; rw [h0]; omega
    · show win0_6.index t 1 * 1024 + 1 * (y 1).val = (y 1).val; rw [h1]; omega
  rw [e]
  refine Eq.trans ?_ (stored6 m c t (y 0) (y 1))
  exact congrArg (colsQ (k0_pay3 (F := Ideal) (iblk m c 0 t) (iblk m c 1 t)) (iblk m c 2 t)) (idx2_ext (n := 512) (m := 1024) y (y 0) (y 1) rfl rfl)

theorem final6_o (c : Dev nD) : (dats m 0 c).arrAt 6 cfg0.N = G6 m c :=
  (dats m 0 c).arrAt_eq_of_cover 6 (G6 m c) (fun t _ => flushed6_eq m c t) fun i => by
    have hi0 : (i 0 : Nat) < 16384 := (i 0).isLt
    have hi1 : (i 1 : Nat) < 1024 := (i 1).isLt
    let t : Fin cfg0.N := ⟨(i 0 : Nat) / 512, by rw [show cfg0.N = 32 from N_0]; omega⟩
    have hv : t.val = (i 0 : Nat) / 512 := rfl
    obtain ⟨-, -, -, ⟨h0, h1⟩, -⟩ := index_rows t
    refine ⟨t, flush0_6 t, ?_⟩
    show i ∈ ((View.whole main_v10_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [h0]; omega
    | ⟨1, _⟩ =>
      show win0_6.index t 1 * 1024 ≤ (i 1 : Nat) ∧ (i 1 : Nat) < win0_6.index t 1 * 1024 + 1024
      rw [h1]; omega

/-- Output 1, over the arguments. -/
def G7 (c : Dev nD) : Buf (Elt Ideal) ((c : Thread nD τ).loc main_v10_1) := specP (m ((c : Thread nD τ).loc main_arg0)) (m ((c : Thread nD τ).loc main_arg1)) (m ((c : Thread nD τ).loc main_arg2)) 1

theorem stored7 (c : Dev nD) (t : Fin cfg0.N) (r : Fin 512) (l : Fin 1024) :
    cols 1 (k0_pay3 (F := Ideal) (iblk m c 0 t) (iblk m c 1 t)) (iblk m c 2 t) (ix2 r l) = G7 m c (ix2 (rowOf t r) l) :=
  cols_rows _ _ _ _ _ _ r (rowOf t r) (fun l => blk0 m c t r l) (fun l => blk1 m c t l) (fun k j => blk2 m c t k j) 1 l

theorem flushed7_tile (c : Dev nD) (t : Fin cfg0.N) :
    (dats m 0 c).flushed 7 t = (cfg0.win 7).cut (grid0.coords t) (cols 1 (k0_pay3 (F := Ideal) (iblk m c 0 t) (iblk m c 1 t)) (iblk m c 2 t)) := by
  by_cases hc : t.val % 4 = 0
  · rw [Value.flushed7_A m c t hc, outA7]
  · rw [Value.flushed7_B m c t hc, outB7]

theorem flushed7_eq (c : Dev nD) (t : Fin cfg0.N) :
    (dats m 0 c).flushed 7 t = ((cfg0.win 7).blk t).view.read (Elt Ideal) (G7 m c) := by
  rw [flushed7_tile]
  funext y
  rw [View.read_apply]
  obtain ⟨-, -, -, -, ⟨h0, h1⟩, -⟩ := index_rows t
  have e : ((cfg0.win 7).blk t).view.emb y = ix2 (rowOf t (y 0)) (y 1) := by
    refine idx2_ext _ _ _ ?_ ?_
    · show win0_7.index t 0 * 512 + 1 * (y 0).val = 512 * t.val + (y 0).val; rw [h0]; omega
    · show win0_7.index t 1 * 1024 + 1 * (y 1).val = (y 1).val; rw [h1]; omega
  rw [e]
  refine Eq.trans ?_ (stored7 m c t (y 0) (y 1))
  exact congrArg (cols 1 (k0_pay3 (F := Ideal) (iblk m c 0 t) (iblk m c 1 t)) (iblk m c 2 t)) (idx2_ext (n := 512) (m := 1024) y (y 0) (y 1) rfl rfl)

theorem final7_o (c : Dev nD) : (dats m 0 c).arrAt 7 cfg0.N = G7 m c :=
  (dats m 0 c).arrAt_eq_of_cover 7 (G7 m c) (fun t _ => flushed7_eq m c t) fun i => by
    have hi0 : (i 0 : Nat) < 16384 := (i 0).isLt
    have hi1 : (i 1 : Nat) < 1024 := (i 1).isLt
    let t : Fin cfg0.N := ⟨(i 0 : Nat) / 512, by rw [show cfg0.N = 32 from N_0]; omega⟩
    have hv : t.val = (i 0 : Nat) / 512 := rfl
    obtain ⟨-, -, -, -, ⟨h0, h1⟩, -⟩ := index_rows t
    refine ⟨t, flush0_7 t, ?_⟩
    show i ∈ ((View.whole main_v10_1).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [h0]; omega
    | ⟨1, _⟩ =>
      show win0_7.index t 1 * 1024 ≤ (i 1 : Nat) ∧ (i 1 : Nat) < win0_7.index t 1 * 1024 + 1024
      rw [h1]; omega

/-- Output 2, over the arguments. -/
def G8 (c : Dev nD) : Buf (Elt Ideal) ((c : Thread nD τ).loc main_v10_2) := specP (m ((c : Thread nD τ).loc main_arg0)) (m ((c : Thread nD τ).loc main_arg1)) (m ((c : Thread nD τ).loc main_arg2)) 2

theorem stored8 (c : Dev nD) (t : Fin cfg0.N) (r : Fin 512) (l : Fin 1024) :
    cols 2 (k0_pay3 (F := Ideal) (iblk m c 0 t) (iblk m c 1 t)) (iblk m c 2 t) (ix2 r l) = G8 m c (ix2 (rowOf t r) l) :=
  cols_rows _ _ _ _ _ _ r (rowOf t r) (fun l => blk0 m c t r l) (fun l => blk1 m c t l) (fun k j => blk2 m c t k j) 2 l

theorem flushed8_tile (c : Dev nD) (t : Fin cfg0.N) :
    (dats m 0 c).flushed 8 t = (cfg0.win 8).cut (grid0.coords t) (cols 2 (k0_pay3 (F := Ideal) (iblk m c 0 t) (iblk m c 1 t)) (iblk m c 2 t)) := by
  by_cases hc : t.val % 4 = 0
  · rw [Value.flushed8_A m c t hc, outA8]
  · rw [Value.flushed8_B m c t hc, outB8]

theorem flushed8_eq (c : Dev nD) (t : Fin cfg0.N) :
    (dats m 0 c).flushed 8 t = ((cfg0.win 8).blk t).view.read (Elt Ideal) (G8 m c) := by
  rw [flushed8_tile]
  funext y
  rw [View.read_apply]
  obtain ⟨-, -, -, -, -, ⟨h0, h1⟩, -⟩ := index_rows t
  have e : ((cfg0.win 8).blk t).view.emb y = ix2 (rowOf t (y 0)) (y 1) := by
    refine idx2_ext _ _ _ ?_ ?_
    · show win0_8.index t 0 * 512 + 1 * (y 0).val = 512 * t.val + (y 0).val; rw [h0]; omega
    · show win0_8.index t 1 * 1024 + 1 * (y 1).val = (y 1).val; rw [h1]; omega
  rw [e]
  refine Eq.trans ?_ (stored8 m c t (y 0) (y 1))
  exact congrArg (cols 2 (k0_pay3 (F := Ideal) (iblk m c 0 t) (iblk m c 1 t)) (iblk m c 2 t)) (idx2_ext (n := 512) (m := 1024) y (y 0) (y 1) rfl rfl)

theorem final8_o (c : Dev nD) : (dats m 0 c).arrAt 8 cfg0.N = G8 m c :=
  (dats m 0 c).arrAt_eq_of_cover 8 (G8 m c) (fun t _ => flushed8_eq m c t) fun i => by
    have hi0 : (i 0 : Nat) < 16384 := (i 0).isLt
    have hi1 : (i 1 : Nat) < 1024 := (i 1).isLt
    let t : Fin cfg0.N := ⟨(i 0 : Nat) / 512, by rw [show cfg0.N = 32 from N_0]; omega⟩
    have hv : t.val = (i 0 : Nat) / 512 := rfl
    obtain ⟨-, -, -, -, -, ⟨h0, h1⟩, -⟩ := index_rows t
    refine ⟨t, flush0_8 t, ?_⟩
    show i ∈ ((View.whole main_v10_2).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [h0]; omega
    | ⟨1, _⟩ =>
      show win0_8.index t 1 * 1024 ≤ (i 1 : Nat) ∧ (i 1 : Nat) < win0_8.index t 1 * 1024 + 1024
      rw [h1]; omega

/-- Output 3, over the arguments. -/
def G9 (c : Dev nD) : Buf (Elt Ideal) ((c : Thread nD τ).loc main_v10_3) := specP (m ((c : Thread nD τ).loc main_arg0)) (m ((c : Thread nD τ).loc main_arg1)) (m ((c : Thread nD τ).loc main_arg2)) 3

theorem stored9 (c : Dev nD) (t : Fin cfg0.N) (r : Fin 512) (l : Fin 1024) :
    cols 3 (k0_pay3 (F := Ideal) (iblk m c 0 t) (iblk m c 1 t)) (iblk m c 2 t) (ix2 r l) = G9 m c (ix2 (rowOf t r) l) :=
  cols_rows _ _ _ _ _ _ r (rowOf t r) (fun l => blk0 m c t r l) (fun l => blk1 m c t l) (fun k j => blk2 m c t k j) 3 l

theorem flushed9_tile (c : Dev nD) (t : Fin cfg0.N) :
    (dats m 0 c).flushed 9 t = (cfg0.win 9).cut (grid0.coords t) (cols 3 (k0_pay3 (F := Ideal) (iblk m c 0 t) (iblk m c 1 t)) (iblk m c 2 t)) := by
  by_cases hc : t.val % 4 = 0
  · rw [Value.flushed9_A m c t hc, outA9]
  · rw [Value.flushed9_B m c t hc, outB9]

theorem flushed9_eq (c : Dev nD) (t : Fin cfg0.N) :
    (dats m 0 c).flushed 9 t = ((cfg0.win 9).blk t).view.read (Elt Ideal) (G9 m c) := by
  rw [flushed9_tile]
  funext y
  rw [View.read_apply]
  obtain ⟨-, -, -, -, -, -, ⟨h0, h1⟩⟩ := index_rows t
  have e : ((cfg0.win 9).blk t).view.emb y = ix2 (rowOf t (y 0)) (y 1) := by
    refine idx2_ext _ _ _ ?_ ?_
    · show win0_9.index t 0 * 512 + 1 * (y 0).val = 512 * t.val + (y 0).val; rw [h0]; omega
    · show win0_9.index t 1 * 1024 + 1 * (y 1).val = (y 1).val; rw [h1]; omega
  rw [e]
  refine Eq.trans ?_ (stored9 m c t (y 0) (y 1))
  exact congrArg (cols 3 (k0_pay3 (F := Ideal) (iblk m c 0 t) (iblk m c 1 t)) (iblk m c 2 t)) (idx2_ext (n := 512) (m := 1024) y (y 0) (y 1) rfl rfl)

theorem final9_o (c : Dev nD) : (dats m 0 c).arrAt 9 cfg0.N = G9 m c :=
  (dats m 0 c).arrAt_eq_of_cover 9 (G9 m c) (fun t _ => flushed9_eq m c t) fun i => by
    have hi0 : (i 0 : Nat) < 16384 := (i 0).isLt
    have hi1 : (i 1 : Nat) < 1024 := (i 1).isLt
    let t : Fin cfg0.N := ⟨(i 0 : Nat) / 512, by rw [show cfg0.N = 32 from N_0]; omega⟩
    have hv : t.val = (i 0 : Nat) / 512 := rfl
    obtain ⟨-, -, -, -, -, -, ⟨h0, h1⟩⟩ := index_rows t
    refine ⟨t, flush0_9 t, ?_⟩
    show i ∈ ((View.whole main_v10_3).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [h0]; omega
    | ⟨1, _⟩ =>
      show win0_9.index t 1 * 1024 ≤ (i 1 : Nat) ∧ (i 1 : Nat) < win0_9.index t 1 * 1024 + 1024
      rw [h1]; omega

end Cert.InIdeal.Closed

namespace Cert.InRefIdeal.Closed

open Cert.InRefIdeal Cert.InRefIdeal.Gen Cert.InRefIdeal.Read Idealize.ShloMosaic Idealize.ShloMosaic.TcCoe Idealize.SL.Sem
open Idealize.ShloMosaic (Ideal ix1 ix2 ix3 eq_ix2)
open Cert.Spec (rms idx3_ext col eighth proj)
open Cert.InIdeal.Closed (bIdx rIdx specP specQ)

variable (x0 : S8x2048x2048.Idx → EReal) (x1 : S1x2048.Idx → EReal) (x2 : S1x2048x4096.Idx → EReal)

theorem h_at (b : Fin 8) (r : Fin 2048) (l : Fin 2048) :
    val_main_v13 (F := Ideal) x0 x1 (ix3 b r l) = rms (fun l => x0 (ix3 b r l)) (fun l => x1 (ix2 (0 : Fin 1) l)) l := by
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, rms]

theorem proj_at (b : Fin 8) (r : Fin 2048) (n : Fin 4096) :
    val_main_v15 (F := Ideal) x0 x1 x2 (ix3 b r n) = proj x0 x1 x2 b r n := by
  unfold proj
  simp only [← h_at]
  unfold val_main_v15
  generalize val_main_v13 (F := Ideal) x0 x1 = h
  pointwise [val_main_v14]

theorem factor_at (i : S8x2048x1024.Idx) : val_main_v17 (F := Ideal) i = eighth := by
  rw [val_main_v17_apply, val_main_cst_2_apply]
  rfl

theorem res0 (n : Fin 16384) (l : Fin 1024) : val_main_v22 (F := Ideal) x0 x1 x2 (ix2 n l) = specQ x0 x1 x2 (ix2 n l) := by
  rw [val_main_v22_apply, val_main_v18_apply, factor_at, val_main_v16_apply]
  refine congrArg (fun a : EReal => a * eighth) (Eq.trans ?_ (proj_at x0 x1 x2 (bIdx n) (rIdx n) (col 0 l)))
  exact congrArg (val_main_v15 (F := Ideal) x0 x1 x2) (idx3_ext _ _ _ _ (by show (n.val * 1024 + l.val) / 2097152 = n.val / 2048; omega) (by show (n.val * 1024 + l.val) / 1024 % 2048 = n.val % 2048; omega) (by show (n.val * 1024 + l.val) % 1024 = 1024 * 0 + l.val; omega))

theorem res0_fun : val_main_v22 (F := Ideal) x0 x1 x2 = specQ x0 x1 x2 := by
  funext i
  rw [eq_ix2 i]
  exact res0 x0 x1 x2 (i 0) (i 1)

theorem res1 (n : Fin 16384) (l : Fin 1024) : val_main_v23 (F := Ideal) x0 x1 x2 (ix2 n l) = specP x0 x1 x2 1 (ix2 n l) := by
  rw [val_main_v23_apply, val_main_v19_apply]
  refine Eq.trans ?_ (proj_at x0 x1 x2 (bIdx n) (rIdx n) (col 1 l))
  exact congrArg (val_main_v15 (F := Ideal) x0 x1 x2) (idx3_ext _ _ _ _ (by show (n.val * 1024 + l.val) / 2097152 = n.val / 2048; omega) (by show (n.val * 1024 + l.val) / 1024 % 2048 = n.val % 2048; omega) (by show 1024 + (n.val * 1024 + l.val) % 1024 = 1024 * 1 + l.val; omega))

theorem res1_fun : val_main_v23 (F := Ideal) x0 x1 x2 = specP x0 x1 x2 1 := by
  funext i
  rw [eq_ix2 i]
  exact res1 x0 x1 x2 (i 0) (i 1)

theorem res2 (n : Fin 16384) (l : Fin 1024) : val_main_v24 (F := Ideal) x0 x1 x2 (ix2 n l) = specP x0 x1 x2 2 (ix2 n l) := by
  rw [val_main_v24_apply, val_main_v20_apply]
  refine Eq.trans ?_ (proj_at x0 x1 x2 (bIdx n) (rIdx n) (col 2 l))
  exact congrArg (val_main_v15 (F := Ideal) x0 x1 x2) (idx3_ext _ _ _ _ (by show (n.val * 1024 + l.val) / 2097152 = n.val / 2048; omega) (by show (n.val * 1024 + l.val) / 1024 % 2048 = n.val % 2048; omega) (by show 2048 + (n.val * 1024 + l.val) % 1024 = 1024 * 2 + l.val; omega))

theorem res2_fun : val_main_v24 (F := Ideal) x0 x1 x2 = specP x0 x1 x2 2 := by
  funext i
  rw [eq_ix2 i]
  exact res2 x0 x1 x2 (i 0) (i 1)

theorem res3 (n : Fin 16384) (l : Fin 1024) : val_main_v25 (F := Ideal) x0 x1 x2 (ix2 n l) = specP x0 x1 x2 3 (ix2 n l) := by
  rw [val_main_v25_apply, val_main_v21_apply]
  refine Eq.trans ?_ (proj_at x0 x1 x2 (bIdx n) (rIdx n) (col 3 l))
  exact congrArg (val_main_v15 (F := Ideal) x0 x1 x2) (idx3_ext _ _ _ _ (by show (n.val * 1024 + l.val) / 2097152 = n.val / 2048; omega) (by show (n.val * 1024 + l.val) / 1024 % 2048 = n.val % 2048; omega) (by show 3072 + (n.val * 1024 + l.val) % 1024 = 1024 * 3 + l.val; omega))

theorem res3_fun : val_main_v25 (F := Ideal) x0 x1 x2 = specP x0 x1 x2 3 := by
  funext i
  rw [eq_ix2 i]
  exact res3 x0 x1 x2 (i 0) (i 1)

end Cert.InRefIdeal.Closed

namespace Cert.Proof

open Idealize.ShloMosaic Idealize.ShloMosaic.TcCoe Idealize.SL.Sem

/-- The projection's two programs compute one function of the arguments. -/
theorem in_algebraic [Cert.InIdeal.Facts] [Cert.InRefIdeal.Facts] : Cert.algebraic_InIdeal_InRefIdeal := by
  intro m g m' g' _ hag
  refine ⟨fun c => Cert.InIdeal.Closed.G6 m c, fun c => Cert.InIdeal.Closed.G7 m c, fun c => Cert.InIdeal.Closed.G8 m c, fun c => Cert.InIdeal.Closed.G9 m c, ?_, ?_⟩
  · exact (θ_run _ _ _).mono (fun r h c => ⟨(h c).1.trans (Cert.InIdeal.Closed.final6_o m c), (h c).2.1.trans (Cert.InIdeal.Closed.final7_o m c),
      (h c).2.2.1.trans (Cert.InIdeal.Closed.final8_o m c), (h c).2.2.2.1.trans (Cert.InIdeal.Closed.final9_o m c), (h c).2.2.2.2.2⟩) (Cert.InIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.InRefIdeal.Value.run m' g')
    · obtain ⟨e0, e1, e2, e3, e4⟩ := hag c
      rw [Cert.InRefIdeal.Read.val_main_v22_eq, e0, e1, e2]
      exact Cert.InRefIdeal.Closed.res0_fun _ _ _
    · obtain ⟨e0, e1, e2, e3, e4⟩ := hag c
      rw [Cert.InRefIdeal.Read.val_main_v23_eq, e0, e1, e2]
      exact Cert.InRefIdeal.Closed.res1_fun _ _ _
    · obtain ⟨e0, e1, e2, e3, e4⟩ := hag c
      rw [Cert.InRefIdeal.Read.val_main_v24_eq, e0, e1, e2]
      exact Cert.InRefIdeal.Closed.res2_fun _ _ _
    · obtain ⟨e0, e1, e2, e3, e4⟩ := hag c
      rw [Cert.InRefIdeal.Read.val_main_v25_eq, e0, e1, e2]
      exact Cert.InRefIdeal.Closed.res3_fun _ _ _

end Cert.Proof

end
-- ==== Proof.InSampleBody.lean ====
module

public import proofs.«01_k».proof.Proof.Gen.InSampleIdeal.Value
public import proofs.«01_k».proof.Proof.InSpec
public import Idealize.ShloMosaic.Lib.Pointwise

@[expose] public section

set_option maxRecDepth 16384

noncomputable section

/-! The input projection's body: its first four outputs are the normed rows times the four quarters of the weights. -/

namespace Cert.InSampleIdeal.Closed

open Cert.InSampleIdeal Cert.InSampleIdeal.Gen Idealize.ShloMosaic Idealize.ShloMosaic.TcCoe Idealize.SL.Sem
open Cert.Spec (hz idx2_ext col eighth rms)
open Idealize.ShloMosaic (Ideal ix1 ix2 ix3 eq_ix2)

/-- The rows of a tile times one quarter of the weights' columns. -/
def cols (p : Fin 4) (h : Vec Ideal S128x2048 .bf16) (x2 : Vec Ideal S2048x4096 .bf16) : Vec Ideal S128x1024 .f32 := fun j =>
  ∑ k : Fin 2048, h (ix2 (j 0) k) * x2 (ix2 k (col p (j 1)))

/-- The queries' quarter, scaled. -/
def colsQ (h : Vec Ideal S128x2048 .bf16) (x2 : Vec Ideal S2048x4096 .bf16) : Vec Ideal S128x1024 .f32 := fun j =>
  (∑ k : Fin 2048, h (ix2 (j 0) k) * x2 (ix2 k (col 0 (j 1)))) * eighth

/-- Two stores, each of half the columns, leave the tile they are halves of. -/
theorem canon_halves (inb : ∀ a, (![0, 0] : Fin 2 → ℕ) a + S128x512.size a ≤ S128x1024.size a) (inb5 : ∀ a, (![0, 512] : Fin 2 → ℕ) a + S128x512.size a ≤ S128x1024.size a)
    (G : Vec Ideal S128x1024 .f32) (w1 w0 : Vec Ideal S128x512 .f32)
    (e1 : ∀ (r : Fin 128) (l : Fin 512), w1 (ix2 r l) = G (ix2 r (⟨512 + l.val, by omega⟩ : Fin 1024)))
    (e0 : ∀ (r : Fin 128) (l : Fin 512), w0 (ix2 r l) = G (ix2 r (⟨l.val, by omega⟩ : Fin 1024))) :
    View.canon [(⟨Rect.unit (s := S128x1024) ![0, 512] S128x512.size inb5, w1⟩ : View.Piece (Elt Ideal) S128x1024 .f32), ⟨Rect.unit (s := S128x1024) ![0, 0] S128x512.size inb, w0⟩] = G := by
  funext j
  have hj := (j 1).isLt
  change (j 1).val < 1024 at hj
  by_cases h : (j 1).val < 512
  · rw [View.canon_cons_of_not_mem]
    · have e : j = (Rect.unit (s := S128x1024) ![0, 0] S128x512.size inb).emb (ix2 (j 0) (⟨(j 1).val, h⟩ : Fin 512)) := by
        refine (idx2_ext (n := 128) (m := 1024) j (j 0) (j 1) rfl rfl).trans (idx2_ext (n := 128) (m := 1024) _ _ _ ?_ ?_).symm
        · show 0 + 1 * (j 0).val = (j 0).val; omega
        · show 0 + 1 * (j 1).val = (j 1).val; omega
      conv_lhs => rw [e]
      rw [View.canon_cons_emb]
      exact (e0 (j 0) ⟨(j 1).val, h⟩).trans (congrArg G (idx2_ext (n := 128) (m := 1024) j (j 0) (j 1) rfl rfl).symm)
    · rw [Rect.mem_set_unit]
      intro hh
      have := (hh 1).1
      change 512 ≤ (j 1).val at this
      omega
  · have e : j = (Rect.unit (s := S128x1024) ![0, 512] S128x512.size inb5).emb (ix2 (j 0) (⟨(j 1).val - 512, by omega⟩ : Fin 512)) := by
      refine (idx2_ext (n := 128) (m := 1024) j (j 0) (j 1) rfl rfl).trans (idx2_ext (n := 128) (m := 1024) _ _ _ ?_ ?_).symm
      · show 0 + 1 * (j 0).val = (j 0).val; omega
      · show 512 + 1 * ((j 1).val - 512) = (j 1).val; omega
    conv_lhs => rw [e]
    rw [View.canon_cons_emb]
    refine (e1 (j 0) ⟨(j 1).val - 512, by omega⟩).trans (congrArg G ?_)
    refine (idx2_ext (n := 128) (m := 1024) j (j 0) _ rfl ?_).symm
    show (j 1).val = 512 + ((j 1).val - 512); omega

theorem norm_at (x0 : Vec Ideal S128x2048 .f32) (x1 : Vec Ideal S1x2048 .f32) (r : Fin 128) (l : Fin 2048) :
    k0_pay2 (F := Ideal) x0 x1 (ix2 r l) = rms (fun l => x0 (ix2 r l)) (fun l => x1 (ix2 (0 : Fin 1) l)) l := by
  pointwise [k0_pay2, rms]

theorem pay3_at (h : Vec Ideal S128x2048 .bf16) (x2 : Vec Ideal S2048x4096 .bf16) (w : Vec Ideal S2048x512 .bf16)
    (hw : ∀ (k : Fin 2048) (l : Fin 512), w (ix2 k l) = x2 (ix2 k (⟨0 + l.val, by omega⟩ : Fin 4096))) (r : Fin 128) (l : Fin 512) :
    k0_pay3 (F := Ideal) h w (ix2 r l) = colsQ h x2 (ix2 r (⟨l.val, by omega⟩ : Fin 1024)) := by
  have e : k0_pay3 (F := Ideal) h w (ix2 r l) = (∑ k : Fin 2048, h (ix2 r k) * w (ix2 k l)) * eighth := by
    pointwise [k0_pay3, eighth]
  rw [e]
  refine congrArg (fun a : EReal => a * eighth) ?_
  refine Finset.sum_congr rfl fun k _ => ?_
  rw [hw]
  refine congrArg (fun i => h (ix2 r k) * x2 (ix2 k i)) (Fin.ext ?_)
  show 0 + l.val = 1024 * 0 + l.val; omega

theorem pay4_at (h : Vec Ideal S128x2048 .bf16) (x2 : Vec Ideal S2048x4096 .bf16) (w : Vec Ideal S2048x512 .bf16)
    (hw : ∀ (k : Fin 2048) (l : Fin 512), w (ix2 k l) = x2 (ix2 k (⟨512 + l.val, by omega⟩ : Fin 4096))) (r : Fin 128) (l : Fin 512) :
    k0_pay4 (F := Ideal) h w (ix2 r l) = colsQ h x2 (ix2 r (⟨512 + l.val, by omega⟩ : Fin 1024)) := by
  have e : k0_pay4 (F := Ideal) h w (ix2 r l) = (∑ k : Fin 2048, h (ix2 r k) * w (ix2 k l)) * eighth := by
    pointwise [k0_pay4, eighth]
  rw [e]
  refine congrArg (fun a : EReal => a * eighth) ?_
  refine Finset.sum_congr rfl fun k _ => ?_
  rw [hw]
  refine congrArg (fun i => h (ix2 r k) * x2 (ix2 k i)) (Fin.ext ?_)
  show 512 + l.val = 1024 * 0 + (512 + l.val); omega

theorem pay5_at (h : Vec Ideal S128x2048 .bf16) (x2 : Vec Ideal S2048x4096 .bf16) (w : Vec Ideal S2048x512 .bf16)
    (hw : ∀ (k : Fin 2048) (l : Fin 512), w (ix2 k l) = x2 (ix2 k (⟨1024 + l.val, by omega⟩ : Fin 4096))) (r : Fin 128) (l : Fin 512) :
    k0_pay5 (F := Ideal) h w (ix2 r l) = cols 1 h x2 (ix2 r (⟨l.val, by omega⟩ : Fin 1024)) := by
  have e : k0_pay5 (F := Ideal) h w (ix2 r l) = ∑ k : Fin 2048, h (ix2 r k) * w (ix2 k l) := by
    pointwise [k0_pay5]
  rw [e]
  show _ = ∑ k : Fin 2048, _
  refine Finset.sum_congr rfl fun k _ => ?_
  rw [hw]
  refine congrArg (fun i => h (ix2 r k) * x2 (ix2 k i)) (Fin.ext ?_)
  show 1024 + l.val = 1024 * 1 + l.val; omega

theorem pay6_at (h : Vec Ideal S128x2048 .bf16) (x2 : Vec Ideal S2048x4096 .bf16) (w : Vec Ideal S2048x512 .bf16)
    (hw : ∀ (k : Fin 2048) (l : Fin 512), w (ix2 k l) = x2 (ix2 k (⟨1536 + l.val, by omega⟩ : Fin 4096))) (r : Fin 128) (l : Fin 512) :
    k0_pay6 (F := Ideal) h w (ix2 r l) = cols 1 h x2 (ix2 r (⟨512 + l.val, by omega⟩ : Fin 1024)) := by
  have e : k0_pay6 (F := Ideal) h w (ix2 r l) = ∑ k : Fin 2048, h (ix2 r k) * w (ix2 k l) := by
    pointwise [k0_pay6]
  rw [e]
  show _ = ∑ k : Fin 2048, _
  refine Finset.sum_congr rfl fun k _ => ?_
  rw [hw]
  refine congrArg (fun i => h (ix2 r k) * x2 (ix2 k i)) (Fin.ext ?_)
  show 1536 + l.val = 1024 * 1 + (512 + l.val); omega

theorem pay7_at (h : Vec Ideal S128x2048 .bf16) (x2 : Vec Ideal S2048x4096 .bf16) (w : Vec Ideal S2048x512 .bf16)
    (hw : ∀ (k : Fin 2048) (l : Fin 512), w (ix2 k l) = x2 (ix2 k (⟨2048 + l.val, by omega⟩ : Fin 4096))) (r : Fin 128) (l : Fin 512) :
    k0_pay7 (F := Ideal) h w (ix2 r l) = cols 2 h x2 (ix2 r (⟨l.val, by omega⟩ : Fin 1024)) := by
  have e : k0_pay7 (F := Ideal) h w (ix2 r l) = ∑ k : Fin 2048, h (ix2 r k) * w (ix2 k l) := by
    pointwise [k0_pay7]
  rw [e]
  show _ = ∑ k : Fin 2048, _
  refine Finset.sum_congr rfl fun k _ => ?_
  rw [hw]
  refine congrArg (fun i => h (ix2 r k) * x2 (ix2 k i)) (Fin.ext ?_)
  show 2048 + l.val = 1024 * 2 + l.val; omega

theorem pay8_at (h : Vec Ideal S128x2048 .bf16) (x2 : Vec Ideal S2048x4096 .bf16) (w : Vec Ideal S2048x512 .bf16)
    (hw : ∀ (k : Fin 2048) (l : Fin 512), w (ix2 k l) = x2 (ix2 k (⟨2560 + l.val, by omega⟩ : Fin 4096))) (r : Fin 128) (l : Fin 512) :
    k0_pay8 (F := Ideal) h w (ix2 r l) = cols 2 h x2 (ix2 r (⟨512 + l.val, by omega⟩ : Fin 1024)) := by
  have e : k0_pay8 (F := Ideal) h w (ix2 r l) = ∑ k : Fin 2048, h (ix2 r k) * w (ix2 k l) := by
    pointwise [k0_pay8]
  rw [e]
  show _ = ∑ k : Fin 2048, _
  refine Finset.sum_congr rfl fun k _ => ?_
  rw [hw]
  refine congrArg (fun i => h (ix2 r k) * x2 (ix2 k i)) (Fin.ext ?_)
  show 2560 + l.val = 1024 * 2 + (512 + l.val); omega

theorem pay9_at (h : Vec Ideal S128x2048 .bf16) (x2 : Vec Ideal S2048x4096 .bf16) (w : Vec Ideal S2048x512 .bf16)
    (hw : ∀ (k : Fin 2048) (l : Fin 512), w (ix2 k l) = x2 (ix2 k (⟨3072 + l.val, by omega⟩ : Fin 4096))) (r : Fin 128) (l : Fin 512) :
    k0_pay9 (F := Ideal) h w (ix2 r l) = cols 3 h x2 (ix2 r (⟨l.val, by omega⟩ : Fin 1024)) := by
  have e : k0_pay9 (F := Ideal) h w (ix2 r l) = ∑ k : Fin 2048, h (ix2 r k) * w (ix2 k l) := by
    pointwise [k0_pay9]
  rw [e]
  show _ = ∑ k : Fin 2048, _
  refine Finset.sum_congr rfl fun k _ => ?_
  rw [hw]
  refine congrArg (fun i => h (ix2 r k) * x2 (ix2 k i)) (Fin.ext ?_)
  show 3072 + l.val = 1024 * 3 + l.val; omega

theorem pay10_at (h : Vec Ideal S128x2048 .bf16) (x2 : Vec Ideal S2048x4096 .bf16) (w : Vec Ideal S2048x512 .bf16)
    (hw : ∀ (k : Fin 2048) (l : Fin 512), w (ix2 k l) = x2 (ix2 k (⟨3584 + l.val, by omega⟩ : Fin 4096))) (r : Fin 128) (l : Fin 512) :
    k0_pay10 (F := Ideal) h w (ix2 r l) = cols 3 h x2 (ix2 r (⟨512 + l.val, by omega⟩ : Fin 1024)) := by
  have e : k0_pay10 (F := Ideal) h w (ix2 r l) = ∑ k : Fin 2048, h (ix2 r k) * w (ix2 k l) := by
    pointwise [k0_pay10]
  rw [e]
  show _ = ∑ k : Fin 2048, _
  refine Finset.sum_congr rfl fun k _ => ?_
  rw [hw]
  refine congrArg (fun i => h (ix2 r k) * x2 (ix2 k i)) (Fin.ext ?_)
  show 3584 + l.val = 1024 * 3 + (512 + l.val); omega

/-- A block of the weights read through a rectangle of whole rows. -/
theorem ld_cols (x2 : Vec Ideal S2048x4096 .bf16) (o : ℕ) (ho : o + 512 ≤ 4096) (inb : ∀ a, (![0, o] : Fin 2 → ℕ) a + S2048x512.size a ≤ S2048x4096.size a)
    (k : Fin 2048) (l : Fin 512) :
    View.ld x2 (Rect.unit (s := S2048x4096) ![0, o] S2048x512.size inb) (ix2 k l) = x2 (ix2 k (⟨o + l.val, by omega⟩ : Fin 4096)) := by
  refine congrArg x2 (idx2_ext (n := 2048) (m := 4096) _ _ _ ?_ ?_)
  · show 0 + 1 * k.val = k.val; omega
  · show o + 1 * l.val = o + l.val; omega

variable (c : Dev nD) (i : grid0.Coords) (a1 : Memref sig .tc .vmem S128x2048 .f32) (h1 : a1.IsWhole) (a2 : Memref sig .tc .vmem S1x2048 .f32) (h2 : a2.IsWhole) (a3 : Memref sig .tc .vmem S2048x4096 .bf16) (h3 : a3.IsWhole) (a4 : Memref sig .tc .vmem S512x1024 .f32) (h4 : a4.IsWhole) (a5 : Memref sig .tc .vmem S4x256x256 .bf16) (h5 : a5.IsWhole) (a6 : Memref sig .tc .vmem S1x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .f32) (h9 : a9.IsWhole) (a10 : Memref sig .tc .vmem S128x1024 .f32) (h10 : a10.IsWhole) (a11 : Memref sig .tc .vmem S128x1024 .bf16) (h11 : a11.IsWhole) (a12 : Memref sig .tc .vmem S128x2048 .bf16) (h12 : a12.IsWhole) (a13 : Memref sig .tc .vmem S640x1024 .f32) (h13 : a13.IsWhole) (a14 : Memref sig .tc .vmem S128x1024 .bf16) (h14 : a14.IsWhole)
variable (x0 : Vec Ideal S128x2048 .f32) (x1 : Vec Ideal S1x2048 .f32) (x2 : Vec Ideal S2048x4096 .bf16) (x3 : Vec Ideal S512x1024 .f32) (x4 : Vec Ideal S4x256x256 .bf16) (x5 : Vec Ideal S1x1024 .f32)

theorem outA6 (hc0 : cond0_0 i) :
    out0_A_6 c i a1 h1 a2 h2 a3 h3 a4 h4 a5 h5 a6 h6 a7 h7 a8 h8 a9 h9 a10 h10 a11 h11 a12 h12 a13 h13 a14 h14 hc0 x0 x1 x2 x3 x4 x5 = colsQ (k0_pay2 x0 x1) x2 := by
  unfold out0_A_6
  rw [View.read_writes_eq_canon _ _ _ (cover0_A_6 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S128x2048) _ hz, View.readAt_eq_ld, h1.read_unread, h2.read_unread, h3.read_unread,
    View.ld_unit_zero (S := S128x2048) hz, View.ld_unit_zero (S := S1x2048) hz, shapeCast_self]
  exact canon_halves _ _ _ _ _ (pay4_at _ x2 _ fun k l => ld_cols x2 512 (by decide) _ k l) (pay3_at _ x2 _ fun k l => ld_cols x2 0 (by decide) _ k l)

theorem outA7 (hc0 : cond0_0 i) :
    out0_A_7 c i a1 h1 a2 h2 a3 h3 a4 h4 a5 h5 a6 h6 a7 h7 a8 h8 a9 h9 a10 h10 a11 h11 a12 h12 a13 h13 a14 h14 hc0 x0 x1 x2 x3 x4 x5 = cols 1 (k0_pay2 x0 x1) x2 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S128x2048) _ hz, View.readAt_eq_ld, h1.read_unread, h2.read_unread, h3.read_unread,
    View.ld_unit_zero (S := S128x2048) hz, View.ld_unit_zero (S := S1x2048) hz, shapeCast_self]
  exact canon_halves _ _ _ _ _ (pay6_at _ x2 _ fun k l => ld_cols x2 1536 (by decide) _ k l) (pay5_at _ x2 _ fun k l => ld_cols x2 1024 (by decide) _ k l)

theorem outA8 (hc0 : cond0_0 i) :
    out0_A_8 c i a1 h1 a2 h2 a3 h3 a4 h4 a5 h5 a6 h6 a7 h7 a8 h8 a9 h9 a10 h10 a11 h11 a12 h12 a13 h13 a14 h14 hc0 x0 x1 x2 x3 x4 x5 = cols 2 (k0_pay2 x0 x1) x2 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S128x2048) _ hz, View.readAt_eq_ld, h1.read_unread, h2.read_unread, h3.read_unread,
    View.ld_unit_zero (S := S128x2048) hz, View.ld_unit_zero (S := S1x2048) hz, shapeCast_self]
  exact canon_halves _ _ _ _ _ (pay8_at _ x2 _ fun k l => ld_cols x2 2560 (by decide) _ k l) (pay7_at _ x2 _ fun k l => ld_cols x2 2048 (by decide) _ k l)

theorem outA9 (hc0 : cond0_0 i) :
    out0_A_9 c i a1 h1 a2 h2 a3 h3 a4 h4 a5 h5 a6 h6 a7 h7 a8 h8 a9 h9 a10 h10 a11 h11 a12 h12 a13 h13 a14 h14 hc0 x0 x1 x2 x3 x4 x5 = cols 3 (k0_pay2 x0 x1) x2 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  simp only [View.readCov_unit_zero (S := S128x2048) _ hz, View.readAt_eq_ld, h1.read_unread, h2.read_unread, h3.read_unread,
    View.ld_unit_zero (S := S128x2048) hz, View.ld_unit_zero (S := S1x2048) hz, shapeCast_self]
  exact canon_halves _ _ _ _ _ (pay10_at _ x2 _ fun k l => ld_cols x2 3584 (by decide) _ k l) (pay9_at _ x2 _ fun k l => ld_cols x2 3072 (by decide) _ k l)

end Cert.InSampleIdeal.Closed

end
-- ==== Proof.InSampleValue.lean ====
module

public import proofs.«01_k».proof.Proof.InSampleBody
public import proofs.«01_k».proof.Proof.Gen.InSampleRefIdeal.Read
public import proofs.«01_k».proof.Proof.Gen.InSampleRefIdeal.Run
public import Idealize.ShloMosaic.Lib.StableHlo.ReadAt
public import proofs.«01_k».proof.Defs

@[expose] public section

set_option maxRecDepth 16384

noncomputable section

/-! The input projection on the samples: one tile of 128 rows, token by token. -/

namespace Cert.InSampleIdeal.Closed

open Cert.InSampleIdeal Cert.InSampleIdeal.Gen Idealize.ShloMosaic Idealize.ShloMosaic.TcCoe Idealize.SL.Sem
open Idealize.ShloMosaic (Ideal ix1 ix2 ix3 eq_ix2)
open Cert.Spec (hz rms idx2_ext idx3_ext col eighth proj)

/-- The sequence and the position of row `n` of the call. -/
def bIdx (n : Fin 128) : Fin 32 := ⟨n.val % 32, by omega⟩
def rIdx (n : Fin 128) : Fin 4 := ⟨n.val / 32, by omega⟩

section
variable (X0 : S32x4x2048.Idx → EReal) (X1 : S1x2048.Idx → EReal) (X2 : S1x2048x4096.Idx → EReal)

/-- One quarter of the projection, row by row. -/
def specP (p : Fin 4) (i : S128x1024.Idx) : EReal := proj X0 X1 X2 (bIdx (i 0)) (rIdx (i 0)) (col p (i 1))

/-- The queries, scaled. -/
def specQ (i : S128x1024.Idx) : EReal := proj X0 X1 X2 (bIdx (i 0)) (rIdx (i 0)) (col 0 (i 1)) * eighth

/-- A tile whose rows are rows of the arrays holds a tile of the projection. -/
theorem cols_rows (x0 : Vec Ideal S128x2048 .f32) (x1 : Vec Ideal S1x2048 .f32) (x2 : Vec Ideal S2048x4096 .bf16) (r : Fin 128) (n : Fin 128)
    (h0 : ∀ l, x0 (ix2 r l) = X0 (ix3 (bIdx n) (rIdx n) l)) (h1 : ∀ l, x1 (ix2 (0 : Fin 1) l) = X1 (ix2 (0 : Fin 1) l))
    (h2 : ∀ k j, x2 (ix2 k j) = X2 (ix3 (0 : Fin 1) k j)) (p : Fin 4) (l : Fin 1024) :
    cols p (k0_pay2 (F := Ideal) x0 x1) x2 (ix2 r l) = specP X0 X1 X2 p (ix2 n l) := by
  unfold cols specP proj
  refine Finset.sum_congr rfl fun k _ => ?_
  show k0_pay2 (F := Ideal) x0 x1 (ix2 r k) * x2 (ix2 k (col p l)) = rms _ _ k * X2 (ix3 (0 : Fin 1) k (col p l))
  rw [norm_at, h2]
  exact congrArg (fun a : EReal => a * X2 (ix3 (0 : Fin 1) k (col p l))) (congrArg₂ (fun a b => rms a b k) (funext h0) (funext h1))

theorem colsQ_rows (x0 : Vec Ideal S128x2048 .f32) (x1 : Vec Ideal S1x2048 .f32) (x2 : Vec Ideal S2048x4096 .bf16) (r : Fin 128) (n : Fin 128)
    (h0 : ∀ l, x0 (ix2 r l) = X0 (ix3 (bIdx n) (rIdx n) l)) (h1 : ∀ l, x1 (ix2 (0 : Fin 1) l) = X1 (ix2 (0 : Fin 1) l))
    (h2 : ∀ k j, x2 (ix2 k j) = X2 (ix3 (0 : Fin 1) k j)) (l : Fin 1024) :
    colsQ (k0_pay2 (F := Ideal) x0 x1) x2 (ix2 r l) = specQ X0 X1 X2 (ix2 n l) :=
  congrArg (fun a : EReal => a * eighth) (cols_rows X0 X1 X2 x0 x1 x2 r n h0 h1 h2 0 l)

end

variable (m : (ℓ : Loc nD τ sig) → Buf (Elt Ideal) ℓ)

theorem V_x (c : Dev nD) (n : Fin 128) (l : Fin 2048) :
    (V m c main_v1) (ix2 n l) = m ((c : Thread nD τ).loc main_arg0) (ix3 (bIdx n) (rIdx n) l) := by
  unfold V
  after_reads_at
  pointwise [bIdx, rIdx]

theorem V_g (c : Dev nD) (l : Fin 2048) :
    (V m c main_v3) (ix2 (0 : Fin 1) l) = m ((c : Thread nD τ).loc main_arg1) (ix2 (0 : Fin 1) l) := by
  unfold V
  after_reads_at

theorem V_w (c : Dev nD) (a : Fin 2048) (b : Fin 4096) :
    (V m c main_v5) (ix2 a b) = m ((c : Thread nD τ).loc main_arg2) (ix3 (0 : Fin 1) a b) := by
  unfold V
  after_reads_at

theorem index_rows : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) := by
  decide +kernel

theorem t_lt (t : Fin cfg0.N) : t.val < 1 := by have := t.isLt; have h : cfg0.N = 1 := N_0; omega

/-- Row `r` of point `t`'s tile. -/
def rowOf (t : Fin cfg0.N) (r : Fin 128) : Fin 128 := ⟨128 * t.val + r.val, by have := t_lt t; omega⟩

theorem blk0 (c : Dev nD) (t : Fin cfg0.N) (r : Fin 128) (l : Fin 2048) :
    iblk m c 0 t (ix2 r l) = m ((c : Thread nD τ).loc main_arg0) (ix3 (bIdx (rowOf t r)) (rIdx (rowOf t r)) l) := by
  rw [← V_x m c]
  unfold iblk
  rw [View.read_apply]
  show V m c main_v1 _ = _
  congr 1
  obtain ⟨⟨h0, h1⟩, -⟩ := index_rows t
  refine idx2_ext _ _ _ ?_ ?_
  · show win0_0.index t 0 * 128 + 1 * r.val = 128 * t.val + r.val; rw [h0]; omega
  · show win0_0.index t 1 * 2048 + 1 * l.val = l.val; rw [h1]; omega

theorem blk1 (c : Dev nD) (t : Fin cfg0.N) (l : Fin 2048) :
    iblk m c 1 t (ix2 (0 : Fin 1) l) = m ((c : Thread nD τ).loc main_arg1) (ix2 (0 : Fin 1) l) := by
  rw [← V_g m c l]
  unfold iblk
  rw [View.read_apply]
  show V m c main_v3 _ = _
  congr 1
  obtain ⟨-, ⟨h0, h1⟩, -⟩ := index_rows t
  refine idx2_ext _ _ _ ?_ ?_
  · show win0_1.index t 0 * 1 + 1 * 0 = 0; rw [h0]
  · show win0_1.index t 1 * 2048 + 1 * l.val = l.val; rw [h1]; omega

theorem blk2 (c : Dev nD) (t : Fin cfg0.N) (a : Fin 2048) (b : Fin 4096) :
    iblk m c 2 t (ix2 a b) = m ((c : Thread nD τ).loc main_arg2) (ix3 (0 : Fin 1) a b) := by
  rw [← V_w m c a b]
  unfold iblk
  rw [View.read_apply]
  show V m c main_v5 _ = _
  congr 1
  obtain ⟨-, -, ⟨h0, h1⟩, -⟩ := index_rows t
  refine idx2_ext _ _ _ ?_ ?_
  · show win0_2.index t 0 * 2048 + 1 * a.val = a.val; rw [h0]; omega
  · show win0_2.index t 1 * 4096 + 1 * b.val = b.val; rw [h1]; omega

/-- Output 0, over the arguments. -/
def G6 (c : Dev nD) : Buf (Elt Ideal) ((c : Thread nD τ).loc main_v15_0) := specQ (m ((c : Thread nD τ).loc main_arg0)) (m ((c : Thread nD τ).loc main_arg1)) (m ((c : Thread nD τ).loc main_arg2))

theorem stored6 (c : Dev nD) (t : Fin cfg0.N) (r : Fin 128) (l : Fin 1024) :
    colsQ (k0_pay2 (F := Ideal) (iblk m c 0 t) (iblk m c 1 t)) (iblk m c 2 t) (ix2 r l) = G6 m c (ix2 (rowOf t r) l) :=
  colsQ_rows _ _ _ _ _ _ r (rowOf t r) (fun l => blk0 m c t r l) (fun l => blk1 m c t l) (fun k j => blk2 m c t k j) l

theorem flushed6_tile (c : Dev nD) (t : Fin cfg0.N) :
    (dats m 0 c).flushed 6 t = (cfg0.win 6).cut (grid0.coords t) (colsQ (k0_pay2 (F := Ideal) (iblk m c 0 t) (iblk m c 1 t)) (iblk m c 2 t)) := by
  rw [Value.flushed6_A m c t, outA6]

theorem flushed6_eq (c : Dev nD) (t : Fin cfg0.N) :
    (dats m 0 c).flushed 6 t = ((cfg0.win 6).blk t).view.read (Elt Ideal) (G6 m c) := by
  rw [flushed6_tile]
  funext y
  rw [View.read_apply]
  obtain ⟨-, -, -, ⟨h0, h1⟩, -⟩ := index_rows t
  have e : ((cfg0.win 6).blk t).view.emb y = ix2 (rowOf t (y 0)) (y 1) := by
    refine idx2_ext _ _ _ ?_ ?_
    · show win0_6.index t 0 * 128 + 1 * (y 0).val = 128 * t.val + (y 0).val; rw [h0]; omega
    · show win0_6.index t 1 * 1024 + 1 * (y 1).val = (y 1).val; rw [h1]; omega
  rw [e]
  refine Eq.trans ?_ (stored6 m c t (y 0) (y 1))
  exact congrArg (colsQ (k0_pay2 (F := Ideal) (iblk m c 0 t) (iblk m c 1 t)) (iblk m c 2 t)) (idx2_ext (n := 128) (m := 1024) y (y 0) (y 1) rfl rfl)

theorem final6_o (c : Dev nD) : (dats m 0 c).arrAt 6 cfg0.N = G6 m c :=
  (dats m 0 c).arrAt_eq_of_cover 6 (G6 m c) (fun t _ => flushed6_eq m c t) fun i => by
    have hi0 : (i 0 : Nat) < 128 := (i 0).isLt
    have hi1 : (i 1 : Nat) < 1024 := (i 1).isLt
    let t : Fin cfg0.N := ⟨(i 0 : Nat) / 128, by rw [show cfg0.N = 1 from N_0]; omega⟩
    have hv : t.val = (i 0 : Nat) / 128 := rfl
    obtain ⟨-, -, -, ⟨h0, h1⟩, -⟩ := index_rows t
    refine ⟨t, flush0_6 t, ?_⟩
    show i ∈ ((View.whole main_v15_0).slice (win0_6.rect t)).set
    rw [View.set_slice_whole, Rect.mem_set_unit]
    intro a
    match a with
    | ⟨0, _⟩ =>
      show win0_6.index t 0 * 128 ≤ (i 0 : Nat) ∧ (i 0 : Nat) < win0_6.index t 0 * 128 + 128
      rw [h0]; omega
    | ⟨1, _⟩ =>
      show win0_6.index t 1 * 1024 ≤ (i 1 : Nat) ∧ (i 1 : Nat) < win0_6.index t 1 * 1024 + 1024
      rw [h1]; omega

/-- Output 1, over the arguments. -/
def G7 (c : Dev nD) : Buf (Elt Ideal) ((c : Thread nD τ).loc main_v15_1) := specP (m ((c : Thread nD τ).loc main_arg0)) (m ((c : Thread nD τ).loc main_arg1)) (m ((c : Thread nD τ).loc main_arg2)) 1

theorem stored7 (c : Dev nD) (t : Fin cfg0.N) (r : Fin 128) (l : Fin 1024) :
    cols 1 (k0_pay2 (F := Ideal) (iblk m c 0 t) (iblk m c 1 t)) (iblk m c 2 t) (ix2 r l) = G7 m c (ix2 (rowOf t r) l) :=
  cols_rows _ _ _ _ _ _ r (rowOf t r) (fun l => blk0 m c t r l) (fun l => blk1 m c t l) (fun k j => blk2 m c t k j) 1 l

theorem flushed7_tile (c : Dev nD) (t : Fin cfg0.N) :
    (dats m 0 c).flushed 7 t = (cfg0.win 7).cut (grid0.coords t) (cols 1 (k0_pay2 (F := Ideal) (iblk m c 0 t) (iblk m c 1 t)) (iblk m c 2 t)) := by
  rw [Value.flushed7_A m c t, outA7]

theorem flushed7_eq (c : Dev nD) (t : Fin cfg0.N) :
    (dats m 0 c).flushed 7 t = ((cfg0.win 7).blk t).view.read (Elt Ideal) (G7 m c) := by
  rw [flushed7_tile]
  funext y
  rw [View.read_apply]
  obtain ⟨-, -, -, -, ⟨h0, h1⟩, -⟩ := index_rows t
  have e : ((cfg0.win 7).blk t).view.emb y = ix2 (rowOf t (y 0)) (y 1) := by
    refine idx2_ext _ _ _ ?_ ?_
    · show win0_7.index t 0 * 128 + 1 * (y 0).val = 128 * t.val + (y 0).val; rw [h0]; omega
    · show win0_7.index t 1 * 1024 + 1 * (y 1).val = (y 1).val; rw [h1]; omega
  rw [e]
  refine Eq.trans ?_ (stored7 m c t (y 0) (y 1))
  exact congrArg (cols 1 (k0_pay2 (F := Ideal) (iblk m c 0 t) (iblk m c 1 t)) (iblk m c 2 t)) (idx2_ext (n := 128) (m := 1024) y (y 0) (y 1) rfl rfl)

theorem final7_o (c : Dev nD) : (dats m 0 c).arrAt 7 cfg0.N = G7 m c :=
  (dats m 0 c).arrAt_eq_of_cover 7 (G7 m c) (fun t _ => flushed7_eq m c t) fun i => by
    have hi0 : (i 0 : Nat) < 128 := (i 0).isLt
    have hi1 : (i 1 : Nat) < 1024 := (i 1).isLt
    let t : Fin cfg0.N := ⟨(i 0 : Nat) / 128, by rw [show cfg0.N = 1 from N_0]; omega⟩
    have hv : t.val = (i 0 : Nat) / 128 := rfl
    obtain ⟨-, -, -, -, ⟨h0, h1⟩, -⟩ := index_rows t
    refine ⟨t, flush0_7 t, ?_⟩
    show i ∈ ((View.whole main_v15_1).slice (win0_7.rect t)).set
    rw [View.set_slice_whole, Rect.mem_set_unit]
    intro a
    match a with
    | ⟨0, _⟩ =>
      show win0_7.index t 0 * 128 ≤ (i 0 : Nat) ∧ (i 0 : Nat) < win0_7.index t 0 * 128 + 128
      rw [h0]; omega
    | ⟨1, _⟩ =>
      show win0_7.index t 1 * 1024 ≤ (i 1 : Nat) ∧ (i 1 : Nat) < win0_7.index t 1 * 1024 + 1024
      rw [h1]; omega

/-- Output 2, over the arguments. -/
def G8 (c : Dev nD) : Buf (Elt Ideal) ((c : Thread nD τ).loc main_v15_2) := specP (m ((c : Thread nD τ).loc main_arg0)) (m ((c : Thread nD τ).loc main_arg1)) (m ((c : Thread nD τ).loc main_arg2)) 2

theorem stored8 (c : Dev nD) (t : Fin cfg0.N) (r : Fin 128) (l : Fin 1024) :
    cols 2 (k0_pay2 (F := Ideal) (iblk m c 0 t) (iblk m c 1 t)) (iblk m c 2 t) (ix2 r l) = G8 m c (ix2 (rowOf t r) l) :=
  cols_rows _ _ _ _ _ _ r (rowOf t r) (fun l => blk0 m c t r l) (fun l => blk1 m c t l) (fun k j => blk2 m c t k j) 2 l

theorem flushed8_tile (c : Dev nD) (t : Fin cfg0.N) :
    (dats m 0 c).flushed 8 t = (cfg0.win 8).cut (grid0.coords t) (cols 2 (k0_pay2 (F := Ideal) (iblk m c 0 t) (iblk m c 1 t)) (iblk m c 2 t)) := by
  rw [Value.flushed8_A m c t, outA8]

theorem flushed8_eq (c : Dev nD) (t : Fin cfg0.N) :
    (dats m 0 c).flushed 8 t = ((cfg0.win 8).blk t).view.read (Elt Ideal) (G8 m c) := by
  rw [flushed8_tile]
  funext y
  rw [View.read_apply]
  obtain ⟨-, -, -, -, -, ⟨h0, h1⟩, -⟩ := index_rows t
  have e : ((cfg0.win 8).blk t).view.emb y = ix2 (rowOf t (y 0)) (y 1) := by
    refine idx2_ext _ _ _ ?_ ?_
    · show win0_8.index t 0 * 128 + 1 * (y 0).val = 128 * t.val + (y 0).val; rw [h0]; omega
    · show win0_8.index t 1 * 1024 + 1 * (y 1).val = (y 1).val; rw [h1]; omega
  rw [e]
  refine Eq.trans ?_ (stored8 m c t (y 0) (y 1))
  exact congrArg (cols 2 (k0_pay2 (F := Ideal) (iblk m c 0 t) (iblk m c 1 t)) (iblk m c 2 t)) (idx2_ext (n := 128) (m := 1024) y (y 0) (y 1) rfl rfl)

theorem final8_o (c : Dev nD) : (dats m 0 c).arrAt 8 cfg0.N = G8 m c :=
  (dats m 0 c).arrAt_eq_of_cover 8 (G8 m c) (fun t _ => flushed8_eq m c t) fun i => by
    have hi0 : (i 0 : Nat) < 128 := (i 0).isLt
    have hi1 : (i 1 : Nat) < 1024 := (i 1).isLt
    let t : Fin cfg0.N := ⟨(i 0 : Nat) / 128, by rw [show cfg0.N = 1 from N_0]; omega⟩
    have hv : t.val = (i 0 : Nat) / 128 := rfl
    obtain ⟨-, -, -, -, -, ⟨h0, h1⟩, -⟩ := index_rows t
    refine ⟨t, flush0_8 t, ?_⟩
    show i ∈ ((View.whole main_v15_2).slice (win0_8.rect t)).set
    rw [View.set_slice_whole, Rect.mem_set_unit]
    intro a
    match a with
    | ⟨0, _⟩ =>
      show win0_8.index t 0 * 128 ≤ (i 0 : Nat) ∧ (i 0 : Nat) < win0_8.index t 0 * 128 + 128
      rw [h0]; omega
    | ⟨1, _⟩ =>
      show win0_8.index t 1 * 1024 ≤ (i 1 : Nat) ∧ (i 1 : Nat) < win0_8.index t 1 * 1024 + 1024
      rw [h1]; omega

/-- Output 3, over the arguments. -/
def G9 (c : Dev nD) : Buf (Elt Ideal) ((c : Thread nD τ).loc main_v15_3) := specP (m ((c : Thread nD τ).loc main_arg0)) (m ((c : Thread nD τ).loc main_arg1)) (m ((c : Thread nD τ).loc main_arg2)) 3

theorem stored9 (c : Dev nD) (t : Fin cfg0.N) (r : Fin 128) (l : Fin 1024) :
    cols 3 (k0_pay2 (F := Ideal) (iblk m c 0 t) (iblk m c 1 t)) (iblk m c 2 t) (ix2 r l) = G9 m c (ix2 (rowOf t r) l) :=
  cols_rows _ _ _ _ _ _ r (rowOf t r) (fun l => blk0 m c t r l) (fun l => blk1 m c t l) (fun k j => blk2 m c t k j) 3 l

theorem flushed9_tile (c : Dev nD) (t : Fin cfg0.N) :
    (dats m 0 c).flushed 9 t = (cfg0.win 9).cut (grid0.coords t) (cols 3 (k0_pay2 (F := Ideal) (iblk m c 0 t) (iblk m c 1 t)) (iblk m c 2 t)) := by
  rw [Value.flushed9_A m c t, outA9]

theorem flushed9_eq (c : Dev nD) (t : Fin cfg0.N) :
    (dats m 0 c).flushed 9 t = ((cfg0.win 9).blk t).view.read (Elt Ideal) (G9 m c) := by
  rw [flushed9_tile]
  funext y
  rw [View.read_apply]
  obtain ⟨-, -, -, -, -, -, ⟨h0, h1⟩⟩ := index_rows t
  have e : ((cfg0.win 9).blk t).view.emb y = ix2 (rowOf t (y 0)) (y 1) := by
    refine idx2_ext _ _ _ ?_ ?_
    · show win0_9.index t 0 * 128 + 1 * (y 0).val = 128 * t.val + (y 0).val; rw [h0]; omega
    · show win0_9.index t 1 * 1024 + 1 * (y 1).val = (y 1).val; rw [h1]; omega
  rw [e]
  refine Eq.trans ?_ (stored9 m c t (y 0) (y 1))
  exact congrArg (cols 3 (k0_pay2 (F := Ideal) (iblk m c 0 t) (iblk m c 1 t)) (iblk m c 2 t)) (idx2_ext (n := 128) (m := 1024) y (y 0) (y 1) rfl rfl)

theorem final9_o (c : Dev nD) : (dats m 0 c).arrAt 9 cfg0.N = G9 m c :=
  (dats m 0 c).arrAt_eq_of_cover 9 (G9 m c) (fun t _ => flushed9_eq m c t) fun i => by
    have hi0 : (i 0 : Nat) < 128 := (i 0).isLt
    have hi1 : (i 1 : Nat) < 1024 := (i 1).isLt
    let t : Fin cfg0.N := ⟨(i 0 : Nat) / 128, by rw [show cfg0.N = 1 from N_0]; omega⟩
    have hv : t.val = (i 0 : Nat) / 128 := rfl
    obtain ⟨-, -, -, -, -, -, ⟨h0, h1⟩⟩ := index_rows t
    refine ⟨t, flush0_9 t, ?_⟩
    show i ∈ ((View.whole main_v15_3).slice (win0_9.rect t)).set
    rw [View.set_slice_whole, Rect.mem_set_unit]
    intro a
    match a with
    | ⟨0, _⟩ =>
      show win0_9.index t 0 * 128 ≤ (i 0 : Nat) ∧ (i 0 : Nat) < win0_9.index t 0 * 128 + 128
      rw [h0]; omega
    | ⟨1, _⟩ =>
      show win0_9.index t 1 * 1024 ≤ (i 1 : Nat) ∧ (i 1 : Nat) < win0_9.index t 1 * 1024 + 1024
      rw [h1]; omega

end Cert.InSampleIdeal.Closed

namespace Cert.InSampleRefIdeal.Closed

open Cert.InSampleRefIdeal Cert.InSampleRefIdeal.Gen Cert.InSampleRefIdeal.Read Idealize.ShloMosaic Idealize.ShloMosaic.TcCoe Idealize.SL.Sem
open Idealize.ShloMosaic (Ideal ix1 ix2 ix3 eq_ix2)
open Cert.Spec (rms idx3_ext col eighth proj)
open Cert.InSampleIdeal.Closed (bIdx rIdx specP specQ)

variable (x0 : S32x4x2048.Idx → EReal) (x1 : S1x2048.Idx → EReal) (x2 : S1x2048x4096.Idx → EReal)

theorem h_at (b : Fin 32) (r : Fin 4) (l : Fin 2048) :
    val_main_v13 (F := Ideal) x0 x1 (ix3 b r l) = rms (fun l => x0 (ix3 b r l)) (fun l => x1 (ix2 (0 : Fin 1) l)) l := by
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, rms]

theorem proj_at (b : Fin 32) (r : Fin 4) (n : Fin 4096) :
    val_main_v15 (F := Ideal) x0 x1 x2 (ix3 b r n) = proj x0 x1 x2 b r n := by
  unfold proj
  simp only [← h_at]
  unfold val_main_v15
  generalize val_main_v13 (F := Ideal) x0 x1 = h
  pointwise [val_main_v14]

theorem factor_at (i : S32x4x1024.Idx) : val_main_v17 (F := Ideal) i = eighth := by
  rw [val_main_v17_apply, val_main_cst_2_apply]
  rfl

theorem res0 (n : Fin 128) (l : Fin 1024) : val_main_v23 (F := Ideal) x0 x1 x2 (ix2 n l) = specQ x0 x1 x2 (ix2 n l) := by
  rw [val_main_v23_apply, val_main_v22_apply, val_main_v18_apply, factor_at, val_main_v16_apply]
  refine congrArg (fun a : EReal => a * eighth) (Eq.trans ?_ (proj_at x0 x1 x2 (bIdx n) (rIdx n) (col 0 l)))
  exact congrArg (val_main_v15 (F := Ideal) x0 x1 x2) (idx3_ext _ _ _ _ (by show (n.val * 1024 + l.val) / 1024 % 32 = n.val % 32; omega) (by show (n.val * 1024 + l.val) / 32768 = n.val / 32; omega) (by show (n.val * 1024 + l.val) % 1024 = 1024 * 0 + l.val; omega))

theorem res0_fun : val_main_v23 (F := Ideal) x0 x1 x2 = specQ x0 x1 x2 := by
  funext i
  rw [eq_ix2 i]
  exact res0 x0 x1 x2 (i 0) (i 1)

theorem res1 (n : Fin 128) (l : Fin 1024) : val_main_v25 (F := Ideal) x0 x1 x2 (ix2 n l) = specP x0 x1 x2 1 (ix2 n l) := by
  rw [val_main_v25_apply, val_main_v24_apply, val_main_v19_apply]
  refine Eq.trans ?_ (proj_at x0 x1 x2 (bIdx n) (rIdx n) (col 1 l))
  exact congrArg (val_main_v15 (F := Ideal) x0 x1 x2) (idx3_ext _ _ _ _ (by show (n.val * 1024 + l.val) / 1024 % 32 = n.val % 32; omega) (by show (n.val * 1024 + l.val) / 32768 = n.val / 32; omega) (by show 1024 + (n.val * 1024 + l.val) % 1024 = 1024 * 1 + l.val; omega))

theorem res1_fun : val_main_v25 (F := Ideal) x0 x1 x2 = specP x0 x1 x2 1 := by
  funext i
  rw [eq_ix2 i]
  exact res1 x0 x1 x2 (i 0) (i 1)

theorem res2 (n : Fin 128) (l : Fin 1024) : val_main_v27 (F := Ideal) x0 x1 x2 (ix2 n l) = specP x0 x1 x2 2 (ix2 n l) := by
  rw [val_main_v27_apply, val_main_v26_apply, val_main_v20_apply]
  refine Eq.trans ?_ (proj_at x0 x1 x2 (bIdx n) (rIdx n) (col 2 l))
  exact congrArg (val_main_v15 (F := Ideal) x0 x1 x2) (idx3_ext _ _ _ _ (by show (n.val * 1024 + l.val) / 1024 % 32 = n.val % 32; omega) (by show (n.val * 1024 + l.val) / 32768 = n.val / 32; omega) (by show 2048 + (n.val * 1024 + l.val) % 1024 = 1024 * 2 + l.val; omega))

theorem res2_fun : val_main_v27 (F := Ideal) x0 x1 x2 = specP x0 x1 x2 2 := by
  funext i
  rw [eq_ix2 i]
  exact res2 x0 x1 x2 (i 0) (i 1)

theorem res3 (n : Fin 128) (l : Fin 1024) : val_main_v29 (F := Ideal) x0 x1 x2 (ix2 n l) = specP x0 x1 x2 3 (ix2 n l) := by
  rw [val_main_v29_apply, val_main_v28_apply, val_main_v21_apply]
  refine Eq.trans ?_ (proj_at x0 x1 x2 (bIdx n) (rIdx n) (col 3 l))
  exact congrArg (val_main_v15 (F := Ideal) x0 x1 x2) (idx3_ext _ _ _ _ (by show (n.val * 1024 + l.val) / 1024 % 32 = n.val % 32; omega) (by show (n.val * 1024 + l.val) / 32768 = n.val / 32; omega) (by show 3072 + (n.val * 1024 + l.val) % 1024 = 1024 * 3 + l.val; omega))

theorem res3_fun : val_main_v29 (F := Ideal) x0 x1 x2 = specP x0 x1 x2 3 := by
  funext i
  rw [eq_ix2 i]
  exact res3 x0 x1 x2 (i 0) (i 1)

end Cert.InSampleRefIdeal.Closed

namespace Cert.Proof

open Idealize.ShloMosaic Idealize.ShloMosaic.TcCoe Idealize.SL.Sem

/-- The projection's two programs compute one function of the arguments. -/
theorem in_sample_algebraic [Cert.InSampleIdeal.Facts] [Cert.InSampleRefIdeal.Facts] : Cert.algebraic_InSampleIdeal_InSampleRefIdeal := by
  intro m g m' g' _ hag
  refine ⟨fun c => Cert.InSampleIdeal.Closed.G6 m c, fun c => Cert.InSampleIdeal.Closed.G7 m c, fun c => Cert.InSampleIdeal.Closed.G8 m c, fun c => Cert.InSampleIdeal.Closed.G9 m c, ?_, ?_⟩
  · exact (θ_run _ _ _).mono (fun r h c => ⟨(h c).1.trans (Cert.InSampleIdeal.Closed.final6_o m c), (h c).2.1.trans (Cert.InSampleIdeal.Closed.final7_o m c),
      (h c).2.2.1.trans (Cert.InSampleIdeal.Closed.final8_o m c), (h c).2.2.2.1.trans (Cert.InSampleIdeal.Closed.final9_o m c), (h c).2.2.2.2.2⟩) (Cert.InSampleIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.InSampleRefIdeal.Value.run m' g')
    · obtain ⟨e0, e1, e2, e3, e4, e5⟩ := hag c
      rw [Cert.InSampleRefIdeal.Read.val_main_v23_eq, e0, e1, e2]
      exact Cert.InSampleRefIdeal.Closed.res0_fun _ _ _
    · obtain ⟨e0, e1, e2, e3, e4, e5⟩ := hag c
      rw [Cert.InSampleRefIdeal.Read.val_main_v25_eq, e0, e1, e2]
      exact Cert.InSampleRefIdeal.Closed.res1_fun _ _ _
    · obtain ⟨e0, e1, e2, e3, e4, e5⟩ := hag c
      rw [Cert.InSampleRefIdeal.Read.val_main_v27_eq, e0, e1, e2]
      exact Cert.InSampleRefIdeal.Closed.res2_fun _ _ _
    · obtain ⟨e0, e1, e2, e3, e4, e5⟩ := hag c
      rw [Cert.InSampleRefIdeal.Read.val_main_v29_eq, e0, e1, e2]
      exact Cert.InSampleRefIdeal.Closed.res3_fun _ _ _

end Cert.Proof

end
-- ==== Proof.PoolBody.lean ====
module

public import proofs.«01_k».proof.Proof.Gen.PoolSampleIdeal.Value
public import proofs.«01_k».proof.Proof.InSampleBody
public import Idealize.ShloMosaic.Lib.Pointwise

@[expose] public section

set_option maxRecDepth 16384

noncomputable section

/-! The pooling on the samples, body: window sums over the joined history, divided, less the row itself, times the group's map. -/

namespace Cert.PoolSampleIdeal.Closed

open Cert.PoolSampleIdeal Cert.PoolSampleIdeal.Gen Idealize.ShloMosaic Idealize.ShloMosaic.TcCoe Idealize.SL.Sem
open Cert.Spec (hz idx2_ext idx3_ext col rms)
open Cert.InSampleIdeal.Closed (cols canon_halves ld_cols)
open Idealize.ShloMosaic (Ideal ix1 ix2 ix3 eq_ix2)

/-- The history's 512 rows followed by the call's 128, read at any row and column. -/
def catN (u : Vec Ideal S128x1024 .f32) (h : Vec Ideal S512x1024 .f32) (i c : ℕ) : EReal :=
  if hc : c < 1024 then
    if h1 : i < 512 then h (ix2 (⟨i, h1⟩ : Fin 512) (⟨c, hc⟩ : Fin 1024))
    else if h2 : i < 640 then u (ix2 (⟨i - 512, by omega⟩ : Fin 128) (⟨c, hc⟩ : Fin 1024)) else 0
  else 0

/-- A tile read at any row and column. -/
def asN (f : Vec Ideal S128x1024 .bf16) (r c : ℕ) : EReal := if h : r < 128 ∧ c < 1024 then f (ix2 (⟨r, h.1⟩ : Fin 128) (⟨c, h.2⟩ : Fin 1024)) else 0

theorem asN_at (f : Vec Ideal S128x1024 .bf16) (r : Fin 128) (c : Fin 1024) : asN f r.val c.val = f (ix2 r c) := dif_pos ⟨r.isLt, c.isLt⟩

/-- A tile of 128 by 256 cut out of a table. -/
def slab (C : ℕ → ℕ → EReal) (o cs : ℕ) : Vec Ideal S128x256 .f32 := fun j => C (o + (j 0).val) (cs + (j 1).val)

/-- A row's pooled value: the mean of the window that ends in it, less the row. -/
def poolP (C : ℕ → ℕ → EReal) (r c : ℕ) : EReal :=
  Ideal.div (∑ j ∈ Finset.range (2 ^ (c / 256 + 1)), C (512 + r - 32 * j) c) (FloatOps.sitofp (F := Ideal) FTy.f32 (BitVec.ofNat 32 (2 ^ (c / 256 + 1)))) - C (512 + r) c

/-- The pooled columns of one group times the group's map, scaled. -/
def poolOut (C : ℕ → ℕ → EReal) (x4 : Vec Ideal S4x256x256 .bf16) (x5 : Vec Ideal S1x1024 .f32) : Vec Ideal S128x1024 .bf16 := fun j =>
  (∑ k : Fin 256, poolP C (j 0).val (256 * ((j 1).val / 256) + k.val) *
      x4 (ix3 (⟨(j 1).val / 256, by have := (j 1).isLt; change (j 1).val < 1024 at this; omega⟩ : Fin 4) k (⟨(j 1).val % 256, by omega⟩ : Fin 256))) * x5 (ix2 (0 : Fin 1) (j 1))

theorem pay9_eq : k0_pay9 (F := Ideal) = Cert.InSampleIdeal.Gen.k0_pay9 (F := Ideal) := rfl
theorem pay10_eq : k0_pay10 (F := Ideal) = Cert.InSampleIdeal.Gen.k0_pay10 (F := Ideal) := rfl
theorem pay2_eq : k0_pay2 (F := Ideal) = Cert.InSampleIdeal.Gen.k0_pay2 (F := Ideal) := rfl

theorem pay11_eq (x : Vec Ideal S512x1024 .f32) : k0_pay11 (F := Ideal) x = x := by
  unfold k0_pay11; simp only [shapeCast_self]
theorem pay12_eq (x : Vec Ideal S128x1024 .f32) : k0_pay12 (F := Ideal) x = x := by
  unfold k0_pay12; simp only [shapeCast_self]

/-- A row's position is its number divided by the sequences. -/
theorem tok (r : Fin 128) : k0_pay14 (k0_pay13 0#32) (ix2 r (0 : Fin 1)) = BitVec.ofNat 32 (r.val / 32) := by
  revert r; decide +kernel

theorem count2 (r : Fin 128) : IntOp.minsi (IntOp.addi (BitVec.ofNat 32 (r.val / 32)) 16#32) 2#32 = BitVec.ofNat 32 2 := by
  revert r; decide +kernel
theorem count4 (r : Fin 128) : IntOp.minsi (IntOp.addi (BitVec.ofNat 32 (r.val / 32)) 16#32) 4#32 = BitVec.ofNat 32 4 := by
  revert r; decide +kernel
theorem count8 (r : Fin 128) : IntOp.minsi (IntOp.addi (BitVec.ofNat 32 (r.val / 32)) 16#32) 8#32 = BitVec.ofNat 32 8 := by
  revert r; decide +kernel
theorem count16 (r : Fin 128) : IntOp.minsi (IntOp.addi (BitVec.ofNat 32 (r.val / 32)) 16#32) 16#32 = BitVec.ofNat 32 16 := by
  revert r; decide +kernel

theorem piece0 (C : ℕ → ℕ → EReal) (r : Fin 128) (l : Fin 256) :
    k0_pay15 (F := Ideal) (k0_pay13 0#32) (slab C 512 0) (slab C 480 0) (ix2 r l) = poolP C r.val (0 + l.val) := by
  have e : k0_pay15 (F := Ideal) (k0_pay13 0#32) (slab C 512 0) (slab C 480 0) (ix2 r l)
      = Ideal.div (C (512 + r.val) (0 + l.val) + C (480 + r.val) (0 + l.val)) (FloatOps.sitofp (F := Ideal) FTy.f32 (IntOp.minsi (IntOp.addi ((k0_pay14 (k0_pay13 0#32)) (ix2 r (0 : Fin 1))) 16#32) 2#32)) - C (512 + r.val) (0 + l.val) := by
    pointwise [k0_pay15, slab]
  rw [e, tok, count2]
  unfold poolP
  rw [show (0 + l.val) / 256 = 0 by omega]
  refine congrArg₂ (fun a b : EReal => Ideal.div a b - C (512 + r.val) (0 + l.val)) ?_ rfl
  rw [show (2 : ℕ) ^ (0 + 1) = 2 from rfl]
  simp only [Finset.sum_range_succ, Finset.sum_range_zero, zero_add]
  have q : ∀ j : ℕ, j < 16 → 512 + r.val - 32 * j = (512 - 32 * j) + r.val := fun j hj => by omega
  simp only [q 0 (by decide), q 1 (by decide)]

theorem piece1 (C : ℕ → ℕ → EReal) (r : Fin 128) (l : Fin 256) :
    k0_pay16 (F := Ideal) (k0_pay14 (k0_pay13 0#32)) (slab C 512 256) (slab C 480 256) (slab C 448 256) (slab C 416 256) (ix2 r l) = poolP C r.val (256 + l.val) := by
  have e : k0_pay16 (F := Ideal) (k0_pay14 (k0_pay13 0#32)) (slab C 512 256) (slab C 480 256) (slab C 448 256) (slab C 416 256) (ix2 r l)
      = Ideal.div (C (512 + r.val) (256 + l.val) + C (480 + r.val) (256 + l.val) + C (448 + r.val) (256 + l.val) + C (416 + r.val) (256 + l.val)) (FloatOps.sitofp (F := Ideal) FTy.f32 (IntOp.minsi (IntOp.addi ((k0_pay14 (k0_pay13 0#32)) (ix2 r (0 : Fin 1))) 16#32) 4#32)) - C (512 + r.val) (256 + l.val) := by
    pointwise [k0_pay16, slab]
  rw [e, tok, count4]
  unfold poolP
  rw [show (256 + l.val) / 256 = 1 by omega]
  refine congrArg₂ (fun a b : EReal => Ideal.div a b - C (512 + r.val) (256 + l.val)) ?_ rfl
  rw [show (2 : ℕ) ^ (1 + 1) = 4 from rfl]
  simp only [Finset.sum_range_succ, Finset.sum_range_zero, zero_add]
  have q : ∀ j : ℕ, j < 16 → 512 + r.val - 32 * j = (512 - 32 * j) + r.val := fun j hj => by omega
  simp only [q 0 (by decide), q 1 (by decide), q 2 (by decide), q 3 (by decide)]

theorem piece2 (C : ℕ → ℕ → EReal) (r : Fin 128) (l : Fin 256) :
    k0_pay19 (F := Ideal) (k0_pay14 (k0_pay13 0#32)) (slab C 512 512) (k0_pay17 (slab C 512 512) (slab C 480 512) (slab C 448 512) (slab C 416 512) (slab C 384 512) (slab C 352 512) (slab C 320 512) (slab C 288 512)) k0_pay18 (ix2 r l) = poolP C r.val (512 + l.val) := by
  have e : k0_pay19 (F := Ideal) (k0_pay14 (k0_pay13 0#32)) (slab C 512 512) (k0_pay17 (slab C 512 512) (slab C 480 512) (slab C 448 512) (slab C 416 512) (slab C 384 512) (slab C 352 512) (slab C 320 512) (slab C 288 512)) k0_pay18 (ix2 r l)
      = Ideal.div (C (512 + r.val) (512 + l.val) + C (480 + r.val) (512 + l.val) + C (448 + r.val) (512 + l.val) + C (416 + r.val) (512 + l.val) + C (384 + r.val) (512 + l.val) + C (352 + r.val) (512 + l.val) + C (320 + r.val) (512 + l.val) + C (288 + r.val) (512 + l.val)) (FloatOps.sitofp (F := Ideal) FTy.f32 (IntOp.minsi (IntOp.addi ((k0_pay14 (k0_pay13 0#32)) (ix2 r (0 : Fin 1))) 16#32) 8#32)) - C (512 + r.val) (512 + l.val) := by
    pointwise [k0_pay19, k0_pay17, k0_pay18, slab]
  rw [e, tok, count8]
  unfold poolP
  rw [show (512 + l.val) / 256 = 2 by omega]
  refine congrArg₂ (fun a b : EReal => Ideal.div a b - C (512 + r.val) (512 + l.val)) ?_ rfl
  rw [show (2 : ℕ) ^ (2 + 1) = 8 from rfl]
  simp only [Finset.sum_range_succ, Finset.sum_range_zero, zero_add]
  have q : ∀ j : ℕ, j < 16 → 512 + r.val - 32 * j = (512 - 32 * j) + r.val := fun j hj => by omega
  simp only [q 0 (by decide), q 1 (by decide), q 2 (by decide), q 3 (by decide), q 4 (by decide), q 5 (by decide), q 6 (by decide), q 7 (by decide)]

theorem piece3 (C : ℕ → ℕ → EReal) (r : Fin 128) (l : Fin 256) :
    k0_pay21 (F := Ideal) (k0_pay14 (k0_pay13 0#32)) (slab C 512 768) (k0_pay20 (slab C 512 768) (slab C 480 768) (slab C 448 768) (slab C 416 768) (slab C 384 768) (slab C 352 768) (slab C 320 768) (slab C 288 768) (slab C 256 768) (slab C 224 768) (slab C 192 768)) (slab C 160 768) (slab C 128 768) (slab C 96 768) (slab C 64 768) (slab C 32 768) (ix2 r l) = poolP C r.val (768 + l.val) := by
  have e : k0_pay21 (F := Ideal) (k0_pay14 (k0_pay13 0#32)) (slab C 512 768) (k0_pay20 (slab C 512 768) (slab C 480 768) (slab C 448 768) (slab C 416 768) (slab C 384 768) (slab C 352 768) (slab C 320 768) (slab C 288 768) (slab C 256 768) (slab C 224 768) (slab C 192 768)) (slab C 160 768) (slab C 128 768) (slab C 96 768) (slab C 64 768) (slab C 32 768) (ix2 r l)
      = Ideal.div (C (512 + r.val) (768 + l.val) + C (480 + r.val) (768 + l.val) + C (448 + r.val) (768 + l.val) + C (416 + r.val) (768 + l.val) + C (384 + r.val) (768 + l.val) + C (352 + r.val) (768 + l.val) + C (320 + r.val) (768 + l.val) + C (288 + r.val) (768 + l.val) + C (256 + r.val) (768 + l.val) + C (224 + r.val) (768 + l.val) + C (192 + r.val) (768 + l.val) + C (160 + r.val) (768 + l.val) + C (128 + r.val) (768 + l.val) + C (96 + r.val) (768 + l.val) + C (64 + r.val) (768 + l.val) + C (32 + r.val) (768 + l.val)) (FloatOps.sitofp (F := Ideal) FTy.f32 (IntOp.minsi (IntOp.addi ((k0_pay14 (k0_pay13 0#32)) (ix2 r (0 : Fin 1))) 16#32) 16#32)) - C (512 + r.val) (768 + l.val) := by
    pointwise [k0_pay21, k0_pay20, slab]
  rw [e, tok, count16]
  unfold poolP
  rw [show (768 + l.val) / 256 = 3 by omega]
  refine congrArg₂ (fun a b : EReal => Ideal.div a b - C (512 + r.val) (768 + l.val)) ?_ rfl
  rw [show (2 : ℕ) ^ (3 + 1) = 16 from rfl]
  simp only [Finset.sum_range_succ, Finset.sum_range_zero, zero_add]
  have q : ∀ j : ℕ, j < 16 → 512 + r.val - 32 * j = (512 - 32 * j) + r.val := fun j hj => by omega
  simp only [q 0 (by decide), q 1 (by decide), q 2 (by decide), q 3 (by decide), q 4 (by decide), q 5 (by decide), q 6 (by decide), q 7 (by decide), q 8 (by decide), q 9 (by decide), q 10 (by decide), q 11 (by decide), q 12 (by decide), q 13 (by decide), q 14 (by decide), q 15 (by decide)]

theorem pay22_at (a : Vec Ideal S128x256 .bf16) (b : Vec Ideal S1x256x256 .bf16) (c : Vec Ideal S1x256 .f32) (r : Fin 128) (l : Fin 256) :
    k0_pay22 (F := Ideal) a b c (ix2 r l) = (∑ k : Fin 256, a (ix2 r k) * b (ix3 (0 : Fin 1) k l)) * c (ix2 (0 : Fin 1) l) := by
  pointwise [k0_pay22]

theorem pay23_at (a : Vec Ideal S128x256 .bf16) (b : Vec Ideal S1x256x256 .bf16) (c : Vec Ideal S1x256 .f32) (r : Fin 128) (l : Fin 256) :
    k0_pay23 (F := Ideal) a b c (ix2 r l) = (∑ k : Fin 256, a (ix2 r k) * b (ix3 (0 : Fin 1) k l)) * c (ix2 (0 : Fin 1) l) := by
  pointwise [k0_pay23]

theorem pay24_at (a : Vec Ideal S128x256 .bf16) (b : Vec Ideal S1x256x256 .bf16) (c : Vec Ideal S1x256 .f32) (r : Fin 128) (l : Fin 256) :
    k0_pay24 (F := Ideal) a b c (ix2 r l) = (∑ k : Fin 256, a (ix2 r k) * b (ix3 (0 : Fin 1) k l)) * c (ix2 (0 : Fin 1) l) := by
  pointwise [k0_pay24]

theorem pay1_at (a : Vec Ideal S128x256 .bf16) (b : Vec Ideal S1x256x256 .bf16) (c : Vec Ideal S1x256 .f32) (r : Fin 128) (l : Fin 256) :
    k0_pay1 (F := Ideal) (k0_pay25 a b) (k0_pay26 c) (ix2 r l) = (∑ k : Fin 256, a (ix2 r k) * b (ix3 (0 : Fin 1) k l)) * c (ix2 (0 : Fin 1) l) := by
  pointwise [k0_pay1, k0_pay25, k0_pay26]

/-- One group's map, its matrix and its factors cut out of the arrays. -/
theorem mapG (C : ℕ → ℕ → EReal) (x4 : Vec Ideal S4x256x256 .bf16) (x5 : Vec Ideal S1x1024 .f32) (g : Fin 4) (i4 : ∀ a, (![g.val, 0, 0] : Fin 3 → ℕ) a + S1x256x256.size a ≤ S4x256x256.size a)
    (i5 : ∀ a, (![0, 256 * g.val] : Fin 2 → ℕ) a + S1x256.size a ≤ S1x1024.size a) (r : Fin 128) (l : Fin 256)
    (f : Vec Ideal S128x256 .bf16 → Vec Ideal S1x256x256 .bf16 → Vec Ideal S1x256 .f32 → EReal)
    (hf : ∀ a b c, f a b c = (∑ k : Fin 256, a (ix2 r k) * b (ix3 (0 : Fin 1) k l)) * c (ix2 (0 : Fin 1) l)) :
    f (fun j : S128x256.Idx => poolP C (j 0).val (256 * g.val + (j 1).val)) (View.ld x4 (Rect.unit (s := S4x256x256) ![g.val, 0, 0] S1x256x256.size i4))
      (View.ld x5 (Rect.unit (s := S1x1024) ![0, 256 * g.val] S1x256.size i5)) = poolOut C x4 x5 (ix2 r (⟨256 * g.val + l.val, by omega⟩ : Fin 1024)) := by
  rw [hf]
  unfold poolOut
  refine congrArg₂ (fun a b : EReal => a * b) (Finset.sum_congr rfl fun k _ => congrArg₂ (fun a b : EReal => a * b) ?_ ?_) ?_
  · show poolP C r.val (256 * g.val + k.val) = poolP C r.val (256 * ((256 * g.val + l.val) / 256) + k.val)
    rw [show (256 * g.val + l.val) / 256 = g.val by omega]
  · refine congrArg x4 (idx3_ext _ _ _ _ ?_ ?_ ?_)
    · show g.val + 1 * 0 = (256 * g.val + l.val) / 256; omega
    · show 0 + 1 * k.val = k.val; omega
    · show 0 + 1 * l.val = (256 * g.val + l.val) % 256; omega
  · refine congrArg x5 (idx2_ext _ _ _ ?_ ?_)
    · show 0 + 1 * 0 = 0; rfl
    · show 256 * g.val + 1 * l.val = 256 * g.val + l.val; omega

theorem map0 (C : ℕ → ℕ → EReal) (x4 : Vec Ideal S4x256x256 .bf16) (x5 : Vec Ideal S1x1024 .f32) (i4 : ∀ a, (![0, 0, 0] : Fin 3 → ℕ) a + S1x256x256.size a ≤ S4x256x256.size a)
    (i5 : ∀ a, (![0, 0] : Fin 2 → ℕ) a + S1x256.size a ≤ S1x1024.size a) (r : Fin 128) (l : Fin 256) :
    k0_pay22 (F := Ideal) (fun j : S128x256.Idx => poolP C (j 0).val (0 + (j 1).val)) (View.ld x4 (Rect.unit (s := S4x256x256) ![0, 0, 0] S1x256x256.size i4))
      (View.ld x5 (Rect.unit (s := S1x1024) ![0, 0] S1x256.size i5)) (ix2 r l) = poolOut C x4 x5 (ix2 r (⟨0 + l.val, by omega⟩ : Fin 1024)) :=
  mapG C x4 x5 0 i4 i5 r l (fun a b c => k0_pay22 a b c (ix2 r l)) (fun a b c => pay22_at a b c r l)

theorem map1 (C : ℕ → ℕ → EReal) (x4 : Vec Ideal S4x256x256 .bf16) (x5 : Vec Ideal S1x1024 .f32) (i4 : ∀ a, (![1, 0, 0] : Fin 3 → ℕ) a + S1x256x256.size a ≤ S4x256x256.size a)
    (i5 : ∀ a, (![0, 256] : Fin 2 → ℕ) a + S1x256.size a ≤ S1x1024.size a) (r : Fin 128) (l : Fin 256) :
    k0_pay23 (F := Ideal) (fun j : S128x256.Idx => poolP C (j 0).val (256 + (j 1).val)) (View.ld x4 (Rect.unit (s := S4x256x256) ![1, 0, 0] S1x256x256.size i4))
      (View.ld x5 (Rect.unit (s := S1x1024) ![0, 256] S1x256.size i5)) (ix2 r l) = poolOut C x4 x5 (ix2 r (⟨256 + l.val, by omega⟩ : Fin 1024)) :=
  mapG C x4 x5 1 i4 i5 r l (fun a b c => k0_pay23 a b c (ix2 r l)) (fun a b c => pay23_at a b c r l)

theorem map2 (C : ℕ → ℕ → EReal) (x4 : Vec Ideal S4x256x256 .bf16) (x5 : Vec Ideal S1x1024 .f32) (i4 : ∀ a, (![2, 0, 0] : Fin 3 → ℕ) a + S1x256x256.size a ≤ S4x256x256.size a)
    (i5 : ∀ a, (![0, 512] : Fin 2 → ℕ) a + S1x256.size a ≤ S1x1024.size a) (r : Fin 128) (l : Fin 256) :
    k0_pay24 (F := Ideal) (fun j : S128x256.Idx => poolP C (j 0).val (512 + (j 1).val)) (View.ld x4 (Rect.unit (s := S4x256x256) ![2, 0, 0] S1x256x256.size i4))
      (View.ld x5 (Rect.unit (s := S1x1024) ![0, 512] S1x256.size i5)) (ix2 r l) = poolOut C x4 x5 (ix2 r (⟨512 + l.val, by omega⟩ : Fin 1024)) :=
  mapG C x4 x5 2 i4 i5 r l (fun a b c => k0_pay24 a b c (ix2 r l)) (fun a b c => pay24_at a b c r l)

theorem map3 (C : ℕ → ℕ → EReal) (x4 : Vec Ideal S4x256x256 .bf16) (x5 : Vec Ideal S1x1024 .f32) (i4 : ∀ a, (![3, 0, 0] : Fin 3 → ℕ) a + S1x256x256.size a ≤ S4x256x256.size a)
    (i5 : ∀ a, (![0, 768] : Fin 2 → ℕ) a + S1x256.size a ≤ S1x1024.size a) (r : Fin 128) (l : Fin 256) :
    k0_pay1 (F := Ideal) (k0_pay25 (fun j : S128x256.Idx => poolP C (j 0).val (768 + (j 1).val)) (View.ld x4 (Rect.unit (s := S4x256x256) ![3, 0, 0] S1x256x256.size i4)))
      (k0_pay26 (View.ld x5 (Rect.unit (s := S1x1024) ![0, 768] S1x256.size i5))) (ix2 r l) = poolOut C x4 x5 (ix2 r (⟨768 + l.val, by omega⟩ : Fin 1024)) :=
  mapG C x4 x5 3 i4 i5 r l (fun a b c => k0_pay1 (k0_pay25 a b) (k0_pay26 c) (ix2 r l)) (fun a b c => pay1_at a b c r l)

/-- Four stores of 256 columns each leave the tile they are quarters of. -/
theorem canon_quarters (i0 : ∀ a, (![0, 0] : Fin 2 → ℕ) a + (![128, 256] : Fin 2 → ℕ) a ≤ S128x1024.size a) (i256 : ∀ a, (![0, 256] : Fin 2 → ℕ) a + (![128, 256] : Fin 2 → ℕ) a ≤ S128x1024.size a) (i512 : ∀ a, (![0, 512] : Fin 2 → ℕ) a + (![128, 256] : Fin 2 → ℕ) a ≤ S128x1024.size a) (i768 : ∀ a, (![0, 768] : Fin 2 → ℕ) a + (![128, 256] : Fin 2 → ℕ) a ≤ S128x1024.size a)
    (G : ℕ → ℕ → EReal) (w0 w1 w2 w3 : Vec Ideal S128x256 .bf16)
    (e0 : ∀ (r : Fin 128) (l : Fin 256), w0 (ix2 r l) = G r.val (0 + l.val))
    (e1 : ∀ (r : Fin 128) (l : Fin 256), w1 (ix2 r l) = G r.val (256 + l.val))
    (e2 : ∀ (r : Fin 128) (l : Fin 256), w2 (ix2 r l) = G r.val (512 + l.val))
    (e3 : ∀ (r : Fin 128) (l : Fin 256), w3 (ix2 r l) = G r.val (768 + l.val)) :
    View.canon (Val := Elt Ideal) (e := .bf16) [⟨Rect.unit (s := S128x1024) ![0, 768] ![128, 256] i768, w3⟩, ⟨Rect.unit (s := S128x1024) ![0, 512] ![128, 256] i512, w2⟩, ⟨Rect.unit (s := S128x1024) ![0, 256] ![128, 256] i256, w1⟩, ⟨Rect.unit (s := S128x1024) ![0, 0] ![128, 256] i0, w0⟩] = fun j => G (j 0).val (j 1).val := by
  funext y
  refine View.canon_apply_of_pieces (Val := Elt Ideal) (e := .bf16) (fun j : S128x1024.Idx => G (j 0).val (j 1).val) _ ?_ y ?_
  · intro p hp
    simp only [List.mem_cons, List.not_mem_nil, or_false] at hp
    rcases hp with rfl | rfl | rfl | rfl
    · intro x
      refine (congrArg w3 (idx2_ext (n := 128) (m := 256) x (x 0) (x 1) rfl rfl)).trans ((e3 (x 0) (x 1)).trans ?_)
      exact congrArg₂ G (by show (x 0).val = 0 + 1 * (x 0).val; omega) (by show 768 + (x 1).val = 768 + 1 * (x 1).val; omega)
    · intro x
      refine (congrArg w2 (idx2_ext (n := 128) (m := 256) x (x 0) (x 1) rfl rfl)).trans ((e2 (x 0) (x 1)).trans ?_)
      exact congrArg₂ G (by show (x 0).val = 0 + 1 * (x 0).val; omega) (by show 512 + (x 1).val = 512 + 1 * (x 1).val; omega)
    · intro x
      refine (congrArg w1 (idx2_ext (n := 128) (m := 256) x (x 0) (x 1) rfl rfl)).trans ((e1 (x 0) (x 1)).trans ?_)
      exact congrArg₂ G (by show (x 0).val = 0 + 1 * (x 0).val; omega) (by show 256 + (x 1).val = 256 + 1 * (x 1).val; omega)
    · intro x
      refine (congrArg w0 (idx2_ext (n := 128) (m := 256) x (x 0) (x 1) rfl rfl)).trans ((e0 (x 0) (x 1)).trans ?_)
      exact congrArg₂ G (by show (x 0).val = 0 + 1 * (x 0).val; omega) (by show 0 + (x 1).val = 0 + 1 * (x 1).val; omega)
  · have hr : (y 0).val < 128 := (y 0).isLt
    have hc : (y 1).val < 1024 := (y 1).isLt
    by_cases hg3 : 768 ≤ (y 1).val
    · refine ⟨⟨Rect.unit (s := S128x1024) ![0, 768] ![128, 256] i768, w3⟩, by simp, ?_⟩
      rw [Rect.mem_set_unit]
      intro a
      match a with
      | ⟨0, _⟩ => show 0 ≤ (y 0).val ∧ (y 0).val < 0 + 128; omega
      | ⟨1, _⟩ => show 768 ≤ (y 1).val ∧ (y 1).val < 768 + 256; omega
    by_cases hg2 : 512 ≤ (y 1).val
    · refine ⟨⟨Rect.unit (s := S128x1024) ![0, 512] ![128, 256] i512, w2⟩, by simp, ?_⟩
      rw [Rect.mem_set_unit]
      intro a
      match a with
      | ⟨0, _⟩ => show 0 ≤ (y 0).val ∧ (y 0).val < 0 + 128; omega
      | ⟨1, _⟩ => show 512 ≤ (y 1).val ∧ (y 1).val < 512 + 256; omega
    by_cases hg1 : 256 ≤ (y 1).val
    · refine ⟨⟨Rect.unit (s := S128x1024) ![0, 256] ![128, 256] i256, w1⟩, by simp, ?_⟩
      rw [Rect.mem_set_unit]
      intro a
      match a with
      | ⟨0, _⟩ => show 0 ≤ (y 0).val ∧ (y 0).val < 0 + 128; omega
      | ⟨1, _⟩ => show 256 ≤ (y 1).val ∧ (y 1).val < 256 + 256; omega
    refine ⟨⟨Rect.unit (s := S128x1024) ![0, 0] ![128, 256] i0, w0⟩, by simp, ?_⟩
    rw [Rect.mem_set_unit]
    intro a
    match a with
    | ⟨0, _⟩ => show 0 ≤ (y 0).val ∧ (y 0).val < 0 + 128; omega
    | ⟨1, _⟩ => show 0 ≤ (y 1).val ∧ (y 1).val < 0 + 256; omega

variable (c : Dev nD) (i : grid0.Coords) (a1 : Memref sig .tc .vmem S128x2048 .f32) (h1 : a1.IsWhole) (a2 : Memref sig .tc .vmem S1x2048 .f32) (h2 : a2.IsWhole) (a3 : Memref sig .tc .vmem S2048x4096 .bf16) (h3 : a3.IsWhole) (a4 : Memref sig .tc .vmem S512x1024 .f32) (h4 : a4.IsWhole) (a5 : Memref sig .tc .vmem S4x256x256 .bf16) (h5 : a5.IsWhole) (a6 : Memref sig .tc .vmem S1x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .f32) (h9 : a9.IsWhole) (a10 : Memref sig .tc .vmem S128x1024 .f32) (h10 : a10.IsWhole) (a11 : Memref sig .tc .vmem S128x1024 .bf16) (h11 : a11.IsWhole) (a12 : Memref sig .tc .vmem S128x2048 .bf16) (h12 : a12.IsWhole) (a13 : Memref sig .tc .vmem S640x1024 .f32) (h13 : a13.IsWhole) (a14 : Memref sig .tc .vmem S128x1024 .bf16) (h14 : a14.IsWhole)
variable (x0 : Vec Ideal S128x2048 .f32) (x1 : Vec Ideal S1x2048 .f32) (x2 : Vec Ideal S2048x4096 .bf16) (x3 : Vec Ideal S512x1024 .f32) (x4 : Vec Ideal S4x256x256 .bf16) (x5 : Vec Ideal S1x1024 .f32)

/-- A load of 256 columns of the scratch the four stores fill. -/
theorem pooled_ld (i0 : ∀ a, (![0, 0] : Fin 2 → ℕ) a + (![128, 256] : Fin 2 → ℕ) a ≤ S128x1024.size a) (i256 : ∀ a, (![0, 256] : Fin 2 → ℕ) a + (![128, 256] : Fin 2 → ℕ) a ≤ S128x1024.size a) (i512 : ∀ a, (![0, 512] : Fin 2 → ℕ) a + (![128, 256] : Fin 2 → ℕ) a ≤ S128x1024.size a) (i768 : ∀ a, (![0, 768] : Fin 2 → ℕ) a + (![128, 256] : Fin 2 → ℕ) a ≤ S128x1024.size a)
    (G : ℕ → ℕ → EReal) (w0 w1 w2 w3 : Vec Ideal S128x256 .bf16)
    (e0 : ∀ (r : Fin 128) (l : Fin 256), w0 (ix2 r l) = G r.val (0 + l.val))
    (e1 : ∀ (r : Fin 128) (l : Fin 256), w1 (ix2 r l) = G r.val (256 + l.val))
    (e2 : ∀ (r : Fin 128) (l : Fin 256), w2 (ix2 r l) = G r.val (512 + l.val))
    (e3 : ∀ (r : Fin 128) (l : Fin 256), w3 (ix2 r l) = G r.val (768 + l.val))
    (cs : ℕ) (inb : ∀ a, (![0, cs] : Fin 2 → ℕ) a + (![128, 256] : Fin 2 → ℕ) a ≤ S128x1024.size a) :
    View.readCov (Val := Elt Ideal) (a14.view) [⟨Rect.unit (s := S128x1024) ![0, 768] ![128, 256] i768, w3⟩, ⟨Rect.unit (s := S128x1024) ![0, 512] ![128, 256] i512, w2⟩, ⟨Rect.unit (s := S128x1024) ![0, 256] ![128, 256] i256, w1⟩, ⟨Rect.unit (s := S128x1024) ![0, 0] ![128, 256] i0, w0⟩] (Rect.unit (s := S128x1024) ![0, cs] ![128, 256] inb).toLoadRect
      = fun j : S128x256.Idx => G (j 0).val (cs + (j 1).val) := by
  rw [View.readCov_eq_canon', canon_quarters i0 i256 i512 i768 G w0 w1 w2 w3 e0 e1 e2 e3]
  funext j
  exact congrArg₂ G (by show 0 + 1 * (j 0).val = (j 0).val; omega) (by show cs + 1 * (j 1).val = cs + (j 1).val; omega)

/-- A load of 128 rows and 256 columns of the joined history. -/
theorem cat_ld (i1 : ∀ a, (![512, 0] : Fin 2 → ℕ) a + (![128, 1024] : Fin 2 → ℕ) a ≤ S640x1024.size a) (i2 : ∀ a, (![0, 0] : Fin 2 → ℕ) a + (![512, 1024] : Fin 2 → ℕ) a ≤ S640x1024.size a)
    (u : Vec Ideal S128x1024 .f32) (h : Vec Ideal S512x1024 .f32) (o cs : ℕ) (inb : ∀ a, (![o, cs] : Fin 2 → ℕ) a + (![128, 256] : Fin 2 → ℕ) a ≤ S640x1024.size a) :
    View.readCov (Val := Elt Ideal) (a13.view) [⟨Rect.unit (s := S640x1024) ![512, 0] ![128, 1024] i1, u⟩, ⟨Rect.unit (s := S640x1024) ![0, 0] ![512, 1024] i2, h⟩]
      (Rect.unit (s := S640x1024) ![o, cs] ![128, 256] inb).toLoadRect = slab (catN u h) o cs := by
  have hC : View.canon (Val := Elt Ideal) (e := .f32) [⟨Rect.unit (s := S640x1024) ![512, 0] ![128, 1024] i1, u⟩, ⟨Rect.unit (s := S640x1024) ![0, 0] ![512, 1024] i2, h⟩]
      = fun j => catN u h (j 0).val (j 1).val := by
    funext y
    have hr : (y 0).val < 640 := (y 0).isLt
    have hc : (y 1).val < 1024 := (y 1).isLt
    refine View.canon_apply_of_pieces (Val := Elt Ideal) (e := .f32) (fun j : S640x1024.Idx => catN u h (j 0).val (j 1).val) _ ?_ y ?_
    · intro p hp
      simp only [List.mem_cons, List.not_mem_nil, or_false] at hp
      rcases hp with rfl | rfl
      · intro x
        have hx0 : (x 0).val < 128 := (x 0).isLt
        have hx1 : (x 1).val < 1024 := (x 1).isLt
        show u x = catN u h (512 + 1 * (x 0).val) (0 + 1 * (x 1).val)
        unfold catN
        rw [dif_pos (by omega), dif_neg (by omega), dif_pos (by omega)]
        exact congrArg u (idx2_ext (n := 128) (m := 1024) x _ _ (by show (x 0).val = 512 + 1 * (x 0).val - 512; omega) (by show (x 1).val = 0 + 1 * (x 1).val; omega))
      · intro x
        have hx0 : (x 0).val < 512 := (x 0).isLt
        have hx1 : (x 1).val < 1024 := (x 1).isLt
        show h x = catN u h (0 + 1 * (x 0).val) (0 + 1 * (x 1).val)
        unfold catN
        rw [dif_pos (by omega), dif_pos (by omega)]
        exact congrArg h (idx2_ext (n := 512) (m := 1024) x _ _ (by show (x 0).val = 0 + 1 * (x 0).val; omega) (by show (x 1).val = 0 + 1 * (x 1).val; omega))
    · by_cases hg : 512 ≤ (y 0).val
      · refine ⟨⟨Rect.unit (s := S640x1024) ![512, 0] ![128, 1024] i1, u⟩, by simp, ?_⟩
        rw [Rect.mem_set_unit]
        intro a
        match a with
        | ⟨0, _⟩ => show 512 ≤ (y 0).val ∧ (y 0).val < 512 + 128; omega
        | ⟨1, _⟩ => show 0 ≤ (y 1).val ∧ (y 1).val < 0 + 1024; omega
      · refine ⟨⟨Rect.unit (s := S640x1024) ![0, 0] ![512, 1024] i2, h⟩, by simp, ?_⟩
        rw [Rect.mem_set_unit]
        intro a
        match a with
        | ⟨0, _⟩ => show 0 ≤ (y 0).val ∧ (y 0).val < 0 + 512; omega
        | ⟨1, _⟩ => show 0 ≤ (y 1).val ∧ (y 1).val < 0 + 1024; omega
  rw [View.readCov_eq_canon', hC]
  funext j
  exact congrArg₂ (catN u h) (by show o + 1 * (j 0).val = o + (j 0).val; omega) (by show cs + 1 * (j 1).val = cs + (j 1).val; omega)

theorem outA10 (hc0 : cond0_0 i) :
    out0_A_10 c i a1 h1 a2 h2 a3 h3 a4 h4 a5 h5 a6 h6 a7 h7 a8 h8 a9 h9 a10 h10 a11 h11 a12 h12 a13 h13 a14 h14 hc0 x0 x1 x2 x3 x4 x5 = poolOut (catN (cols 3 (k0_pay2 x0 x1) x2) x3) x4 x5 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc0 x0 x1 x2 x3 x4 x5)]
  unfold kernelRun0_A
  dsimp only
  sl_unfold_words
  have hi : (i 0).val = 0 := by have := (i 0).isLt; change (i 0).val < 1 at this; omega
  have hU : View.readCov (Val := Elt Ideal) (a10.view) [⟨Rect.unit (s := S128x1024) ![0, 512] ![128, 512] inb_S128x1024_S128x512_0_512, k0_pay10 (k0_pay2 x0 x1) (View.ld x2 (Rect.unit (s := S2048x4096) ![0, 3584] ![2048, 512] inb_S2048x4096_S2048x512_0_3584))⟩,
      ⟨Rect.unit (s := S128x1024) ![0, 0] ![128, 512] inb_S128x1024_S128x512_0_0, k0_pay9 (k0_pay2 x0 x1) (View.ld x2 (Rect.unit (s := S2048x4096) ![0, 3072] ![2048, 512] inb_S2048x4096_S2048x512_0_3072))⟩]
      (Rect.unit (s := S128x1024) ![0, 0] ![128, 1024] inb_S128x1024_S128x1024_0_0).toLoadRect = cols 3 (k0_pay2 x0 x1) x2 := by
    rw [View.readCov_eq_canon', pay9_eq, pay10_eq]
    have hc := canon_halves inb_S128x1024_S128x512_0_0 inb_S128x1024_S128x512_0_512 (cols 3 (k0_pay2 (F := Ideal) x0 x1) x2) _ _ (Cert.InSampleIdeal.Closed.pay10_at (k0_pay2 (F := Ideal) x0 x1) x2 _ fun k l => ld_cols x2 3584 (by decide) inb_S2048x4096_S2048x512_0_3584 k l)
      (Cert.InSampleIdeal.Closed.pay9_at (k0_pay2 (F := Ideal) x0 x1) x2 _ fun k l => ld_cols x2 3072 (by decide) inb_S2048x4096_S2048x512_0_3072 k l)
    refine (funext fun j => congrFun hc _).trans ?_
    funext j
    exact congrArg (cols 3 (k0_pay2 (F := Ideal) x0 x1) x2) ((idx2_ext (n := 128) (m := 1024) _ (j 0) (j 1) (by show 0 + 1 * (j 0).val = _; omega) (by show 0 + 1 * (j 1).val = _; omega)).trans
      (idx2_ext (n := 128) (m := 1024) _ (j 0) (j 1) rfl rfl).symm)
  simp only [View.readCov_unit_zero (S := S128x2048) _ hz, View.readAt_eq_ld, h1.read_unread, h2.read_unread, h3.read_unread, h4.read_unread, h5.read_unread, h6.read_unread,
    View.ld_unit_zero (S := S128x2048) hz, View.ld_unit_zero (S := S1x2048) hz, View.ld_unit_zero (S := S512x1024) hz, shapeCast_self, hU, pay11_eq, pay12_eq, cat_ld]
  generalize catN (cols 3 (k0_pay2 (F := Ideal) x0 x1) x2) x3 = C
  have hs : (Scalar.select (Scalar.andi (Scalar.xori (Scalar.cmpi CmpIPredicate.slt (Scalar.remsi (BitVec.ofNat 32 (i 0).val) 1#32) 0#32) 0#1)
      (Scalar.cmpi CmpIPredicate.ne (Scalar.remsi (BitVec.ofNat 32 (i 0).val) 1#32) 0#32)) (Scalar.addi (Scalar.remsi (BitVec.ofNat 32 (i 0).val) 1#32) 1#32)
      (Scalar.remsi (BitVec.ofNat 32 (i 0).val) 1#32)) = 0#32 := by rw [hi]; decide
  simp only [hs]
  have hP := pooled_ld a14 inb_S128x1024_S128x256_0_0 inb_S128x1024_S128x256_0_256 inb_S128x1024_S128x256_0_512 inb_S128x1024_S128x256_0_768 (poolP C) _ _ _ _
    (piece0 C) (piece1 C) (piece2 C) (piece3 C)
  simp only [hP]
  have hQ := canon_quarters inb_S128x1024_S128x256_0_0 inb_S128x1024_S128x256_0_256 inb_S128x1024_S128x256_0_512 inb_S128x1024_S128x256_0_768
    (asN (poolOut C x4 x5)) _ _ _ _
    (fun r l => (map0 C x4 x5 inb_S4x256x256_S1x256x256_0_0_0 inb_S1x1024_S1x256_0_0 r l).trans (asN_at (poolOut C x4 x5) r ⟨0 + l.val, by omega⟩).symm)
    (fun r l => (map1 C x4 x5 inb_S4x256x256_S1x256x256_1_0_0 inb_S1x1024_S1x256_0_256 r l).trans (asN_at (poolOut C x4 x5) r ⟨256 + l.val, by omega⟩).symm)
    (fun r l => (map2 C x4 x5 inb_S4x256x256_S1x256x256_2_0_0 inb_S1x1024_S1x256_0_512 r l).trans (asN_at (poolOut C x4 x5) r ⟨512 + l.val, by omega⟩).symm)
    (fun r l => (map3 C x4 x5 inb_S4x256x256_S1x256x256_3_0_0 inb_S1x1024_S1x256_0_768 r l).trans (asN_at (poolOut C x4 x5) r ⟨768 + l.val, by omega⟩).symm)
  refine hQ.trans ?_
  funext j
  refine (asN_at (poolOut C x4 x5) (j 0) (j 1)).trans ?_
  exact congrArg (poolOut C x4 x5) (idx2_ext (n := 128) (m := 1024) j (j 0) (j 1) rfl rfl).symm

end Cert.PoolSampleIdeal.Closed

end
-- ==== Proof.Finite.lean ====
module

public import Idealize.ShloMosaic.Lib.Pointwise
public import Idealize.ShloMosaic.PureOps.Ideal

@[expose] public section

noncomputable section

namespace Cert.Spec

open Idealize.ShloMosaic
open Idealize.ShloMosaic (Ideal)

theorem pinf : Ideal.ofBits FTy.f32 2139095040#32 = ⊤ := by
  simp [Ideal.ofBits, Ideal.ieee]

/-- An extended real whose absolute value is below infinity is a real. -/
theorem real_of_abs (x : EReal) (h : FloatOps.cmpf (F := Ideal) (φ := .f32) .olt (FloatOps.absf (F := Ideal) (φ := .f32) x) (Ideal.ofBits FTy.f32 2139095040#32) = 1#1) : ∃ r : ℝ, x = r := by
  rw [pinf] at h
  induction x with
  | bot => simp [FloatOps.cmpf, FloatOps.absf, Ideal.cmp] at h
  | top => simp [FloatOps.cmpf, FloatOps.absf, Ideal.cmp] at h
  | coe r => exact ⟨r, rfl⟩

end Cert.Spec

end
-- ==== Proof.PoolSpec.lean ====
module

public import proofs.«01_k».proof.Proof.InSpec
public import proofs.«01_k».proof.Proof.Finite

@[expose] public section

noncomputable section

/-! The pooling over plain arrays, and sums of finite values. -/

namespace Cert.Spec

open Idealize.ShloMosaic
open Idealize.ShloMosaic (Ideal ix0 ix1 ix2 ix3 ix4)

/-- A finite value. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A sum of squares of finite values is a finite value that is not negative. -/
theorem sum_sq_real {ι : Type} (s : Finset ι) (f : ι → EReal) (h : ∀ i, IsReal (f i)) : ∃ r : ℝ, 0 ≤ r ∧ ∑ i ∈ s, f i * f i = r := by
  classical
  induction s using Finset.induction_on with
  | empty => exact ⟨0, le_refl _, by simp⟩
  | insert a s ha ih =>
    obtain ⟨r, hr, e⟩ := ih
    obtain ⟨b, hb⟩ := h a
    refine ⟨b * b + r, add_nonneg (mul_self_nonneg b) hr, ?_⟩
    rw [Finset.sum_insert ha, e, hb, EReal.coe_add, EReal.coe_mul]

theorem two_k : Ideal.ofBits FTy.f32 1157627904#32 = ((2048 : ℝ) : EReal) := by
  simp [Ideal.ofBits, Ideal.ieee]
  rw [← EReal.coe_mul]
  norm_num

theorem eps_pos : ∃ e : ℝ, 0 < e ∧ Ideal.ofBits FTy.f32 897988541#32 = (e : EReal) := by
  have h : ∃ e : ℝ, e = 8796093 * (2 : ℝ) ^ (-43 : ℤ) ∧ Ideal.ofBits FTy.f32 897988541#32 = (e : EReal) := by
    refine ⟨_, rfl, ?_⟩
    simp [Ideal.ofBits, Ideal.ieee]
  obtain ⟨e, he, h⟩ := h
  exact ⟨e, by rw [he]; positivity, h⟩

/-- A sum of squares with an infinite term is plus infinity. -/
theorem sum_sq_top {ι : Type} [Fintype ι] (f : ι → EReal) (i : ι) (h : ¬ IsReal (f i)) : ∑ i, f i * f i = ⊤ := by
  classical
  have hi : f i * f i = ⊤ := by
    generalize f i = y at h
    induction y with
    | bot => exact EReal.bot_mul_bot
    | top => exact EReal.top_mul_top
    | coe r => exact absurd ⟨r, rfl⟩ h
  have hn : ∀ k, 0 ≤ f k * f k := fun k => by
    generalize f k = y
    induction y with
    | bot => rw [EReal.bot_mul_bot]; exact le_top
    | top => rw [EReal.top_mul_top]; exact le_top
    | coe r => rw [← EReal.coe_mul]; exact_mod_cast mul_self_nonneg r
  exact top_le_iff.mp (hi ▸ Finset.single_le_sum (f := fun k => f k * f k) (fun k _ => hn k) (Finset.mem_univ i))

/-- The norm of a row with finite gains is finite: it is zero where the row has an infinite entry. -/
theorem rms_real (x g : Fin 2048 → EReal) (hg : ∀ l, IsReal (g l)) (l : Fin 2048) : IsReal (rms x g l) := by
  unfold rms
  refine IsReal.mul ?_ (hg l)
  obtain ⟨p, hp, ep⟩ := eps_pos
  by_cases hx : ∀ l, IsReal (x l)
  · refine (hx l).mul ?_
    obtain ⟨s, hs, e⟩ := sum_sq_real Finset.univ x hx
    rw [e, two_k, ep]
    unfold Ideal.div
    rw [if_neg (by norm_num), ← EReal.coe_inv, ← EReal.coe_mul, ← EReal.coe_add, Ideal.rsqrt_coe]
    have h0 : 0 < s * (2048 : ℝ)⁻¹ + p := by positivity
    rw [if_neg (not_lt.mpr h0.le), if_neg h0.ne']
    exact ⟨_, rfl⟩
  · obtain ⟨k, hk⟩ := not_forall.mp hx
    rw [sum_sq_top x k hk, two_k, ep]
    unfold Ideal.div
    rw [if_neg (by norm_num), ← EReal.coe_inv, EReal.top_mul_coe_of_pos (by norm_num), EReal.top_add_coe, Ideal.rsqrt_top, mul_zero]
    exact ⟨0, by simp⟩

theorem proj_real {B T : ℕ} (X0 : (⟨3, ![B, T, 2048]⟩ : Shape).Idx → EReal) (X1 : (⟨2, ![1, 2048]⟩ : Shape).Idx → EReal) (X2 : (⟨3, ![1, 2048, 4096]⟩ : Shape).Idx → EReal)
    (h1 : ∀ i, IsReal (X1 i)) (h2 : ∀ i, IsReal (X2 i)) (b : Fin B) (r : Fin T) (n : Fin 4096) : IsReal (proj X0 X1 X2 b r n) := by
  unfold proj
  exact IsReal.sum _ _ fun k _ => (rms_real _ _ (fun l => h1 _) k).mul (h2 _)

section
variable (X0 : (⟨3, ![32, 4, 2048]⟩ : Shape).Idx → EReal) (X1 : (⟨2, ![1, 2048]⟩ : Shape).Idx → EReal) (X2 : (⟨3, ![1, 2048, 4096]⟩ : Shape).Idx → EReal)
  (X3 : (⟨4, ![1, 32, 15, 1024]⟩ : Shape).Idx → EReal) (X4 : (⟨4, ![1, 4, 256, 256]⟩ : Shape).Idx → EReal) (X5 : (⟨2, ![1, 1024]⟩ : Shape).Idx → EReal)

/-- The fifteen rows kept from before followed by the four projected rows, of one sequence. -/
def roll (b : Fin 32) (i : ℕ) (c : Fin 1024) : EReal :=
  if h : i < 15 then X3 (ix4 (0 : Fin 1) b (⟨i, h⟩ : Fin 15) c)
  else if h' : i < 19 then proj X0 X1 X2 b (⟨i - 15, by omega⟩ : Fin 4) (col 3 c) else 0

/-- The window of a column: 2, 4, 8 or 16 rows. -/
def win (c : ℕ) : ℕ := 2 ^ (c / 256 + 1)

/-- The mean of the last rows of the window less the row itself. -/
def pooled (b : Fin 32) (t : Fin 4) (c : Fin 1024) : EReal :=
  Ideal.div (∑ j ∈ Finset.range (win c.val), roll X0 X1 X2 X3 b (15 + t.val - j) c) (FloatOps.sitofp (F := Ideal) FTy.f32 (BitVec.ofNat 32 (win c.val)))
    - roll X0 X1 X2 X3 b (15 + t.val) c

/-- One entry of the pooling's result. -/
def poolAt (b : Fin 32) (t : Fin 4) (c : Fin 1024) : EReal :=
  (∑ k : Fin 256, pooled X0 X1 X2 X3 b t (⟨256 * (c.val / 256) + k.val, by omega⟩ : Fin 1024)
      * X4 (ix4 (0 : Fin 1) (⟨c.val / 256, by omega⟩ : Fin 4) k (⟨c.val % 256, by omega⟩ : Fin 256))) * X5 (ix2 (0 : Fin 1) c)

theorem roll_real (h1 : ∀ i, IsReal (X1 i)) (h2 : ∀ i, IsReal (X2 i)) (h3 : ∀ i, IsReal (X3 i)) (b : Fin 32) (i : ℕ) (c : Fin 1024) :
    IsReal (roll X0 X1 X2 X3 b i c) := by
  unfold roll
  split
  · exact h3 _
  · split
    · exact proj_real X0 X1 X2 h1 h2 _ _ _
    · exact ⟨0, by simp⟩

end

/-- The difference of two running sums of finite values is the sum between them, read from its end. -/
theorem sum_window (f : ℕ → EReal) (hf : ∀ i, IsReal (f i)) (a w : ℕ) :
    (∑ i ∈ Finset.range (a + w), f i) - ∑ i ∈ Finset.range a, f i = ∑ j ∈ Finset.range w, f (a + w - 1 - j) := by
  rw [Finset.sum_range_add, ← Finset.sum_range_reflect (fun j => f (a + w - 1 - j)) w]
  have e : ∑ x ∈ Finset.range w, f (a + x) = ∑ j ∈ Finset.range w, f (a + w - 1 - (w - 1 - j)) :=
    Finset.sum_congr rfl fun j hj => by rw [Finset.mem_range] at hj; congr 1; omega
  rw [e]
  obtain ⟨p, hp⟩ := IsReal.sum (Finset.range a) f fun i _ => hf i
  obtain ⟨q, hq⟩ := IsReal.sum (Finset.range w) (fun j => f (a + w - 1 - (w - 1 - j))) fun i _ => hf _
  rw [hp, hq, ← EReal.coe_add, ← EReal.coe_sub]
  congr 1
  ring

theorem foldl_sum {ι : Type} (l : List ι) (F : EReal → ι → EReal) (f : ι → EReal) (h : ∀ r n, F r n = r + f n) (v : EReal) : l.foldl F v = v + (l.map f).sum := by
  induction l generalizing v with
  | nil => simp
  | cons a l ih => rw [List.foldl_cons, ih, h, List.map_cons, List.sum_cons, add_assoc]

theorem col_idx : ∀ n : Fin (⟨3, ![1, 19, 1]⟩ : Shape).numel, ((⟨3, ![1, 19, 1]⟩ : Shape).rowMajor.symm n 0).val = 0
    ∧ ((⟨3, ![1, 19, 1]⟩ : Shape).rowMajor.symm n 1).val = n.val ∧ ((⟨3, ![1, 19, 1]⟩ : Shape).rowMajor.symm n 2).val = 0 := by
  decide +kernel

/-- The running sum down the rows. -/
theorem running (x : (⟨3, ![32, 19, 1024]⟩ : Shape).Idx → EReal) (init : EReal) (hi : init = 0)
    (h : (⟨3, ![32, 19, 1024]⟩ : Shape).ReduceWindows (![1, 19, 1] : Fin 3 → ℕ) ![1, 1, 1] ![0, 18, 0] ![0, 0, 0] (⟨3, ![32, 19, 1024]⟩ : Shape))
    (b : Fin 32) (j : Fin 19) (c : Fin 1024) (g : ℕ → EReal) (hg : ∀ i : Fin 19, x (ix3 b i c) = g i.val) :
    Ideal.hostReduceWindowAdd (![1, 19, 1] : Fin 3 → ℕ) ![1, 1, 1] ![0, 18, 0] ![0, 0, 0] h x init (ix3 b j c) = ∑ i ∈ Finset.range (j.val + 1), g i := by
  have hN : (⟨3, ![1, 19, 1]⟩ : Shape).numel = 19 := by decide
  have hb := b.isLt
  have hj := j.isLt
  have hc := c.isLt
  unfold Ideal.hostReduceWindowAdd Host.reduceWindow
  refine (foldl_sum _ _ (fun n => if 18 ≤ j.val + n.val then g (j.val + n.val - 18) else 0) (fun r n => ?_) _).trans ?_
  · obtain ⟨e0, e1, e2⟩ := col_idx n
    have hn : n.val < 19 := by have := n.isLt; omega
    refine congrArg (fun y : EReal => r + y) ?_
    split
    · next hin =>
      have h1 := hin 1
      change 18 ≤ j.val * 1 + ((⟨3, ![1, 19, 1]⟩ : Shape).rowMajor.symm n 1).val ∧ _ at h1
      rw [e1] at h1
      rw [if_pos (by omega)]
      refine (congrArg x (idx3_ext _ b (⟨j.val + n.val - 18, by omega⟩ : Fin 19) c ?_ ?_ ?_)).trans (hg _)
      · show b.val * 1 + ((⟨3, ![1, 19, 1]⟩ : Shape).rowMajor.symm n 0).val - 0 = b.val
        rw [e0]; omega
      · show j.val * 1 + ((⟨3, ![1, 19, 1]⟩ : Shape).rowMajor.symm n 1).val - 18 = j.val + n.val - 18
        rw [e1]; omega
      · show c.val * 1 + ((⟨3, ![1, 19, 1]⟩ : Shape).rowMajor.symm n 2).val - 0 = c.val
        rw [e2]; omega
    · next hin =>
      rw [if_neg fun hle => hin fun a => by
        match a with
        | ⟨0, _⟩ =>
          show 0 ≤ b.val * 1 + ((⟨3, ![1, 19, 1]⟩ : Shape).rowMajor.symm n 0).val ∧ b.val * 1 + ((⟨3, ![1, 19, 1]⟩ : Shape).rowMajor.symm n 0).val - 0 < 32
          rw [e0]; omega
        | ⟨1, _⟩ =>
          show 18 ≤ j.val * 1 + ((⟨3, ![1, 19, 1]⟩ : Shape).rowMajor.symm n 1).val ∧ j.val * 1 + ((⟨3, ![1, 19, 1]⟩ : Shape).rowMajor.symm n 1).val - 18 < 19
          rw [e1]; omega
        | ⟨2, _⟩ =>
          show 0 ≤ c.val * 1 + ((⟨3, ![1, 19, 1]⟩ : Shape).rowMajor.symm n 2).val ∧ c.val * 1 + ((⟨3, ![1, 19, 1]⟩ : Shape).rowMajor.symm n 2).val - 0 < 1024
          rw [e2]; omega]
      exact hi
  · rw [hi, zero_add, ← Fin.sum_univ_def]
    rw [← Finset.sum_range (fun n => if 18 ≤ j.val + n then g (j.val + n - 18) else 0)]
    have hs : (⟨3, ![1, 19, 1]⟩ : Shape).numel = (18 - j.val) + (j.val + 1) := by omega
    show ∑ n ∈ Finset.range (⟨3, ![1, 19, 1]⟩ : Shape).numel, _ = _
    rw [hs, Finset.sum_range_add]
    have hz : ∑ n ∈ Finset.range (18 - j.val), (if 18 ≤ j.val + n then g (j.val + n - 18) else 0) = 0 :=
      Finset.sum_eq_zero fun n hn => by rw [Finset.mem_range] at hn; rw [if_neg (by omega)]
    rw [hz, zero_add]
    refine Finset.sum_congr rfl fun n hn => ?_
    rw [if_pos (by omega)]
    congr 1
    omega

end Cert.Spec

end
-- ==== Proof.PoolRef.lean ====
module

public import proofs.«01_k».proof.Proof.PoolSpec
public import proofs.«01_k».proof.Proof.Gen.PoolSampleRefIdeal.Read
public import Idealize.ShloMosaic.Lib.Pipeline.Value

@[expose] public section

set_option maxRecDepth 16384

noncomputable section

/-! The reference's pooling on the samples: running sums, taken at the window's two ends, are the window's sum. -/

namespace Cert.PoolSampleRefIdeal.Closed

open Cert.PoolSampleRefIdeal Cert.PoolSampleRefIdeal.Gen Cert.PoolSampleRefIdeal.Read Idealize.ShloMosaic
open Idealize.ShloMosaic (Ideal ix0 ix1 ix2 ix3 ix4 eq_ix2)
open Cert.Spec (rms idx2_ext idx3_ext col proj roll win pooled poolAt IsReal roll_real sum_window running)

variable (x0 : S32x4x2048.Idx → EReal) (x1 : S1x2048.Idx → EReal) (x2 : S1x2048x4096.Idx → EReal) (x3 : S1x32x15x1024.Idx → EReal)
  (x4 : S1x4x256x256.Idx → EReal) (x5 : S1x1024.Idx → EReal)

theorem h_at (b : Fin 32) (r : Fin 4) (l : Fin 2048) :
    val_main_v13 (F := Ideal) x0 x1 (ix3 b r l) = rms (fun l => x0 (ix3 b r l)) (fun l => x1 (ix2 (0 : Fin 1) l)) l := by
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, rms]

theorem proj_at (b : Fin 32) (r : Fin 4) (n : Fin 4096) :
    val_main_v15 (F := Ideal) x0 x1 x2 (ix3 b r n) = proj x0 x1 x2 b r n := by
  unfold proj
  simp only [← h_at]
  unfold val_main_v15
  generalize val_main_v13 (F := Ideal) x0 x1 = h
  pointwise [val_main_v14]

/-- The nineteen rows of a sequence: the state's fifteen, then the projected four. -/
theorem roll_at (b : Fin 32) (i : Fin 19) (c : Fin 1024) : val_main_v18 (F := Ideal) x0 x1 x2 x3 (ix3 b i c) = roll x0 x1 x2 x3 b i.val c := by
  unfold val_main_v18 roll
  by_cases h : i.val < 15
  · rw [dif_pos h]
    refine (concatenate_pair_apply_left (s₁ := S32x15x1024) (s₂ := S32x4x1024) (t := S32x19x1024) 1 _ _ _ _ rfl (ix3 b (⟨i.val, h⟩ : Fin 15) c) (fun a => by
      match a with
      | ⟨0, _⟩ => rfl
      | ⟨1, _⟩ => rfl
      | ⟨2, _⟩ => rfl)).trans ?_
    pointwise [val_main_v17]
  · rw [dif_neg h, dif_pos i.isLt, ← proj_at]
    refine (concatenate_pair_apply_right (s₁ := S32x15x1024) (s₂ := S32x4x1024) (t := S32x19x1024) 1 _ _ _ _ rfl rfl (ix3 b (⟨i.val - 15, by omega⟩ : Fin 4) c) (fun a ha => by
      match a with
      | ⟨0, _⟩ => rfl
      | ⟨1, _⟩ => exact absurd rfl ha
      | ⟨2, _⟩ => rfl) (by show i.val - 15 + 15 = i.val; omega)).trans ?_
    rw [val_main_v16_apply]
    exact congrArg (val_main_v15 (F := Ideal) x0 x1 x2) (idx3_ext _ _ _ _ rfl rfl (by show 3072 + c.val = 1024 * 3 + c.val; omega))

/-- The running sums, with a row of zeros before them. -/
theorem run_at (b : Fin 32) (i : Fin 20) (c : Fin 1024) :
    val_main_v21 (F := Ideal) x0 x1 x2 x3 (ix3 b i c) = ∑ n ∈ Finset.range i.val, roll x0 x1 x2 x3 b n c := by
  unfold val_main_v21
  by_cases h : i.val < 1
  · rw [show i.val = 0 by omega, Finset.range_zero, Finset.sum_empty]
    refine (concatenate_pair_apply_left (s₁ := S32x1x1024) (s₂ := S32x19x1024) (t := S32x20x1024) 1 _ _ _ _ rfl (ix3 b (⟨i.val, h⟩ : Fin 1) c) (fun a => by
      match a with
      | ⟨0, _⟩ => rfl
      | ⟨1, _⟩ => rfl
      | ⟨2, _⟩ => rfl)).trans ?_
    pointwise [val_main_v19, val_main_cst_2]
  · refine (concatenate_pair_apply_right (s₁ := S32x1x1024) (s₂ := S32x19x1024) (t := S32x20x1024) 1 _ _ _ _ rfl rfl (ix3 b (⟨i.val - 1, by omega⟩ : Fin 19) c) (fun a ha => by
      match a with
      | ⟨0, _⟩ => rfl
      | ⟨1, _⟩ => exact absurd rfl ha
      | ⟨2, _⟩ => rfl) (by show i.val - 1 + 1 = i.val; omega)).trans ?_
    unfold val_main_v20
    refine (running (val_main_v18 (F := Ideal) x0 x1 x2 x3) _ ?_ reduceWindows_S32x19x1024_S32x19x1024_w1s1p0_0_w19s1p18_0_w1s1p0_0 b (⟨i.val - 1, by omega⟩ : Fin 19) c
      (fun n => roll x0 x1 x2 x3 b n c) (fun n => roll_at x0 x1 x2 x3 b n c)).trans ?_
    · pointwise [val_main_call0_call0_v0, val_main_call0_call0_cst]
    · show ∑ n ∈ Finset.range (i.val - 1 + 1), _ = _
      rw [show i.val - 1 + 1 = i.val by omega]

/-- Rows taken by an index read at one entry. -/
theorem take_at (x : S32x20x256.Idx → EReal) (idx : IVec S4x1 32) (b : Fin 32) (t : Fin 4) (l : Fin 256) :
    Host.gather gather_S32x20x256_S4x1_S32x4x256_02_1_n_n_1_1_321256 x idx (ix3 b t l)
      = x (ix3 b (⟨min (idx (ix2 t (0 : Fin 1))).toInt.toNat 19, by omega⟩ : Fin 20) l) := by
  unfold Host.gather
  refine congrArg x (idx3_ext _ _ _ _ ?_ ?_ ?_)
  · show GatherDims.start _ _ idx 0 + GatherDims.batchCoord _ _ 0 + GatherDims.offCoord _ _ 0 = b.val
    rw [GatherDims.batchCoord_eq_zero _ _ _ (by decide)]
    unfold GatherDims.start GatherDims.offCoord
    rw [dif_neg (by decide), dif_pos (by decide)]
    show 0 + 0 + b.val = b.val
    omega
  · show GatherDims.start _ _ idx 1 + GatherDims.batchCoord _ _ 1 + GatherDims.offCoord _ _ 1 = _
    rw [GatherDims.batchCoord_eq_zero _ _ _ (by decide), GatherDims.offCoord_eq_zero _ _ _ (by decide)]
    unfold GatherDims.start
    rw [dif_pos (by decide)]
    show min (idx _).toInt.toNat 19 + 0 + 0 = min (idx (ix2 t (0 : Fin 1))).toInt.toNat 19
    refine congrArg (fun y => min (idx y).toInt.toNat 19) (idx2_ext _ _ _ ?_ ?_)
    · rfl
    · rfl
  · show GatherDims.start _ _ idx 2 + GatherDims.batchCoord _ _ 2 + GatherDims.offCoord _ _ 2 = l.val
    rw [GatherDims.batchCoord_eq_zero _ _ _ (by decide)]
    unfold GatherDims.start GatherDims.offCoord
    rw [dif_neg (by decide), dif_pos (by decide)]
    show 0 + 0 + l.val = l.val
    omega

theorem ends0 : (∀ t : Fin 4, min (val_main_v43 (F := Ideal) (ix2 t (0 : Fin 1))).toInt.toNat 19 = 14 + t.val + 2)
    ∧ (∀ t : Fin 4, min (val_main_v50 (F := Ideal) (ix2 t (0 : Fin 1))).toInt.toNat 19 = 14 + t.val)
    ∧ (∀ t : Fin 4, val_main_v33 (F := Ideal) (ix1 t) = 2#32) := by
  decide +kernel

/-- The pooling of one group of columns. -/
theorem mean0 (hf : ∀ b i c, IsReal (roll x0 x1 x2 x3 b i c)) (b : Fin 32) (t : Fin 4) (l : Fin 256) :
    val_main_v57 (F := Ideal) x0 x1 x2 x3 (ix3 b t l) = pooled x0 x1 x2 x3 b t (⟨0 + l.val, by omega⟩ : Fin 1024) := by
  have hw : win (0 + l.val) = 2 := by
    unfold win
    rw [show (0 + l.val) / 256 = 0 by omega]
    rfl
  have hhi : val_main_v44 (F := Ideal) x0 x1 x2 x3 (ix3 b t l) = ∑ n ∈ Finset.range (14 + t.val + 2), roll x0 x1 x2 x3 b n (⟨0 + l.val, by omega⟩ : Fin 1024) := by
    refine (take_at _ _ b t l).trans ?_
    rw [val_main_v35_apply]
    refine Eq.trans (congrArg (val_main_v21 (F := Ideal) x0 x1 x2 x3) (idx3_ext _ b (⟨14 + t.val + 2, by omega⟩ : Fin 20) (⟨0 + l.val, by omega⟩ : Fin 1024) rfl ?_ ?_)) (run_at x0 x1 x2 x3 _ _ _)
    · exact (ends0.1 t).trans (by show _ = 14 + t.val + 2; omega)
    · first | rfl | (show l.val = 0 + l.val; omega)
  have hlo : val_main_v51 (F := Ideal) x0 x1 x2 x3 (ix3 b t l) = ∑ n ∈ Finset.range (14 + t.val), roll x0 x1 x2 x3 b n (⟨0 + l.val, by omega⟩ : Fin 1024) := by
    refine (take_at _ _ b t l).trans ?_
    rw [val_main_v35_apply]
    refine Eq.trans (congrArg (val_main_v21 (F := Ideal) x0 x1 x2 x3) (idx3_ext _ b (⟨14 + t.val, by omega⟩ : Fin 20) (⟨0 + l.val, by omega⟩ : Fin 1024) rfl ?_ ?_)) (run_at x0 x1 x2 x3 _ _ _)
    · exact (ends0.2.1 t).trans (by show _ = 14 + t.val; omega)
    · first | rfl | (show l.val = 0 + l.val; omega)
  have hc : val_main_v54 (F := Ideal) (ix3 b t l) = FloatOps.sitofp (F := Ideal) FTy.f32 2#32 := by
    rw [val_main_v54_apply, val_main_v53_apply, val_main_v34_apply]
    exact congrArg (FloatOps.sitofp (F := Ideal) FTy.f32) (ends0.2.2 t)
  have hu : val_main_v56 (F := Ideal) x0 x1 x2 x3 (ix3 b t l) = roll x0 x1 x2 x3 b (15 + t.val) (⟨0 + l.val, by omega⟩ : Fin 1024) := by
    rw [val_main_v56_apply]
    refine Eq.trans (congrArg (val_main_v18 (F := Ideal) x0 x1 x2 x3) (idx3_ext _ b (⟨15 + t.val, by omega⟩ : Fin 19) (⟨0 + l.val, by omega⟩ : Fin 1024) rfl rfl ?_)) (roll_at x0 x1 x2 x3 _ _ _)
    first | rfl | (show l.val = 0 + l.val; omega)
  rw [val_main_v57_apply, val_main_v55_apply, val_main_v52_apply, hhi, hlo, hc, hu]
  unfold pooled
  show Ideal.div (_ - _) _ - _ = Ideal.div (∑ j ∈ Finset.range (win (0 + l.val)), _) (FloatOps.sitofp (F := Ideal) FTy.f32 (BitVec.ofNat 32 (win (0 + l.val)))) - _
  rw [hw, sum_window (fun n => roll x0 x1 x2 x3 b n (⟨0 + l.val, by omega⟩ : Fin 1024)) (fun n => hf _ _ _) (14 + t.val) 2]
  refine congrArg (fun y : EReal => Ideal.div y (FloatOps.sitofp (F := Ideal) FTy.f32 2#32) - roll x0 x1 x2 x3 b (15 + t.val) (⟨0 + l.val, by omega⟩ : Fin 1024)) ?_
  refine Finset.sum_congr rfl fun j _ => ?_
  rw [show 14 + t.val + 2 - 1 - j = 15 + t.val - j by omega]

/-- One group's map of the pooling. -/
theorem part0 (hf : ∀ b i c, IsReal (roll x0 x1 x2 x3 b i c)) (b : Fin 32) (t : Fin 4) (l : Fin 256) :
    val_main_v60 (F := Ideal) x0 x1 x2 x3 x4 (ix3 b t l)
      = ∑ k : Fin 256, pooled x0 x1 x2 x3 b t (⟨0 + k.val, by omega⟩ : Fin 1024) * x4 (ix4 (0 : Fin 1) (0 : Fin 4) k l) := by
  rw [val_main_v60_apply]
  refine Finset.sum_congr rfl fun k _ => ?_
  refine congrArg₂ (fun a b : EReal => a * b) ?_ ?_
  · exact (congrArg (val_main_v57 (F := Ideal) x0 x1 x2 x3) (idx3_ext _ b t k rfl rfl rfl)).trans (mean0 x0 x1 x2 x3 hf b t k)
  · rw [val_main_v59_apply, val_main_v58_apply]
    refine congrArg x4 (funext fun a => Fin.ext ?_)
    match a with
    | ⟨0, _⟩ => rfl
    | ⟨1, _⟩ => rfl
    | ⟨2, _⟩ => show (k.val * 256 + l.val) / 256 % 256 = k.val; omega
    | ⟨3, _⟩ => show (k.val * 256 + l.val) % 256 = l.val; omega

theorem ends1 : (∀ t : Fin 4, min (val_main_v79 (F := Ideal) (ix2 t (0 : Fin 1))).toInt.toNat 19 = 12 + t.val + 4)
    ∧ (∀ t : Fin 4, min (val_main_v86 (F := Ideal) (ix2 t (0 : Fin 1))).toInt.toNat 19 = 12 + t.val)
    ∧ (∀ t : Fin 4, val_main_v69 (F := Ideal) (ix1 t) = 4#32) := by
  decide +kernel

/-- The pooling of one group of columns. -/
theorem mean1 (hf : ∀ b i c, IsReal (roll x0 x1 x2 x3 b i c)) (b : Fin 32) (t : Fin 4) (l : Fin 256) :
    val_main_v93 (F := Ideal) x0 x1 x2 x3 (ix3 b t l) = pooled x0 x1 x2 x3 b t (⟨256 + l.val, by omega⟩ : Fin 1024) := by
  have hw : win (256 + l.val) = 4 := by
    unfold win
    rw [show (256 + l.val) / 256 = 1 by omega]
    rfl
  have hhi : val_main_v80 (F := Ideal) x0 x1 x2 x3 (ix3 b t l) = ∑ n ∈ Finset.range (12 + t.val + 4), roll x0 x1 x2 x3 b n (⟨256 + l.val, by omega⟩ : Fin 1024) := by
    refine (take_at _ _ b t l).trans ?_
    rw [val_main_v71_apply]
    refine Eq.trans (congrArg (val_main_v21 (F := Ideal) x0 x1 x2 x3) (idx3_ext _ b (⟨12 + t.val + 4, by omega⟩ : Fin 20) (⟨256 + l.val, by omega⟩ : Fin 1024) rfl ?_ ?_)) (run_at x0 x1 x2 x3 _ _ _)
    · exact (ends1.1 t).trans (by show _ = 12 + t.val + 4; omega)
    · first | rfl | (show l.val = 0 + l.val; omega)
  have hlo : val_main_v87 (F := Ideal) x0 x1 x2 x3 (ix3 b t l) = ∑ n ∈ Finset.range (12 + t.val), roll x0 x1 x2 x3 b n (⟨256 + l.val, by omega⟩ : Fin 1024) := by
    refine (take_at _ _ b t l).trans ?_
    rw [val_main_v71_apply]
    refine Eq.trans (congrArg (val_main_v21 (F := Ideal) x0 x1 x2 x3) (idx3_ext _ b (⟨12 + t.val, by omega⟩ : Fin 20) (⟨256 + l.val, by omega⟩ : Fin 1024) rfl ?_ ?_)) (run_at x0 x1 x2 x3 _ _ _)
    · exact (ends1.2.1 t).trans (by show _ = 12 + t.val; omega)
    · first | rfl | (show l.val = 0 + l.val; omega)
  have hc : val_main_v90 (F := Ideal) (ix3 b t l) = FloatOps.sitofp (F := Ideal) FTy.f32 4#32 := by
    rw [val_main_v90_apply, val_main_v89_apply, val_main_v70_apply]
    exact congrArg (FloatOps.sitofp (F := Ideal) FTy.f32) (ends1.2.2 t)
  have hu : val_main_v92 (F := Ideal) x0 x1 x2 x3 (ix3 b t l) = roll x0 x1 x2 x3 b (15 + t.val) (⟨256 + l.val, by omega⟩ : Fin 1024) := by
    rw [val_main_v92_apply]
    refine Eq.trans (congrArg (val_main_v18 (F := Ideal) x0 x1 x2 x3) (idx3_ext _ b (⟨15 + t.val, by omega⟩ : Fin 19) (⟨256 + l.val, by omega⟩ : Fin 1024) rfl rfl ?_)) (roll_at x0 x1 x2 x3 _ _ _)
    first | rfl | (show l.val = 0 + l.val; omega)
  rw [val_main_v93_apply, val_main_v91_apply, val_main_v88_apply, hhi, hlo, hc, hu]
  unfold pooled
  show Ideal.div (_ - _) _ - _ = Ideal.div (∑ j ∈ Finset.range (win (256 + l.val)), _) (FloatOps.sitofp (F := Ideal) FTy.f32 (BitVec.ofNat 32 (win (256 + l.val)))) - _
  rw [hw, sum_window (fun n => roll x0 x1 x2 x3 b n (⟨256 + l.val, by omega⟩ : Fin 1024)) (fun n => hf _ _ _) (12 + t.val) 4]
  refine congrArg (fun y : EReal => Ideal.div y (FloatOps.sitofp (F := Ideal) FTy.f32 4#32) - roll x0 x1 x2 x3 b (15 + t.val) (⟨256 + l.val, by omega⟩ : Fin 1024)) ?_
  refine Finset.sum_congr rfl fun j _ => ?_
  rw [show 12 + t.val + 4 - 1 - j = 15 + t.val - j by omega]

/-- One group's map of the pooling. -/
theorem part1 (hf : ∀ b i c, IsReal (roll x0 x1 x2 x3 b i c)) (b : Fin 32) (t : Fin 4) (l : Fin 256) :
    val_main_v96 (F := Ideal) x0 x1 x2 x3 x4 (ix3 b t l)
      = ∑ k : Fin 256, pooled x0 x1 x2 x3 b t (⟨256 + k.val, by omega⟩ : Fin 1024) * x4 (ix4 (0 : Fin 1) (1 : Fin 4) k l) := by
  rw [val_main_v96_apply]
  refine Finset.sum_congr rfl fun k _ => ?_
  refine congrArg₂ (fun a b : EReal => a * b) ?_ ?_
  · exact (congrArg (val_main_v93 (F := Ideal) x0 x1 x2 x3) (idx3_ext _ b t k rfl rfl rfl)).trans (mean1 x0 x1 x2 x3 hf b t k)
  · rw [val_main_v95_apply, val_main_v94_apply]
    refine congrArg x4 (funext fun a => Fin.ext ?_)
    match a with
    | ⟨0, _⟩ => rfl
    | ⟨1, _⟩ => rfl
    | ⟨2, _⟩ => show (k.val * 256 + l.val) / 256 % 256 = k.val; omega
    | ⟨3, _⟩ => show (k.val * 256 + l.val) % 256 = l.val; omega

theorem ends2 : (∀ t : Fin 4, min (val_main_v115 (F := Ideal) (ix2 t (0 : Fin 1))).toInt.toNat 19 = 8 + t.val + 8)
    ∧ (∀ t : Fin 4, min (val_main_v122 (F := Ideal) (ix2 t (0 : Fin 1))).toInt.toNat 19 = 8 + t.val)
    ∧ (∀ t : Fin 4, val_main_v105 (F := Ideal) (ix1 t) = 8#32) := by
  decide +kernel

/-- The pooling of one group of columns. -/
theorem mean2 (hf : ∀ b i c, IsReal (roll x0 x1 x2 x3 b i c)) (b : Fin 32) (t : Fin 4) (l : Fin 256) :
    val_main_v129 (F := Ideal) x0 x1 x2 x3 (ix3 b t l) = pooled x0 x1 x2 x3 b t (⟨512 + l.val, by omega⟩ : Fin 1024) := by
  have hw : win (512 + l.val) = 8 := by
    unfold win
    rw [show (512 + l.val) / 256 = 2 by omega]
    rfl
  have hhi : val_main_v116 (F := Ideal) x0 x1 x2 x3 (ix3 b t l) = ∑ n ∈ Finset.range (8 + t.val + 8), roll x0 x1 x2 x3 b n (⟨512 + l.val, by omega⟩ : Fin 1024) := by
    refine (take_at _ _ b t l).trans ?_
    rw [val_main_v107_apply]
    refine Eq.trans (congrArg (val_main_v21 (F := Ideal) x0 x1 x2 x3) (idx3_ext _ b (⟨8 + t.val + 8, by omega⟩ : Fin 20) (⟨512 + l.val, by omega⟩ : Fin 1024) rfl ?_ ?_)) (run_at x0 x1 x2 x3 _ _ _)
    · exact (ends2.1 t).trans (by show _ = 8 + t.val + 8; omega)
    · first | rfl | (show l.val = 0 + l.val; omega)
  have hlo : val_main_v123 (F := Ideal) x0 x1 x2 x3 (ix3 b t l) = ∑ n ∈ Finset.range (8 + t.val), roll x0 x1 x2 x3 b n (⟨512 + l.val, by omega⟩ : Fin 1024) := by
    refine (take_at _ _ b t l).trans ?_
    rw [val_main_v107_apply]
    refine Eq.trans (congrArg (val_main_v21 (F := Ideal) x0 x1 x2 x3) (idx3_ext _ b (⟨8 + t.val, by omega⟩ : Fin 20) (⟨512 + l.val, by omega⟩ : Fin 1024) rfl ?_ ?_)) (run_at x0 x1 x2 x3 _ _ _)
    · exact (ends2.2.1 t).trans (by show _ = 8 + t.val; omega)
    · first | rfl | (show l.val = 0 + l.val; omega)
  have hc : val_main_v126 (F := Ideal) (ix3 b t l) = FloatOps.sitofp (F := Ideal) FTy.f32 8#32 := by
    rw [val_main_v126_apply, val_main_v125_apply, val_main_v106_apply]
    exact congrArg (FloatOps.sitofp (F := Ideal) FTy.f32) (ends2.2.2 t)
  have hu : val_main_v128 (F := Ideal) x0 x1 x2 x3 (ix3 b t l) = roll x0 x1 x2 x3 b (15 + t.val) (⟨512 + l.val, by omega⟩ : Fin 1024) := by
    rw [val_main_v128_apply]
    refine Eq.trans (congrArg (val_main_v18 (F := Ideal) x0 x1 x2 x3) (idx3_ext _ b (⟨15 + t.val, by omega⟩ : Fin 19) (⟨512 + l.val, by omega⟩ : Fin 1024) rfl rfl ?_)) (roll_at x0 x1 x2 x3 _ _ _)
    first | rfl | (show l.val = 0 + l.val; omega)
  rw [val_main_v129_apply, val_main_v127_apply, val_main_v124_apply, hhi, hlo, hc, hu]
  unfold pooled
  show Ideal.div (_ - _) _ - _ = Ideal.div (∑ j ∈ Finset.range (win (512 + l.val)), _) (FloatOps.sitofp (F := Ideal) FTy.f32 (BitVec.ofNat 32 (win (512 + l.val)))) - _
  rw [hw, sum_window (fun n => roll x0 x1 x2 x3 b n (⟨512 + l.val, by omega⟩ : Fin 1024)) (fun n => hf _ _ _) (8 + t.val) 8]
  refine congrArg (fun y : EReal => Ideal.div y (FloatOps.sitofp (F := Ideal) FTy.f32 8#32) - roll x0 x1 x2 x3 b (15 + t.val) (⟨512 + l.val, by omega⟩ : Fin 1024)) ?_
  refine Finset.sum_congr rfl fun j _ => ?_
  rw [show 8 + t.val + 8 - 1 - j = 15 + t.val - j by omega]

/-- One group's map of the pooling. -/
theorem part2 (hf : ∀ b i c, IsReal (roll x0 x1 x2 x3 b i c)) (b : Fin 32) (t : Fin 4) (l : Fin 256) :
    val_main_v132 (F := Ideal) x0 x1 x2 x3 x4 (ix3 b t l)
      = ∑ k : Fin 256, pooled x0 x1 x2 x3 b t (⟨512 + k.val, by omega⟩ : Fin 1024) * x4 (ix4 (0 : Fin 1) (2 : Fin 4) k l) := by
  rw [val_main_v132_apply]
  refine Finset.sum_congr rfl fun k _ => ?_
  refine congrArg₂ (fun a b : EReal => a * b) ?_ ?_
  · exact (congrArg (val_main_v129 (F := Ideal) x0 x1 x2 x3) (idx3_ext _ b t k rfl rfl rfl)).trans (mean2 x0 x1 x2 x3 hf b t k)
  · rw [val_main_v131_apply, val_main_v130_apply]
    refine congrArg x4 (funext fun a => Fin.ext ?_)
    match a with
    | ⟨0, _⟩ => rfl
    | ⟨1, _⟩ => rfl
    | ⟨2, _⟩ => show (k.val * 256 + l.val) / 256 % 256 = k.val; omega
    | ⟨3, _⟩ => show (k.val * 256 + l.val) % 256 = l.val; omega

theorem ends3 : (∀ t : Fin 4, min (val_main_v151 (F := Ideal) (ix2 t (0 : Fin 1))).toInt.toNat 19 = 0 + t.val + 16)
    ∧ (∀ t : Fin 4, min (val_main_v158 (F := Ideal) (ix2 t (0 : Fin 1))).toInt.toNat 19 = 0 + t.val)
    ∧ (∀ t : Fin 4, val_main_v141 (F := Ideal) (ix1 t) = 16#32) := by
  decide +kernel

/-- The pooling of one group of columns. -/
theorem mean3 (hf : ∀ b i c, IsReal (roll x0 x1 x2 x3 b i c)) (b : Fin 32) (t : Fin 4) (l : Fin 256) :
    val_main_v165 (F := Ideal) x0 x1 x2 x3 (ix3 b t l) = pooled x0 x1 x2 x3 b t (⟨768 + l.val, by omega⟩ : Fin 1024) := by
  have hw : win (768 + l.val) = 16 := by
    unfold win
    rw [show (768 + l.val) / 256 = 3 by omega]
    rfl
  have hhi : val_main_v152 (F := Ideal) x0 x1 x2 x3 (ix3 b t l) = ∑ n ∈ Finset.range (0 + t.val + 16), roll x0 x1 x2 x3 b n (⟨768 + l.val, by omega⟩ : Fin 1024) := by
    refine (take_at _ _ b t l).trans ?_
    rw [val_main_v143_apply]
    refine Eq.trans (congrArg (val_main_v21 (F := Ideal) x0 x1 x2 x3) (idx3_ext _ b (⟨0 + t.val + 16, by omega⟩ : Fin 20) (⟨768 + l.val, by omega⟩ : Fin 1024) rfl ?_ ?_)) (run_at x0 x1 x2 x3 _ _ _)
    · exact (ends3.1 t).trans (by show _ = 0 + t.val + 16; omega)
    · first | rfl | (show l.val = 0 + l.val; omega)
  have hlo : val_main_v159 (F := Ideal) x0 x1 x2 x3 (ix3 b t l) = ∑ n ∈ Finset.range (0 + t.val), roll x0 x1 x2 x3 b n (⟨768 + l.val, by omega⟩ : Fin 1024) := by
    refine (take_at _ _ b t l).trans ?_
    rw [val_main_v143_apply]
    refine Eq.trans (congrArg (val_main_v21 (F := Ideal) x0 x1 x2 x3) (idx3_ext _ b (⟨0 + t.val, by omega⟩ : Fin 20) (⟨768 + l.val, by omega⟩ : Fin 1024) rfl ?_ ?_)) (run_at x0 x1 x2 x3 _ _ _)
    · exact (ends3.2.1 t).trans (by show _ = 0 + t.val; omega)
    · first | rfl | (show l.val = 0 + l.val; omega)
  have hc : val_main_v162 (F := Ideal) (ix3 b t l) = FloatOps.sitofp (F := Ideal) FTy.f32 16#32 := by
    rw [val_main_v162_apply, val_main_v161_apply, val_main_v142_apply]
    exact congrArg (FloatOps.sitofp (F := Ideal) FTy.f32) (ends3.2.2 t)
  have hu : val_main_v164 (F := Ideal) x0 x1 x2 x3 (ix3 b t l) = roll x0 x1 x2 x3 b (15 + t.val) (⟨768 + l.val, by omega⟩ : Fin 1024) := by
    rw [val_main_v164_apply]
    refine Eq.trans (congrArg (val_main_v18 (F := Ideal) x0 x1 x2 x3) (idx3_ext _ b (⟨15 + t.val, by omega⟩ : Fin 19) (⟨768 + l.val, by omega⟩ : Fin 1024) rfl rfl ?_)) (roll_at x0 x1 x2 x3 _ _ _)
    first | rfl | (show l.val = 0 + l.val; omega)
  rw [val_main_v165_apply, val_main_v163_apply, val_main_v160_apply, hhi, hlo, hc, hu]
  unfold pooled
  show Ideal.div (_ - _) _ - _ = Ideal.div (∑ j ∈ Finset.range (win (768 + l.val)), _) (FloatOps.sitofp (F := Ideal) FTy.f32 (BitVec.ofNat 32 (win (768 + l.val)))) - _
  rw [hw, sum_window (fun n => roll x0 x1 x2 x3 b n (⟨768 + l.val, by omega⟩ : Fin 1024)) (fun n => hf _ _ _) (0 + t.val) 16]
  refine congrArg (fun y : EReal => Ideal.div y (FloatOps.sitofp (F := Ideal) FTy.f32 16#32) - roll x0 x1 x2 x3 b (15 + t.val) (⟨768 + l.val, by omega⟩ : Fin 1024)) ?_
  refine Finset.sum_congr rfl fun j _ => ?_
  rw [show 0 + t.val + 16 - 1 - j = 15 + t.val - j by omega]

/-- One group's map of the pooling. -/
theorem part3 (hf : ∀ b i c, IsReal (roll x0 x1 x2 x3 b i c)) (b : Fin 32) (t : Fin 4) (l : Fin 256) :
    val_main_v168 (F := Ideal) x0 x1 x2 x3 x4 (ix3 b t l)
      = ∑ k : Fin 256, pooled x0 x1 x2 x3 b t (⟨768 + k.val, by omega⟩ : Fin 1024) * x4 (ix4 (0 : Fin 1) (3 : Fin 4) k l) := by
  rw [val_main_v168_apply]
  refine Finset.sum_congr rfl fun k _ => ?_
  refine congrArg₂ (fun a b : EReal => a * b) ?_ ?_
  · exact (congrArg (val_main_v165 (F := Ideal) x0 x1 x2 x3) (idx3_ext _ b t k rfl rfl rfl)).trans (mean3 x0 x1 x2 x3 hf b t k)
  · rw [val_main_v167_apply, val_main_v166_apply]
    refine congrArg x4 (funext fun a => Fin.ext ?_)
    match a with
    | ⟨0, _⟩ => rfl
    | ⟨1, _⟩ => rfl
    | ⟨2, _⟩ => show (k.val * 256 + l.val) / 256 % 256 = k.val; omega
    | ⟨3, _⟩ => show (k.val * 256 + l.val) % 256 = l.val; omega

theorem joined (hf : ∀ b i c, IsReal (roll x0 x1 x2 x3 b i c)) (b : Fin 32) (t : Fin 4) (c : Fin 1024) :
    val_main_v169 (F := Ideal) x0 x1 x2 x3 x4 (ix3 b t c)
      = ∑ k : Fin 256, pooled x0 x1 x2 x3 b t (⟨256 * (c.val / 256) + k.val, by omega⟩ : Fin 1024)
          * x4 (ix4 (0 : Fin 1) (⟨c.val / 256, by omega⟩ : Fin 4) k (⟨c.val % 256, by omega⟩ : Fin 256)) := by
  have hc := c.isLt
  unfold val_main_v169
  have hq : c.val / 256 = 0 ∨ c.val / 256 = 1 ∨ c.val / 256 = 2 ∨ c.val / 256 = 3 := by omega
  rcases hq with hq | hq | hq | hq
  · have hl : c.val % 256 = c.val - 0 := by omega
    refine (concatenate_apply_piece (t := S32x4x1024) 2 _ _ (ix3 b t c) 0 (by show 0 < 4; decide) S32x4x256 (val_main_v60 (F := Ideal) x0 x1 x2 x3 x4) rfl rfl 0 rfl (ix3 b t (⟨c.val % 256, by omega⟩ : Fin 256)) (fun a ha => by
      match a with
      | ⟨0, _⟩ => rfl
      | ⟨1, _⟩ => rfl
      | ⟨2, _⟩ => exact absurd rfl ha) (by show 0 + c.val % 256 = c.val; omega)).trans ?_
    refine (part0 x0 x1 x2 x3 x4 hf b t _).trans (Finset.sum_congr rfl fun k _ => ?_)
    refine congrArg₂ (fun a b : EReal => a * b) (congrArg (pooled x0 x1 x2 x3 b t) (Fin.ext ?_)) (congrArg (fun q : Fin 4 => x4 (ix4 (0 : Fin 1) q k _)) (Fin.ext ?_))
    · show 0 + k.val = 256 * (c.val / 256) + k.val; omega
    · show 0 = c.val / 256; omega
  · have hl : c.val % 256 = c.val - 256 := by omega
    refine (concatenate_apply_piece (t := S32x4x1024) 2 _ _ (ix3 b t c) 1 (by show 1 < 4; decide) S32x4x256 (val_main_v96 (F := Ideal) x0 x1 x2 x3 x4) rfl rfl 256 rfl (ix3 b t (⟨c.val % 256, by omega⟩ : Fin 256)) (fun a ha => by
      match a with
      | ⟨0, _⟩ => rfl
      | ⟨1, _⟩ => rfl
      | ⟨2, _⟩ => exact absurd rfl ha) (by show 256 + c.val % 256 = c.val; omega)).trans ?_
    refine (part1 x0 x1 x2 x3 x4 hf b t _).trans (Finset.sum_congr rfl fun k _ => ?_)
    refine congrArg₂ (fun a b : EReal => a * b) (congrArg (pooled x0 x1 x2 x3 b t) (Fin.ext ?_)) (congrArg (fun q : Fin 4 => x4 (ix4 (0 : Fin 1) q k _)) (Fin.ext ?_))
    · show 256 + k.val = 256 * (c.val / 256) + k.val; omega
    · show 1 = c.val / 256; omega
  · have hl : c.val % 256 = c.val - 512 := by omega
    refine (concatenate_apply_piece (t := S32x4x1024) 2 _ _ (ix3 b t c) 2 (by show 2 < 4; decide) S32x4x256 (val_main_v132 (F := Ideal) x0 x1 x2 x3 x4) rfl rfl 512 rfl (ix3 b t (⟨c.val % 256, by omega⟩ : Fin 256)) (fun a ha => by
      match a with
      | ⟨0, _⟩ => rfl
      | ⟨1, _⟩ => rfl
      | ⟨2, _⟩ => exact absurd rfl ha) (by show 512 + c.val % 256 = c.val; omega)).trans ?_
    refine (part2 x0 x1 x2 x3 x4 hf b t _).trans (Finset.sum_congr rfl fun k _ => ?_)
    refine congrArg₂ (fun a b : EReal => a * b) (congrArg (pooled x0 x1 x2 x3 b t) (Fin.ext ?_)) (congrArg (fun q : Fin 4 => x4 (ix4 (0 : Fin 1) q k _)) (Fin.ext ?_))
    · show 512 + k.val = 256 * (c.val / 256) + k.val; omega
    · show 2 = c.val / 256; omega
  · have hl : c.val % 256 = c.val - 768 := by omega
    refine (concatenate_apply_piece (t := S32x4x1024) 2 _ _ (ix3 b t c) 3 (by show 3 < 4; decide) S32x4x256 (val_main_v168 (F := Ideal) x0 x1 x2 x3 x4) rfl rfl 768 rfl (ix3 b t (⟨c.val % 256, by omega⟩ : Fin 256)) (fun a ha => by
      match a with
      | ⟨0, _⟩ => rfl
      | ⟨1, _⟩ => rfl
      | ⟨2, _⟩ => exact absurd rfl ha) (by show 768 + c.val % 256 = c.val; omega)).trans ?_
    refine (part3 x0 x1 x2 x3 x4 hf b t _).trans (Finset.sum_congr rfl fun k _ => ?_)
    refine congrArg₂ (fun a b : EReal => a * b) (congrArg (pooled x0 x1 x2 x3 b t) (Fin.ext ?_)) (congrArg (fun q : Fin 4 => x4 (ix4 (0 : Fin 1) q k _)) (Fin.ext ?_))
    · show 768 + k.val = 256 * (c.val / 256) + k.val; omega
    · show 3 = c.val / 256; omega

/-- The reference's pooling is the pooling, laid out token by token. -/
theorem ref_at (hf : ∀ b i c, IsReal (roll x0 x1 x2 x3 b i c)) (n : Fin 128) (c : Fin 1024) :
    val_main_v176 (F := Ideal) x0 x1 x2 x3 x4 x5 (ix2 n c) = poolAt x0 x1 x2 x3 x4 x5 (⟨n.val % 32, by omega⟩ : Fin 32) (⟨n.val / 32, by omega⟩ : Fin 4) c := by
  have hn := n.isLt
  have hc := c.isLt
  rw [val_main_v176_apply, val_main_v175_apply, val_main_v174_apply, val_main_v173_apply, val_main_v172_apply, val_main_v171_apply, val_main_v170_apply]
  unfold poolAt
  rw [← joined x0 x1 x2 x3 x4 hf]
  refine congrArg₂ (fun a b : EReal => a * b) (congrArg (val_main_v169 (F := Ideal) x0 x1 x2 x3 x4) (idx3_ext _ _ _ _ ?_ ?_ ?_)) (congrArg x5 (idx2_ext _ _ _ ?_ ?_))
  · show (n.val * 1024 + c.val) / 1024 % 32 = n.val % 32; omega
  · show (n.val * 1024 + c.val) / 32768 = n.val / 32; omega
  · show (n.val * 1024 + c.val) % 1024 = c.val; omega
  · first | rfl | omega
  · show _ = c.val
    first | (show (n.val * 1024 + c.val) % 1024 = c.val; omega) | (show (n.val * 1024 + c.val) % 1024 % 1024 = c.val; omega)

end Cert.PoolSampleRefIdeal.Closed

end
-- ==== Proof.PoolValue.lean ====
module

public import proofs.«01_k».proof.Proof.PoolBody
public import proofs.«01_k».proof.Proof.PoolRef
public import proofs.«01_k».proof.Proof.InSampleValue
public import proofs.«01_k».proof.Proof.Gen.PoolSampleRefIdeal.Run
public import Idealize.ShloMosaic.Lib.StableHlo.ReadAt
public import proofs.«01_k».proof.Defs

@[expose] public section

set_option maxRecDepth 16384

noncomputable section

/-! The pooling on the samples: one tile of 128 rows, token by token, over the state's rows and the projected ones. -/

namespace Cert.PoolSampleIdeal.Closed

open Cert.PoolSampleIdeal Cert.PoolSampleIdeal.Gen Idealize.ShloMosaic Idealize.ShloMosaic.TcCoe Idealize.SL.Sem
open Idealize.ShloMosaic (Ideal ix1 ix2 ix3 ix4 eq_ix2)
open Cert.Spec (hz rms idx2_ext idx3_ext col proj roll win pooled poolAt IsReal roll_real real_of_abs)
open Cert.InSampleIdeal.Closed (bIdx rIdx cols specP)

section
variable (X0 : S32x4x2048.Idx → EReal) (X1 : S1x2048.Idx → EReal) (X2 : S1x2048x4096.Idx → EReal) (X3 : S1x32x15x1024.Idx → EReal) (X4 : S1x4x256x256.Idx → EReal)
  (X5 : S1x1024.Idx → EReal)

/-- The pooling, row by row. -/
def spec (i : S128x1024.Idx) : EReal := poolAt X0 X1 X2 X3 X4 X5 (bIdx (i 0)) (rIdx (i 0)) (i 1)

/-- The row `j` steps before row `r`, in the table of the history and the new rows. -/
theorem back (u : Vec Ideal S128x1024 .f32) (h : Vec Ideal S512x1024 .f32)
    (hu : ∀ (n : Fin 128) (l : Fin 1024), u (ix2 n l) = specP X0 X1 X2 3 (ix2 n l))
    (hh : ∀ (n : Fin 512) (l : Fin 1024) (g : 32 ≤ n.val), h (ix2 n l) = X3 (ix4 (0 : Fin 1) (⟨n.val % 32, by omega⟩ : Fin 32) (⟨n.val / 32 - 1, by omega⟩ : Fin 15) l))
    (r : Fin 128) (j : ℕ) (hj : j ≤ 15) (c : Fin 1024) : catN u h (512 + r.val - 32 * j) c.val = roll X0 X1 X2 X3 (bIdx r) (15 + (rIdx r).val - j) c := by
  have hr := r.isLt
  have er : (rIdx r).val = r.val / 32 := rfl
  unfold catN roll
  rw [dif_pos c.isLt, er]
  by_cases g : 32 * j ≤ r.val
  · rw [dif_neg (by omega), dif_pos (by omega), dif_neg (by omega), dif_pos (by omega)]
    refine (hu _ _).trans ?_
    show proj X0 X1 X2 (bIdx _) (rIdx _) (col 3 _) = _
    refine congrArg₂ (fun (a : Fin 32) (b : Fin 4) => proj X0 X1 X2 a b (col 3 c)) (Fin.ext ?_) (Fin.ext ?_)
    · show (512 + r.val - 32 * j - 512) % 32 = r.val % 32; omega
    · show (512 + r.val - 32 * j - 512) / 32 = 15 + r.val / 32 - j - 15; omega
  · rw [dif_pos (by omega), dif_pos (by omega)]
    refine (hh _ _ (by show 32 ≤ 512 + r.val - 32 * j; omega)).trans ?_
    refine congrArg₂ (fun (a : Fin 32) (b : Fin 15) => X3 (ix4 (0 : Fin 1) a b c)) (Fin.ext ?_) (Fin.ext ?_)
    · show (512 + r.val - 32 * j) % 32 = r.val % 32; omega
    · show (512 + r.val - 32 * j) / 32 - 1 = 15 + r.val / 32 - j; omega

theorem win_le (c : Fin 1024) : win c.val ≤ 16 := by
  unfold win
  exact (Nat.pow_le_pow_right (by decide) (show c.val / 256 + 1 ≤ 4 by omega)).trans (by decide)

/-- A tile over the arrays' rows holds the pooling. -/
theorem tile_rows (u : Vec Ideal S128x1024 .f32) (h : Vec Ideal S512x1024 .f32) (x4 : Vec Ideal S4x256x256 .bf16) (x5 : Vec Ideal S1x1024 .f32)
    (hu : ∀ (n : Fin 128) (l : Fin 1024), u (ix2 n l) = specP X0 X1 X2 3 (ix2 n l))
    (hh : ∀ (n : Fin 512) (l : Fin 1024) (g : 32 ≤ n.val), h (ix2 n l) = X3 (ix4 (0 : Fin 1) (⟨n.val % 32, by omega⟩ : Fin 32) (⟨n.val / 32 - 1, by omega⟩ : Fin 15) l))
    (h4 : ∀ g k l, x4 (ix3 g k l) = X4 (ix4 (0 : Fin 1) g k l)) (h5 : ∀ l, x5 (ix2 (0 : Fin 1) l) = X5 (ix2 (0 : Fin 1) l)) (r : Fin 128) (c : Fin 1024) :
    poolOut (catN u h) x4 x5 (ix2 r c) = spec X0 X1 X2 X3 X4 X5 (ix2 r c) := by
  have hc := c.isLt
  unfold poolOut spec poolAt
  refine congrArg₂ (fun a b : EReal => a * b) (Finset.sum_congr rfl fun k _ => congrArg₂ (fun a b : EReal => a * b) ?_ (h4 _ _ _)) (h5 c)
  show poolP (catN u h) r.val (256 * (c.val / 256) + k.val) = pooled X0 X1 X2 X3 (bIdx r) (rIdx r) (⟨256 * (c.val / 256) + k.val, by omega⟩ : Fin 1024)
  generalize hq : (⟨256 * (c.val / 256) + k.val, by omega⟩ : Fin 1024) = q
  rw [show 256 * (c.val / 256) + k.val = q.val by rw [← hq]]
  unfold poolP pooled
  have hw := win_le q
  refine congrArg₂ (fun a b : EReal => Ideal.div a (FloatOps.sitofp (F := Ideal) FTy.f32 (BitVec.ofNat 32 (win q.val))) - b) (Finset.sum_congr rfl fun j hj => ?_) ?_
  · rw [Finset.mem_range] at hj
    change j < win q.val at hj
    exact back X0 X1 X2 X3 u h hu hh r j (by omega) q
  · exact back X0 X1 X2 X3 u h hu hh r 0 (by omega) q

end

variable (m : (ℓ : Loc nD τ sig) → Buf (Elt Ideal) ℓ)

theorem V_x (c : Dev nD) (n : Fin 128) (l : Fin 2048) :
    (V m c main_v1) (ix2 n l) = m ((c : Thread nD τ).loc main_arg0) (ix3 (bIdx n) (rIdx n) l) := by
  unfold V
  after_reads_at
  pointwise [bIdx, rIdx]

theorem V_g (c : Dev nD) (l : Fin 2048) :
    (V m c main_v3) (ix2 (0 : Fin 1) l) = m ((c : Thread nD τ).loc main_arg1) (ix2 (0 : Fin 1) l) := by
  unfold V
  after_reads_at

theorem V_w (c : Dev nD) (a : Fin 2048) (b : Fin 4096) :
    (V m c main_v5) (ix2 a b) = m ((c : Thread nD τ).loc main_arg2) (ix3 (0 : Fin 1) a b) := by
  unfold V
  after_reads_at

theorem V_p (c : Dev nD) (g : Fin 4) (a : Fin 256) (b : Fin 256) :
    (V m c main_v7) (ix3 g a b) = m ((c : Thread nD τ).loc main_arg4) (ix4 (0 : Fin 1) g a b) := by
  unfold V
  after_reads_at

theorem V_s (c : Dev nD) (l : Fin 1024) :
    (V m c main_v9) (ix2 (0 : Fin 1) l) = m ((c : Thread nD τ).loc main_arg5) (ix2 (0 : Fin 1) l) := by
  unfold V
  after_reads_at

theorem V_h (c : Dev nD) (n : Fin 512) (l : Fin 1024) (g : 32 ≤ n.val) :
    (V m c main_v14) (ix2 n l) = m ((c : Thread nD τ).loc main_arg3) (ix4 (0 : Fin 1) (⟨n.val % 32, by omega⟩ : Fin 32) (⟨n.val / 32 - 1, by omega⟩ : Fin 15) l) := by
  have hn := n.isLt
  unfold V
  after_reads_at
  rw [dif_neg (by omega)]
  refine congrArg₂ (fun (a : Fin 32) (b : Fin 15) => m ((c : Thread nD τ).loc main_arg3) (ix4 (0 : Fin 1) a b l)) (Fin.ext ?_) (Fin.ext ?_)
  · show (n.val - 32) % 32 = n.val % 32; omega
  · show (n.val - 32) / 32 = n.val / 32 - 1; omega

theorem index_rows : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0 ∧ win0_4.index t 2 = 0)
    ∧ (win0_5.index t 0 = 0 ∧ win0_5.index t 1 = 0) ∧ (win0_10.index t 0 = t.val ∧ win0_10.index t 1 = 0) := by
  decide +kernel

theorem t_zero (t : Fin cfg0.N) : t.val = 0 := by have := t.isLt; have h : cfg0.N = 1 := N_0; omega

theorem blk0 (c : Dev nD) (t : Fin cfg0.N) (r : Fin 128) (l : Fin 2048) :
    iblk m c 0 t (ix2 r l) = m ((c : Thread nD τ).loc main_arg0) (ix3 (bIdx r) (rIdx r) l) := by
  rw [← V_x m c]
  unfold iblk
  rw [View.read_apply]
  show V m c main_v1 _ = _
  congr 1
  obtain ⟨⟨h0, h1⟩, -⟩ := index_rows t
  refine idx2_ext _ _ _ ?_ ?_
  · show win0_0.index t 0 * 128 + 1 * r.val = r.val; rw [h0, t_zero]; omega
  · show win0_0.index t 1 * 2048 + 1 * l.val = l.val; rw [h1]; omega

theorem blk1 (c : Dev nD) (t : Fin cfg0.N) (l : Fin 2048) :
    iblk m c 1 t (ix2 (0 : Fin 1) l) = m ((c : Thread nD τ).loc main_arg1) (ix2 (0 : Fin 1) l) := by
  rw [← V_g m c l]
  unfold iblk
  rw [View.read_apply]
  show V m c main_v3 _ = _
  congr 1
  obtain ⟨-, ⟨h0, h1⟩, -⟩ := index_rows t
  refine idx2_ext _ _ _ ?_ ?_
  · show win0_1.index t 0 * 1 + 1 * 0 = 0; rw [h0]
  · show win0_1.index t 1 * 2048 + 1 * l.val = l.val; rw [h1]; omega

theorem blk2 (c : Dev nD) (t : Fin cfg0.N) (a : Fin 2048) (b : Fin 4096) :
    iblk m c 2 t (ix2 a b) = m ((c : Thread nD τ).loc main_arg2) (ix3 (0 : Fin 1) a b) := by
  rw [← V_w m c a b]
  unfold iblk
  rw [View.read_apply]
  show V m c main_v5 _ = _
  congr 1
  obtain ⟨-, -, ⟨h0, h1⟩, -⟩ := index_rows t
  refine idx2_ext _ _ _ ?_ ?_
  · show win0_2.index t 0 * 2048 + 1 * a.val = a.val; rw [h0]; omega
  · show win0_2.index t 1 * 4096 + 1 * b.val = b.val; rw [h1]; omega

theorem blk3 (c : Dev nD) (t : Fin cfg0.N) (n : Fin 512) (l : Fin 1024) (g : 32 ≤ n.val) :
    iblk m c 3 t (ix2 n l) = m ((c : Thread nD τ).loc main_arg3) (ix4 (0 : Fin 1) (⟨n.val % 32, by omega⟩ : Fin 32) (⟨n.val / 32 - 1, by omega⟩ : Fin 15) l) := by
  rw [← V_h m c n l g]
  unfold iblk
  rw [View.read_apply]
  show V m c main_v14 _ = _
  congr 1
  obtain ⟨-, -, -, ⟨h0, h1⟩, -⟩ := index_rows t
  refine idx2_ext _ _ _ ?_ ?_
  · show win0_3.index t 0 * 512 + 1 * n.val = n.val; rw [h0]; omega
  · show win0_3.index t 1 * 1024 + 1 * l.val = l.val; rw [h1]; omega

theorem blk4 (c : Dev nD) (t : Fin cfg0.N) (g : Fin 4) (a : Fin 256) (b : Fin 256) :
    iblk m c 4 t (ix3 g a b) = m ((c : Thread nD τ).loc main_arg4) (ix4 (0 : Fin 1) g a b) := by
  rw [← V_p m c g a b]
  unfold iblk
  rw [View.read_apply]
  show V m c main_v7 _ = _
  congr 1
  obtain ⟨-, -, -, -, ⟨h0, h1, h2⟩, -⟩ := index_rows t
  refine idx3_ext _ _ _ _ ?_ ?_ ?_
  · show win0_4.index t 0 * 4 + 1 * g.val = g.val; rw [h0]; omega
  · show win0_4.index t 1 * 256 + 1 * a.val = a.val; rw [h1]; omega
  · show win0_4.index t 2 * 256 + 1 * b.val = b.val; rw [h2]; omega

theorem blk5 (c : Dev nD) (t : Fin cfg0.N) (l : Fin 1024) :
    iblk m c 5 t (ix2 (0 : Fin 1) l) = m ((c : Thread nD τ).loc main_arg5) (ix2 (0 : Fin 1) l) := by
  rw [← V_s m c l]
  unfold iblk
  rw [View.read_apply]
  show V m c main_v9 _ = _
  congr 1
  obtain ⟨-, -, -, -, -, ⟨h0, h1⟩, -⟩ := index_rows t
  refine idx2_ext _ _ _ ?_ ?_
  · show win0_5.index t 0 * 1 + 1 * 0 = 0; rw [h0]
  · show win0_5.index t 1 * 1024 + 1 * l.val = l.val; rw [h1]; omega

/-- The pooling's output, over the arguments. -/
def G10 (c : Dev nD) : Buf (Elt Ideal) ((c : Thread nD τ).loc main_v15_4) :=
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The tile one pass writes. -/
def tile (c : Dev nD) (t : Fin cfg0.N) : Vec Ideal S128x1024 .bf16 :=
  poolOut (catN (cols 3 (k0_pay2 (F := Ideal) (iblk m c 0 t) (iblk m c 1 t)) (iblk m c 2 t)) (iblk m c 3 t)) (iblk m c 4 t) (iblk m c 5 t)

theorem stored10 (c : Dev nD) (t : Fin cfg0.N) (r : Fin 128) (l : Fin 1024) : tile m c t (ix2 r l) = G10 m c (ix2 r l) :=
  tile_rows _ _ _ _ _ _ _ _ _ _
    (fun n l => Cert.InSampleIdeal.Closed.cols_rows (m ((c : Thread nD τ).loc main_arg0)) (m ((c : Thread nD τ).loc main_arg1)) (m ((c : Thread nD τ).loc main_arg2))
      (iblk m c 0 t) (iblk m c 1 t) (iblk m c 2 t) n n (fun l => blk0 m c t n l) (fun l => blk1 m c t l) (fun k j => blk2 m c t k j) 3 l)
    (fun n l g => blk3 m c t n l g) (fun g k l => blk4 m c t g k l) (fun l => blk5 m c t l) r l

theorem flushed10_tile (c : Dev nD) (t : Fin cfg0.N) : (dats m 0 c).flushed 10 t = (cfg0.win 10).cut (grid0.coords t) (tile m c t) := by
  rw [Value.flushed10_A m c t, outA10]
  rfl

theorem flushed10_eq (c : Dev nD) (t : Fin cfg0.N) : (dats m 0 c).flushed 10 t = ((cfg0.win 10).blk t).view.read (Elt Ideal) (G10 m c) := by
  rw [flushed10_tile]
  funext y
  rw [View.read_apply]
  obtain ⟨-, -, -, -, -, -, ⟨h0, h1⟩⟩ := index_rows t
  have e : ((cfg0.win 10).blk t).view.emb y = ix2 (y 0) (y 1) := by
    refine idx2_ext _ _ _ ?_ ?_
    · show win0_10.index t 0 * 128 + 1 * (y 0).val = (y 0).val; rw [h0, t_zero]; omega
    · show win0_10.index t 1 * 1024 + 1 * (y 1).val = (y 1).val; rw [h1]; omega
  rw [e]
  refine Eq.trans ?_ (stored10 m c t (y 0) (y 1))
  exact congrArg (tile m c t) (idx2_ext (n := 128) (m := 1024) y (y 0) (y 1) rfl rfl)

theorem final10_o (c : Dev nD) : (dats m 0 c).arrAt 10 cfg0.N = G10 m c :=
  (dats m 0 c).arrAt_eq_of_cover 10 (G10 m c) (fun t _ => flushed10_eq m c t) fun i => by
    have hi0 : (i 0 : Nat) < 128 := (i 0).isLt
    have hi1 : (i 1 : Nat) < 1024 := (i 1).isLt
    let t : Fin cfg0.N := ⟨0, by rw [show cfg0.N = 1 from N_0]; omega⟩
    have hv : t.val = 0 := rfl
    obtain ⟨-, -, -, -, -, -, ⟨h0, h1⟩⟩ := index_rows t
    refine ⟨t, flush0_10 t, ?_⟩
    show i ∈ ((View.whole main_v15_4).slice (win0_10.rect t)).set
    rw [View.set_slice_whole, Rect.mem_set_unit]
    intro a
    match a with
    | ⟨0, _⟩ =>
      show win0_10.index t 0 * 128 ≤ (i 0 : Nat) ∧ (i 0 : Nat) < win0_10.index t 0 * 128 + 128
      rw [h0]; omega
    | ⟨1, _⟩ =>
      show win0_10.index t 1 * 1024 ≤ (i 1 : Nat) ∧ (i 1 : Nat) < win0_10.index t 1 * 1024 + 1024
      rw [h1]; omega

/-- The rows the pooling reads are finite when the gains, the weights and the state are. -/
theorem reals_of_pre [Cert.Pre_pool_finite.Facts] (h : Cert.Pre_PoolSampleIdeal_pool_finite m) (c : Dev nD) (b : Fin 32) (i : ℕ) (l : Fin 1024) :
    IsReal (roll (m ((c : Thread nD τ).loc main_arg0)) (m ((c : Thread nD τ).loc main_arg1)) (m ((c : Thread nD τ).loc main_arg2)) (m ((c : Thread nD τ).loc main_arg3)) b i l) := by
  obtain ⟨h1, h2, h3⟩ := h c
  exact roll_real _ _ _ _ (fun i => real_of_abs _ (congrFun h1 i)) (fun i => real_of_abs _ (congrFun h2 i))
    (fun i => real_of_abs _ (congrFun h3 i)) b i l

end Cert.PoolSampleIdeal.Closed

namespace Cert.Proof

open Idealize.ShloMosaic Idealize.ShloMosaic.TcCoe Idealize.SL.Sem
open Idealize.ShloMosaic (Ideal eq_ix2)

theorem pool_ref_fun (x0 : Cert.PoolSampleRefIdeal.S32x4x2048.Idx → EReal) (x1 : Cert.PoolSampleRefIdeal.S1x2048.Idx → EReal) (x2 : Cert.PoolSampleRefIdeal.S1x2048x4096.Idx → EReal)
    (x3 : Cert.PoolSampleRefIdeal.S1x32x15x1024.Idx → EReal) (x4 : Cert.PoolSampleRefIdeal.S1x4x256x256.Idx → EReal) (x5 : Cert.PoolSampleRefIdeal.S1x1024.Idx → EReal)
    (hf : ∀ b i c, Cert.Spec.IsReal (Cert.Spec.roll x0 x1 x2 x3 b i c)) :
    Cert.PoolSampleRefIdeal.Read.val_main_v176 (F := Ideal) x0 x1 x2 x3 x4 x5 = Cert.PoolSampleIdeal.Closed.spec x0 x1 x2 x3 x4 x5 := by
  refine funext fun i => ?_
  rw [eq_ix2 i]
  refine (Cert.PoolSampleRefIdeal.Closed.ref_at x0 x1 x2 x3 x4 x5 hf (i 0) (i 1)).trans ?_
  unfold Cert.PoolSampleIdeal.Closed.spec
  rfl

theorem pool_ref_val (m' : (ℓ : Loc Cert.PoolSampleRefIdeal.nD Cert.PoolSampleRefIdeal.τ Cert.PoolSampleRefIdeal.sig) → Buf (Elt Ideal) ℓ) (c : Dev Cert.PoolSampleRefIdeal.nD)
    (x0 : Cert.PoolSampleRefIdeal.S32x4x2048.Idx → EReal) (x1 : Cert.PoolSampleRefIdeal.S1x2048.Idx → EReal) (x2 : Cert.PoolSampleRefIdeal.S1x2048x4096.Idx → EReal) (x3 : Cert.PoolSampleRefIdeal.S1x32x15x1024.Idx → EReal) (x4 : Cert.PoolSampleRefIdeal.S1x4x256x256.Idx → EReal) (x5 : Cert.PoolSampleRefIdeal.S1x1024.Idx → EReal)
    (e0 : m' ((c.tc : Thread Cert.PoolSampleRefIdeal.nD Cert.PoolSampleRefIdeal.τ).loc Cert.PoolSampleRefIdeal.main_arg0) = x0)
    (e1 : m' ((c.tc : Thread Cert.PoolSampleRefIdeal.nD Cert.PoolSampleRefIdeal.τ).loc Cert.PoolSampleRefIdeal.main_arg1) = x1)
    (e2 : m' ((c.tc : Thread Cert.PoolSampleRefIdeal.nD Cert.PoolSampleRefIdeal.τ).loc Cert.PoolSampleRefIdeal.main_arg2) = x2)
    (e3 : m' ((c.tc : Thread Cert.PoolSampleRefIdeal.nD Cert.PoolSampleRefIdeal.τ).loc Cert.PoolSampleRefIdeal.main_arg3) = x3)
    (e4 : m' ((c.tc : Thread Cert.PoolSampleRefIdeal.nD Cert.PoolSampleRefIdeal.τ).loc Cert.PoolSampleRefIdeal.main_arg4) = x4)
    (e5 : m' ((c.tc : Thread Cert.PoolSampleRefIdeal.nD Cert.PoolSampleRefIdeal.τ).loc Cert.PoolSampleRefIdeal.main_arg5) = x5)
    (hf : ∀ b i l, Cert.Spec.IsReal (Cert.Spec.roll x0 x1 x2 x3 b i l)) :
    Cert.PoolSampleRefIdeal.Read.val_main_v176 (F := Ideal) (m' ((c.tc : Thread Cert.PoolSampleRefIdeal.nD Cert.PoolSampleRefIdeal.τ).loc Cert.PoolSampleRefIdeal.main_arg0)) (m' ((c.tc : Thread Cert.PoolSampleRefIdeal.nD Cert.PoolSampleRefIdeal.τ).loc Cert.PoolSampleRefIdeal.main_arg1)) (m' ((c.tc : Thread Cert.PoolSampleRefIdeal.nD Cert.PoolSampleRefIdeal.τ).loc Cert.PoolSampleRefIdeal.main_arg2)) (m' ((c.tc : Thread Cert.PoolSampleRefIdeal.nD Cert.PoolSampleRefIdeal.τ).loc Cert.PoolSampleRefIdeal.main_arg3)) (m' ((c.tc : Thread Cert.PoolSampleRefIdeal.nD Cert.PoolSampleRefIdeal.τ).loc Cert.PoolSampleRefIdeal.main_arg4)) (m' ((c.tc : Thread Cert.PoolSampleRefIdeal.nD Cert.PoolSampleRefIdeal.τ).loc Cert.PoolSampleRefIdeal.main_arg5))
      = Cert.PoolSampleIdeal.Closed.spec x0 x1 x2 x3 x4 x5 := by
  rw [e0, e1, e2, e3, e4, e5]
  exact pool_ref_fun x0 x1 x2 x3 x4 x5 hf

/-- The pooling's two programs compute one function where the gains, the weights and the state are finite. -/
theorem pool_sample_algebraic [Cert.PoolSampleIdeal.Facts] [Cert.PoolSampleRefIdeal.Facts] [Cert.Pre_pool_finite.Facts] :
    Cert.algebraic_PoolSampleIdeal_PoolSampleRefIdeal_pre_pool_finite := by
  intro m g m' g' hpre hag
  refine ⟨fun c => Cert.PoolSampleIdeal.Closed.G10 m c, ?_, ?_⟩
  · exact (θ_run _ _ _).mono (fun r h c => ⟨(h c).2.2.2.2.1.trans (Cert.PoolSampleIdeal.Closed.final10_o m c), (h c).2.2.2.2.2⟩) (Cert.PoolSampleIdeal.Value.run_blocks m g)
  · refine (θ_run _ _ _).mono (fun r h c => ⟨(h c).1.trans ?_, (h c).2⟩) (Cert.PoolSampleRefIdeal.Value.run m' g')
    obtain ⟨e0, e1, e2, e3, e4, e5⟩ := hag c
    rw [Cert.PoolSampleRefIdeal.Read.val_main_v176_eq]
    exact pool_ref_val m' c _ _ _ _ _ _ e0 e1 e2 e3 e4 e5 (Cert.PoolSampleIdeal.Closed.reals_of_pre m hpre c)

end Cert.Proof

end
-- ==== Proof.AttnMath.lean ====
module

public import proofs.«01_k».proof.Proof.Rms

@[expose] public section

noncomputable section

namespace Cert.Spec

open Idealize.ShloMosaic

/-- One where the row `n` of the joined keys lies within `128 * d` back from the query `t`, at a multiple of `d`; zero elsewhere. -/
def ind (d t n : ℕ) : EReal := if n ≤ 2048 + t ∧ 2048 + t - n ≤ 128 * d ∧ d ∣ 2048 + t - n then 1 else 0

/-- How many of the three dilated windows list the row. -/
def cnt (t n : ℕ) : EReal := ind 1 t n + ind 4 t n + ind 16 t n

/-- The distance of the `k`-th listed key. -/
def dst (k : ℕ) : ℕ := if k < 129 then k else if k < 258 then 4 * (k - 129) else 16 * (k - 258)

theorem dst_le (k : ℕ) (h : k < 387) : dst k ≤ 2048 := by
  unfold dst; split_ifs <;> omega

/-- The row of the joined keys which the `k`-th listed key names. -/
def keyRow (t : Fin 4) (k : Fin 387) : Fin 2176 := ⟨2048 + t.val - dst k.val, by have := t.isLt; omega⟩

theorem ind_nonneg (d t n : ℕ) : 0 ≤ ind d t n := by
  unfold ind; split_ifs <;> simp

theorem seg_sum (t : Fin 4) (d : ℕ) (hd : 0 < d) (hd' : d ≤ 16) (g : Fin 2176 → EReal) :
    ∑ j : Fin 129, g ⟨2048 + t.val - d * j.val, by have := t.isLt; omega⟩ = ∑ n : Fin 2176, ind d t.val n.val * g n := by
  have ht := t.isLt
  have hj : ∀ j : Fin 129, d * j.val ≤ d * 128 ∧ d * 128 ≤ 2048 := fun j =>
    ⟨Nat.mul_le_mul_left d (by have := j.isLt; omega), by omega⟩
  refine Finset.sum_of_injOn (fun j : Fin 129 => (⟨2048 + t.val - d * j.val, by omega⟩ : Fin 2176)) ?_ (fun _ _ => by simp) ?_ ?_
  · intro a _ b _ hab
    have h := congrArg Fin.val hab
    have ha := hj a
    have hb := hj b
    change 2048 + t.val - d * a.val = 2048 + t.val - d * b.val at h
    have h2 : d * a.val = d * b.val := by omega
    exact Fin.ext (Nat.eq_of_mul_eq_mul_left hd h2)
  · intro n _ hn
    unfold ind
    rw [if_neg, zero_mul]
    rintro ⟨h1, h2, e, he⟩
    refine hn ⟨⟨e, ?_⟩, by simp, Fin.ext ?_⟩
    · have : d * e ≤ d * 128 := by rw [← he]; omega
      have := Nat.le_of_mul_le_mul_left this hd
      omega
    · show 2048 + t.val - d * e = n.val
      omega
  · intro j _
    have h := hj j
    unfold ind
    rw [if_pos, one_mul]
    refine ⟨by show 2048 + t.val - d * j.val ≤ _; omega, by show 2048 + t.val - (2048 + t.val - d * j.val) ≤ _; omega, j.val, ?_⟩
    show 2048 + t.val - (2048 + t.val - d * j.val) = _
    omega

/-- A sum over the listed keys is the counted sum over the rows. -/
theorem sum_keys (t : Fin 4) (g : Fin 2176 → EReal) :
    ∑ k : Fin 387, g (keyRow t k) = ∑ n : Fin 2176, cnt t.val n.val * g n := by
  have e : ∀ n : Fin 2176, cnt t.val n.val * g n = ind 1 t.val n.val * g n + ind 4 t.val n.val * g n + ind 16 t.val n.val * g n := by
    intro n
    unfold cnt
    rw [EReal.right_distrib_of_nonneg (add_nonneg (ind_nonneg _ _ _) (ind_nonneg _ _ _)) (ind_nonneg _ _ _),
      EReal.right_distrib_of_nonneg (ind_nonneg _ _ _) (ind_nonneg _ _ _)]
  simp only [e, Finset.sum_add_distrib]
  rw [← seg_sum t 1 (by omega) (by omega), ← seg_sum t 4 (by omega) (by omega), ← seg_sum t 16 (by omega) (by omega)]
  show ∑ k : Fin (129 + 129 + 129), g (keyRow t k) = _
  rw [Fin.sum_univ_add, Fin.sum_univ_add]
  refine congrArg₂ (· + ·) (congrArg₂ (· + ·) ?_ ?_) ?_
  · refine Finset.sum_congr rfl fun j _ => congrArg g (Fin.ext ?_)
    show 2048 + t.val - dst j.val = 2048 + t.val - 1 * j.val
    have := j.isLt
    unfold dst; rw [if_pos (by omega)]; omega
  · refine Finset.sum_congr rfl fun j _ => congrArg g (Fin.ext ?_)
    show 2048 + t.val - dst (129 + j.val) = 2048 + t.val - 4 * j.val
    have := j.isLt
    unfold dst; rw [if_neg (by omega), if_pos (by omega)]; omega
  · refine Finset.sum_congr rfl fun j _ => congrArg g (Fin.ext ?_)
    show 2048 + t.val - dst (129 + 129 + j.val) = 2048 + t.val - 16 * j.val
    have := j.isLt
    unfold dst; rw [if_neg (by omega), if_neg (by omega)]; omega

/-- A row which a window counts is listed. -/
theorem listed (t : Fin 4) (n : Fin 2176) (h : cnt t.val n.val ≠ 0) : ∃ k, keyRow t k = n := by
  have ht := t.isLt
  by_cases h1 : n.val ≤ 2048 + t.val ∧ 2048 + t.val - n.val ≤ 128 * 1 ∧ 1 ∣ 2048 + t.val - n.val
  · refine ⟨⟨2048 + t.val - n.val, by omega⟩, Fin.ext ?_⟩
    show 2048 + t.val - dst (2048 + t.val - n.val) = n.val
    unfold dst; rw [if_pos (by omega)]; omega
  by_cases h4 : n.val ≤ 2048 + t.val ∧ 2048 + t.val - n.val ≤ 128 * 4 ∧ 4 ∣ 2048 + t.val - n.val
  · obtain ⟨a, b, e, he⟩ := h4
    refine ⟨⟨129 + e, by omega⟩, Fin.ext ?_⟩
    show 2048 + t.val - dst (129 + e) = n.val
    unfold dst; rw [if_neg (by omega), if_pos (by omega)]; omega
  by_cases h16 : n.val ≤ 2048 + t.val ∧ 2048 + t.val - n.val ≤ 128 * 16 ∧ 16 ∣ 2048 + t.val - n.val
  · obtain ⟨a, b, e, he⟩ := h16
    refine ⟨⟨258 + e, by omega⟩, Fin.ext ?_⟩
    show 2048 + t.val - dst (258 + e) = n.val
    unfold dst; rw [if_neg (by omega), if_neg (by omega)]; omega
  exact absurd (by unfold cnt ind; rw [if_neg h1, if_neg h4, if_neg h16]; simp) h

/-- Multiplication by a nonnegative real goes through a sum, whatever the terms. -/
theorem real_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem exp_coe (r : ℝ) : Ideal.exp (r : EReal) = ((Real.exp r : ℝ) : EReal) := rfl

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The counted softmax over the rows, divided at the end, is the softmax over the listed keys, divided first. -/
theorem attn_row (t : Fin 4) (LR W : Fin 2176 → EReal) (LK : Fin 387 → EReal)
    (hfin : ∀ k, ∃ r : ℝ, LK k = r) (hk : ∀ k, LR (keyRow t k) = LK k) (hb : ∀ n : Fin 2176, cnt t.val n.val = 0 → LR n = ⊥) :
    Ideal.div (∑ n : Fin 2176, cnt t.val n.val * Ideal.exp (LR n - Finset.fold max ⊥ LR Finset.univ) * W n)
        (∑ n : Fin 2176, cnt t.val n.val * Ideal.exp (LR n - Finset.fold max ⊥ LR Finset.univ))
      = ∑ k : Fin 387, Ideal.div (Ideal.exp (LK k - Finset.fold max ⊥ LK Finset.univ)) (∑ k : Fin 387, Ideal.exp (LK k - Finset.fold max ⊥ LK Finset.univ)) * W (keyRow t k) := by
  have hM : Finset.fold max ⊥ LR Finset.univ = Finset.fold max ⊥ LK Finset.univ := by
    refine le_antisymm ?_ ?_
    · rw [Finset.fold_max_le]
      refine ⟨bot_le, fun n _ => ?_⟩
      by_cases h : cnt t.val n.val = 0
      · rw [hb n h]; exact bot_le
      · obtain ⟨k, rfl⟩ := listed t n h
        rw [hk k, Finset.le_fold_max]
        exact Or.inr ⟨k, by simp, le_refl _⟩
    · rw [Finset.fold_max_le]
      refine ⟨bot_le, fun k _ => ?_⟩
      rw [← hk k, Finset.le_fold_max]
      exact Or.inr ⟨_, by simp, le_refl _⟩
  rw [hM]
  choose lk hlk using hfin
  obtain ⟨M, hMr⟩ : ∃ M : ℝ, Finset.fold max ⊥ LK Finset.univ = (M : EReal) := by
    refine ⟨(Finset.fold max ⊥ LK Finset.univ).toReal, (EReal.coe_toReal ?_ ?_).symm⟩
    · refine ne_of_lt ?_
      rw [Finset.fold_max_lt]
      exact ⟨bot_lt_top, fun k _ => by rw [hlk k]; exact EReal.coe_lt_top _⟩
    · refine ne_of_gt ?_
      rw [Finset.lt_fold_max]
      exact Or.inr ⟨0, by simp, by rw [hlk 0]; exact EReal.bot_lt_coe _⟩
  rw [hMr]
  have hp : ∀ k, Ideal.exp (LK k - (M : EReal)) = ((Real.exp (lk k - M) : ℝ) : EReal) := fun k => by
    rw [hlk k, ← EReal.coe_sub, exp_coe]
  have hS : (∑ n : Fin 2176, cnt t.val n.val * Ideal.exp (LR n - (M : EReal))) = ((∑ k : Fin 387, Real.exp (lk k - M) : ℝ) : EReal) := by
    rw [← sum_keys t (fun n => Ideal.exp (LR n - (M : EReal))), ← coe_sum]
    exact Finset.sum_congr rfl fun k _ => by rw [hk k, hp k]
  have hS' : (∑ k : Fin 387, Ideal.exp (LK k - (M : EReal))) = ((∑ k : Fin 387, Real.exp (lk k - M) : ℝ) : EReal) := by
    rw [← coe_sum]; exact Finset.sum_congr rfl fun k _ => hp k
  have hpos : 0 < ∑ k : Fin 387, Real.exp (lk k - M) := Finset.sum_pos (fun k _ => Real.exp_pos _) ⟨0, by simp⟩
  rw [hS, hS']
  set s := ∑ k : Fin 387, Real.exp (lk k - M)
  simp only [Ideal.div_coe hpos.ne']
  simp only [mul_assoc]
  rw [← sum_keys t (fun n => Ideal.exp (LR n - (M : EReal)) * W n), mul_comm, real_mul_sum _ _ (by positivity)]
  refine Finset.sum_congr rfl fun k _ => ?_
  rw [hk k, mul_left_comm]

end Cert.Spec

end
-- ==== Proof.AttnSpec.lean ====
module

public import proofs.«01_k».proof.Proof.AttnMath
public import Idealize.ShloMosaic.Lib.Pointwise

@[expose] public section

noncomputable section

namespace Cert.Spec

open Idealize.ShloMosaic
open Idealize.ShloMosaic (Ideal ix1 ix2 ix3 ix4 ix5)

/-- The bucket of a distance word. -/
def bkt (w : BitVec 32) : BitVec 32 :=
  Scalar.select (IntOp.cmpi .slt w 16#32) w
    (IntOp.minsi (IntOp.addi (16#32) (FloatOps.fptosi (F := Ideal) (φ := .f32) 32
      (Ideal.div (Ideal.log (Ideal.div (FloatOps.sitofp (F := Ideal) FTy.f32 (IntOp.maxsi w 1#32)) (Ideal.ofBits FTy.f32 1098907648#32)))
        (Ideal.ofBits FTy.f32 1083917269#32) * Ideal.ofBits FTy.f32 1098907648#32))) 31#32)

/-- The bucket as an index, wrapped from below. -/
def bki (w : BitVec 32) : BitVec 32 := Scalar.select (IntOp.cmpi .slt (bkt w) 0#32) (IntOp.addi (bkt w) 32#32) (bkt w)

/-- The row of the bias table for a distance word. -/
def bRow (w : BitVec 32) : Fin 32 := ⟨min (bki w).toInt.toNat 31, by omega⟩

/-- The joined rows: cached, new, and zero past the end. -/
def catL (ck : (⟨5, ![1, 32, 2048, 16, 64]⟩ : Shape).Idx → EReal) (kn : (⟨3, ![32, 4, 1024]⟩ : Shape).Idx → EReal) (b : Fin 32) (n : Fin 2176) (h : Fin 16) (e : Fin 64) : EReal :=
  if h1 : n.val < 2048 then ck (ix5 0 b ⟨n.val, h1⟩ h e)
  else if h2 : n.val - 2048 < 4 then kn (ix3 b ⟨n.val - 2048, h2⟩ ⟨h.val * 64 + e.val, by omega⟩) else 0

/-- The logit of the `k`-th listed key. -/
def logitK (q kn : (⟨3, ![32, 4, 1024]⟩ : Shape).Idx → EReal) (ck : (⟨5, ![1, 32, 2048, 16, 64]⟩ : Shape).Idx → EReal) (rb : (⟨2, ![32, 16]⟩ : Shape).Idx → EReal)
    (b : Fin 32) (t : Fin 4) (h : Fin 16) (k : Fin 387) : EReal :=
  ∑ e : Fin 64, q (ix3 b t ⟨h.val * 64 + e.val, by omega⟩) * catL ck kn b (keyRow t k) h e + rb (ix2 (bRow (BitVec.ofNat 32 (dst k.val))) h)

/-- Dilated attention of the new tokens, over the listed keys. -/
def attn (q kn vn : (⟨3, ![32, 4, 1024]⟩ : Shape).Idx → EReal) (ck cv : (⟨5, ![1, 32, 2048, 16, 64]⟩ : Shape).Idx → EReal) (rb : (⟨2, ![32, 16]⟩ : Shape).Idx → EReal)
    (b : Fin 32) (t : Fin 4) (h : Fin 16) (e : Fin 64) : EReal :=
  ∑ k : Fin 387, Ideal.div (Ideal.exp (logitK q kn ck rb b t h k - Finset.fold max ⊥ (logitK q kn ck rb b t h) Finset.univ))
    (∑ k : Fin 387, Ideal.exp (logitK q kn ck rb b t h k - Finset.fold max ⊥ (logitK q kn ck rb b t h) Finset.univ)) * catL cv vn b (keyRow t k) h e

theorem ninf : Ideal.ofBits FTy.f32 4286578688#32 = ⊥ := by
  simp [Ideal.ofBits, Ideal.ieee]

end Cert.Spec

end
-- ==== Proof.AttnPts.lean ====
module

public import proofs.«01_k».proof.Proof.AttnSpec
public import proofs.«01_k».proof.Proof.Gen.KernelIdeal.Value

@[expose] public section
set_option maxRecDepth 16384

noncomputable section

/-! Where each grid point of the attention call reads and writes. -/

namespace Cert.KernelIdeal.Closed

open Cert.KernelIdeal Cert.KernelIdeal.Gen Idealize.ShloMosaic Idealize.ShloMosaic.TcCoe Idealize.SL.Sem
open Idealize.ShloMosaic (Ideal ix1 ix2 ix3 ix4 ix5 eq_ix2)
open Cert.Spec

theorem index_pts : ∀ t : Fin cfg0.N, (win0_0.index t 0 = t.val % 32 ∧ win0_0.index t 1 = 0 ∧ win0_0.index t 2 = t.val / 32)
    ∧ (win0_1.index t 0 = t.val % 32 ∧ win0_1.index t 1 = 0 ∧ win0_1.index t 2 = t.val / 32)
    ∧ (win0_2.index t 0 = t.val % 32 ∧ win0_2.index t 1 = 0 ∧ win0_2.index t 2 = t.val / 32)
    ∧ (win0_3.index t 0 = t.val % 32 ∧ win0_3.index t 1 = 0 ∧ win0_3.index t 2 = t.val / 32)
    ∧ (win0_4.index t 0 = t.val % 32 ∧ win0_4.index t 1 = 0 ∧ win0_4.index t 2 = t.val / 32)
    ∧ (win0_5.index t 0 = t.val / 32 ∧ win0_5.index t 1 = 0 ∧ win0_5.index t 2 = 0)
    ∧ (win0_6.index t 0 = 0 ∧ win0_6.index t 1 = 0)
    ∧ (win0_7.index t 0 = t.val % 32 ∧ win0_7.index t 1 = 0 ∧ win0_7.index t 2 = t.val / 32) := by
  decide +kernel

end Cert.KernelIdeal.Closed

end
-- ==== Proof.AttnBody.lean ====
module

public import proofs.«01_k».proof.Proof.Gen.KernelIdeal.Value
public import proofs.«01_k».proof.Proof.Rms
public import Idealize.ShloMosaic.Lib.Pointwise

@[expose] public section

set_option maxRecDepth 16384

noncomputable section

namespace Cert.KernelIdeal.Closed

open Cert.KernelIdeal Cert.KernelIdeal.Gen Idealize.ShloMosaic Idealize.ShloMosaic.TcCoe Idealize.SL.Sem
open Cert.Spec (hz hz3 idx2_ext)
open Idealize.ShloMosaic (Ideal ix1 ix2 ix3 eq_ix2)

/-- The rows a tail scratch holds: four new rows, the rest zero. -/
def tailV (kn : Vec Ideal S1x4x128 .f32) : Vec Ideal S128x128 .f32 := fun j =>
  if h : (j 0).val < 4 then kn (ix3 0 ⟨(j 0).val, h⟩ (j 1)) else 0

/-- The cached rows, the four new rows after them, and zero rows to the end. -/
def catV (ck : Vec Ideal S1x2048x128 .f32) (kn : Vec Ideal S1x4x128 .f32) : Vec Ideal S2176x128 .f32 := fun j =>
  if h : (j 0).val < 2048 then ck (ix3 0 ⟨(j 0).val, h⟩ (j 1))
  else tailV kn (ix2 ⟨(j 0).val - 2048, by have := (j 0).isLt; change (j 0).val < 2176 at this; omega⟩ (j 1))

theorem canon_tail {off : Fin S128x128.rank → ℕ} (inb : ∀ a, off a + S128x128.size a ≤ S128x128.size a) (inb4 : ∀ a, (![0, 0] : Fin 2 → ℕ) a + S4x128.size a ≤ S128x128.size a)
    (ho : off = fun _ => 0) (kn : Vec Ideal S1x4x128 .f32)
    (w : Vec Ideal S4x128 .f32) (hw : ∀ r l, w (ix2 r l) = kn (ix3 0 r l)) (Z : Vec Ideal S128x128 .f32) (hZ : ∀ j, Z j = 0)
    (L : List (View.Piece (Elt Ideal) S128x128 .f32)) :
    View.canon (⟨Rect.unit (s := S128x128) ![0, 0] S4x128.size inb4, w⟩ :: ⟨Rect.unit off S128x128.size inb, Z⟩ :: L) = tailV kn := by
  funext j
  unfold tailV
  by_cases h : (j 0).val < 4
  · rw [dif_pos h]
    have e : j = (Rect.unit (s := S128x128) ![0, 0] S4x128.size inb4).emb (ix2 (⟨(j 0).val, h⟩ : Fin 4) (j 1)) := by
      refine (idx2_ext (n := 128) (m := 128) j (j 0) (j 1) rfl rfl).trans (idx2_ext (n := 128) (m := 128) _ _ _ ?_ ?_).symm
      · show 0 + 1 * (j 0).val = (j 0).val; omega
      · show 0 + 1 * (j 1).val = (j 1).val; omega
    conv_lhs => rw [e]
    rw [View.canon_cons_emb]
    exact hw _ _
  · rw [dif_neg h, View.canon_cons_of_not_mem, View.canon_cons_unit_zero (S := S128x128) ho]
    · exact hZ j
    · rw [Rect.mem_set_unit]
      intro hh
      have := (hh 0).2
      change (j 0).val < 0 + 4 at this
      omega

theorem canon_cat (inb : ∀ a, (![0, 0] : Fin 2 → ℕ) a + S2048x128.size a ≤ S2176x128.size a) (inb4 : ∀ a, (![2048, 0] : Fin 2 → ℕ) a + S128x128.size a ≤ S2176x128.size a)
    (ck : Vec Ideal S1x2048x128 .f32) (kn : Vec Ideal S1x4x128 .f32)
    (w : Vec Ideal S2048x128 .f32) (hw : ∀ r l, w (ix2 r l) = ck (ix3 0 r l)) (z : Vec Ideal S128x128 .f32) (hz : z = tailV kn)
    (L : List (View.Piece (Elt Ideal) S2176x128 .bf16)) :
    View.canon (⟨Rect.unit (s := S2176x128) ![2048, 0] S128x128.size inb4, z⟩ :: ⟨Rect.unit (s := S2176x128) ![0, 0] S2048x128.size inb, w⟩ :: L) = catV ck kn := by
  funext j
  have hj := (j 0).isLt
  change (j 0).val < 2176 at hj
  unfold catV
  by_cases h : (j 0).val < 2048
  · rw [dif_pos h, View.canon_cons_of_not_mem]
    · have e : j = (Rect.unit (s := S2176x128) ![0, 0] S2048x128.size inb).emb (ix2 (⟨(j 0).val, h⟩ : Fin 2048) (j 1)) := by
        refine (idx2_ext (n := 2176) (m := 128) j (j 0) (j 1) rfl rfl).trans (idx2_ext (n := 2176) (m := 128) _ _ _ ?_ ?_).symm
        · show 0 + 1 * (j 0).val = (j 0).val; omega
        · show 0 + 1 * (j 1).val = (j 1).val; omega
      conv_lhs => rw [e]
      rw [View.canon_cons_emb]
      exact hw _ _
    · rw [Rect.mem_set_unit]
      intro hh
      have := (hh 0).1
      change 2048 ≤ (j 0).val at this
      omega
  · rw [dif_neg h]
    have e : j = (Rect.unit (s := S2176x128) ![2048, 0] S128x128.size inb4).emb (ix2 (⟨(j 0).val - 2048, by omega⟩ : Fin 128) (j 1)) := by
      refine (idx2_ext (n := 2176) (m := 128) j (j 0) (j 1) rfl rfl).trans (idx2_ext (n := 2176) (m := 128) _ _ _ ?_ ?_).symm
      · show 2048 + 1 * ((j 0).val - 2048) = (j 0).val; omega
      · show 0 + 1 * (j 1).val = (j 1).val; omega
    conv_lhs => rw [e]
    rw [View.canon_cons_emb, hz]

theorem pay2_apply (x : Vec Ideal S1x2048x128 .f32) (r : Fin 2048) (l : Fin 128) : k0_pay2 (F := Ideal) x (ix2 r l) = x (ix3 0 r l) := by
  pointwise [k0_pay2]
theorem pay6_apply (x : Vec Ideal S1x2048x128 .f32) (r : Fin 2048) (l : Fin 128) : k0_pay6 (F := Ideal) x (ix2 r l) = x (ix3 0 r l) := by
  pointwise [k0_pay6]
theorem pay4_apply (x : Vec Ideal S1x4x128 .f32) (r : Fin 4) (l : Fin 128) : k0_pay4 (F := Ideal) x (ix2 r l) = x (ix3 0 r l) := by
  pointwise [k0_pay4]
theorem pay9_apply (x : Vec Ideal S1x4x128 .f32) (r : Fin 4) (l : Fin 128) : k0_pay9 (F := Ideal) x (ix2 r l) = x (ix3 0 r l) := by
  pointwise [k0_pay9]
theorem pay3_apply (j : S128x128.Idx) : k0_pay3 (F := Ideal) j = 0 := by
  rw [eq_ix2 j]; pointwise [k0_pay3]
theorem pay8_apply (j : S128x128.Idx) : k0_pay8 (F := Ideal) k0_pay7 j = 0 := by
  rw [eq_ix2 j]; pointwise [k0_pay8, k0_pay7]
theorem pay5_eq (x : Vec Ideal S128x128 .f32) : k0_pay5 (F := Ideal) x = x := by
  funext j; rw [eq_ix2 j]; pointwise [k0_pay5]
theorem pay10_eq (x : Vec Ideal S128x128 .f32) : k0_pay10 (F := Ideal) x = x := by
  funext j; rw [eq_ix2 j]; pointwise [k0_pay10]

variable (c : Dev nD) (i : grid0.Coords) (a2 : Memref sig .tc .vmem S1x4x128 .f32) (h2 : a2.IsWhole) (a3 : Memref sig .tc .vmem S1x4x128 .f32) (h3 : a3.IsWhole) (a4 : Memref sig .tc .vmem S1x4x128 .f32) (h4 : a4.IsWhole) (a5 : Memref sig .tc .vmem S1x2048x128 .f32) (h5 : a5.IsWhole) (a6 : Memref sig .tc .vmem S1x2048x128 .f32) (h6 : a6.IsWhole) (a7 : Memref sig .tc .vmem S1x8x2176 .f32) (h7 : a7.IsWhole) (a8 : Memref sig .tc .vmem S8x2176 .f32) (h8 : a8.IsWhole) (a9 : Memref sig .tc .vmem S1x4x128 .f32) (h9 : a9.IsWhole) (a10 : Memref sig .tc .vmem S2176x128 .bf16) (h10 : a10.IsWhole) (a11 : Memref sig .tc .vmem S2176x128 .bf16) (h11 : a11.IsWhole) (a12 : Memref sig .tc .vmem S128x128 .f32) (h12 : a12.IsWhole)
variable (x0 x1 x2 : Vec Ideal S1x4x128 .f32) (x3 x4 : Vec Ideal S1x2048x128 .f32) (x5 : Vec Ideal S1x8x2176 .f32) (x6 : Vec Ideal S8x2176 .f32)

theorem outA7 :
    out0_A_7 c i a2 h2 a3 h3 a4 h4 a5 h5 a6 h6 a7 h7 a8 h8 a9 h9 a10 h10 a11 h11 a12 h12 x0 x1 x2 x3 x4 x5 x6 = k0_pay1 (F := Ideal) k0_pay11 (k0_pay12 x6) (k0_pay13 x0 (catV x3 x1) x5) (catV x4 x2) := by
  unfold out0_A_7
  rw [View.read_writes_eq_canon _ _ _ (cover0_A_7 c i a2 h2 a3 h3 a4 h4 a5 h5 a6 h6 a7 h7 a8 h8 a9 h9 a10 h10 a11 h11 a12 h12 x0 x1 x2 x3 x4 x5 x6)]
  unfold kernelRun0_A
  dsimp only
  sl_unfold_words
  rw [View.canon_unit_zero (S := S1x4x128) hz3]
  simp only [View.readAt_eq_ld, h2.read_unread, h3.read_unread, h4.read_unread, h5.read_unread, h6.read_unread, h7.read_unread, h8.read_unread,
    View.ld_unit_zero (S := S1x4x128) hz3, View.ld_unit_zero (S := S1x2048x128) hz3, View.ld_unit_zero (S := S1x8x2176) hz3, View.ld_unit_zero (S := S8x2176) hz, shapeCast_self]
  have hk : View.readCov (Val := Elt Ideal) (a12.view) [⟨Rect.unit (s := S128x128) ![0, 0] ![4, 128] inb_S128x128_S4x128_0_0, k0_pay4 (F := Ideal) x1⟩,
      ⟨Rect.unit (s := S128x128) ![0, 0] ![128, 128] inb_S128x128_S128x128_0_0, k0_pay3 (F := Ideal)⟩]
      (Rect.unit (s := S128x128) ![0, 0] ![128, 128] inb_S128x128_S128x128_0_0).toLoadRect = tailV x1 := by
    rw [View.readCov_eq_canon']
    refine (funext fun j => congrFun (canon_tail (off := ![0, 0]) _ _ hz x1 _ (pay4_apply x1) _ pay3_apply []) _).trans ?_
    funext j
    exact congrArg (tailV x1) (idx2_ext (n := 128) (m := 128) _ (j 0) (j 1) (by show 0 + 1 * (j 0).val = _; omega) (by show 0 + 1 * (j 1).val = _; omega) |>.trans
      (idx2_ext (n := 128) (m := 128) _ (j 0) (j 1) rfl rfl).symm)
  have hv : View.readCov (Val := Elt Ideal) (a12.view) [⟨Rect.unit (s := S128x128) ![0, 0] ![4, 128] inb_S128x128_S4x128_0_0, k0_pay9 (F := Ideal) x2⟩,
      ⟨Rect.unit (s := S128x128) ![0, 0] ![128, 128] inb_S128x128_S128x128_0_0, k0_pay8 (F := Ideal) k0_pay7⟩,
      ⟨Rect.unit (s := S128x128) ![0, 0] ![4, 128] inb_S128x128_S4x128_0_0, k0_pay4 (F := Ideal) x1⟩,
      ⟨Rect.unit (s := S128x128) ![0, 0] ![128, 128] inb_S128x128_S128x128_0_0, k0_pay3 (F := Ideal)⟩]
      (Rect.unit (s := S128x128) ![0, 0] ![128, 128] inb_S128x128_S128x128_0_0).toLoadRect = tailV x2 := by
    rw [View.readCov_eq_canon']
    refine (funext fun j => congrFun (canon_tail (off := ![0, 0]) _ _ hz x2 _ (pay9_apply x2) _ pay8_apply _) _).trans ?_
    funext j
    exact congrArg (tailV x2) (idx2_ext (n := 128) (m := 128) _ (j 0) (j 1) (by show 0 + 1 * (j 0).val = _; omega) (by show 0 + 1 * (j 1).val = _; omega) |>.trans
      (idx2_ext (n := 128) (m := 128) _ (j 0) (j 1) rfl rfl).symm)
  rw [hk, hv, pay5_eq, pay10_eq]
  have hKc : View.canon (Val := Elt Ideal) (e := .bf16) [⟨Rect.unit (s := S2176x128) ![2048, 0] ![128, 128] inb_S2176x128_S128x128_2048_0, tailV x1⟩,
      ⟨Rect.unit (s := S2176x128) ![0, 0] ![2048, 128] inb_S2176x128_S2048x128_0_0, k0_pay2 (F := Ideal) x3⟩] = catV x3 x1 :=
    canon_cat inb_S2176x128_S2048x128_0_0 inb_S2176x128_S128x128_2048_0 x3 x1 _ (pay2_apply x3) _ rfl []
  have hK : View.readCov (Val := Elt Ideal) (a10.view) [⟨Rect.unit (s := S2176x128) ![2048, 0] ![128, 128] inb_S2176x128_S128x128_2048_0, tailV x1⟩,
      ⟨Rect.unit (s := S2176x128) ![0, 0] ![2048, 128] inb_S2176x128_S2048x128_0_0, k0_pay2 (F := Ideal) x3⟩]
      (Rect.unit (s := S2176x128) ![0, 0] ![2176, 128] inb_S2176x128_S2176x128_0_0).toLoadRect = catV x3 x1 := by
    rw [View.readCov_eq_canon', hKc]
    exact View.ld_unit_zero (S := S2176x128) (Val := Elt Ideal) (e := .bf16) hz inb_S2176x128_S2176x128_0_0 (catV x3 x1)
  have hVc : View.canon (Val := Elt Ideal) (e := .bf16) [⟨Rect.unit (s := S2176x128) ![2048, 0] ![128, 128] inb_S2176x128_S128x128_2048_0, tailV x2⟩,
      ⟨Rect.unit (s := S2176x128) ![0, 0] ![2048, 128] inb_S2176x128_S2048x128_0_0, k0_pay6 (F := Ideal) x4⟩] = catV x4 x2 :=
    canon_cat inb_S2176x128_S2048x128_0_0 inb_S2176x128_S128x128_2048_0 x4 x2 _ (pay6_apply x4) _ rfl []
  have hV : View.readCov (Val := Elt Ideal) (a11.view) [⟨Rect.unit (s := S2176x128) ![2048, 0] ![128, 128] inb_S2176x128_S128x128_2048_0, tailV x2⟩,
      ⟨Rect.unit (s := S2176x128) ![0, 0] ![2048, 128] inb_S2176x128_S2048x128_0_0, k0_pay6 (F := Ideal) x4⟩]
      (Rect.unit (s := S2176x128) ![0, 0] ![2176, 128] inb_S2176x128_S2176x128_0_0).toLoadRect = catV x4 x2 := by
    rw [View.readCov_eq_canon', hVc]
    exact View.ld_unit_zero (S := S2176x128) (Val := Elt Ideal) (e := .bf16) hz inb_S2176x128_S2176x128_0_0 (catV x4 x2)
  rw [hK, hV]

end Cert.KernelIdeal.Closed

end
-- ==== Proof.AttnHost.lean ====
module

public import proofs.«01_k».proof.Proof.AttnBody
public import proofs.«01_k».proof.Proof.AttnSpec
public import Idealize.ShloMosaic.Lib.StableHlo.ReadAt

@[expose] public section
set_option maxRecDepth 16384

noncomputable section

/-! The tables and the caches that the attention call is given. -/

namespace Cert.KernelIdeal.Closed

open Cert.KernelIdeal Cert.KernelIdeal.Gen Idealize.ShloMosaic Idealize.ShloMosaic.TcCoe Idealize.SL.Sem
open Idealize.ShloMosaic (Ideal ix1 ix2 ix3 ix4 ix5 eq_ix2)
open Cert.Spec

/-- The distance word of a token and a row. -/
def distW (t : Fin 4) (n : Fin 2176) : BitVec 32 := IntOp.subi (IntOp.addi 2048#32 (BitVec.ofNat 32 t.val)) (BitVec.ofNat 32 n.val)

/-- The remainder with the divisor's sign. -/
def remW (w d : BitVec 32) : BitVec 32 :=
  Scalar.select (IntOp.andi (IntOp.cmpi .ne (IntOp.cmpi .slt (IntOp.remsi .host w d) 0#32) (IntOp.cmpi .slt d 0#32)) (IntOp.cmpi .ne (IntOp.remsi .host w d) 0#32))
    (IntOp.addi (IntOp.remsi .host w d) d) (IntOp.remsi .host w d)

/-- One segment's mask: in reach and on the stride. -/
def maskW (w D d : BitVec 32) : BitVec 1 :=
  IntOp.andi (IntOp.andi (IntOp.cmpi .sge w 0#32) (IntOp.cmpi .sle w D)) (IntOp.cmpi .eq (remW w (Scalar.select (IntOp.cmpi .eq d 0#32) 1#32 d)) 0#32)

theorem mask1 : ∀ (t : Fin 4) (n : Fin 2176), maskW (distW t n) 128#32 1#32 = if n.val ≤ 2048 + t.val ∧ 2048 + t.val - n.val ≤ 128 * 1 ∧ 1 ∣ 2048 + t.val - n.val then 1#1 else 0#1 := by
  decide +kernel

theorem mask4 : ∀ (t : Fin 4) (n : Fin 2176), maskW (distW t n) 512#32 4#32 = if n.val ≤ 2048 + t.val ∧ 2048 + t.val - n.val ≤ 128 * 4 ∧ 4 ∣ 2048 + t.val - n.val then 1#1 else 0#1 := by
  decide +kernel

theorem mask16 : ∀ (t : Fin 4) (n : Fin 2176), maskW (distW t n) 2048#32 16#32 = if n.val ≤ 2048 + t.val ∧ 2048 + t.val - n.val ≤ 128 * 16 ∧ 16 ∣ 2048 + t.val - n.val then 1#1 else 0#1 := by
  decide +kernel

theorem mask_real (p : Prop) [Decidable p] : FloatOps.uitofp (F := Ideal) FTy.f32 (if p then 1#1 else 0#1) = (if p then 1 else 0 : EReal) := by
  by_cases h : p
  · simp only [if_pos h]; simp [FloatOps.uitofp]
  · simp only [if_neg h]; simp [FloatOps.uitofp]

variable (m : (ℓ : Loc nD τ sig) → Buf (Elt Ideal) ℓ)

theorem cnt_words (t : Fin 4) (n : Fin 2176) : FloatOps.uitofp (F := Ideal) FTy.f32 (maskW (distW t n) 128#32 1#32) + FloatOps.uitofp (F := Ideal) FTy.f32 (maskW (distW t n) 512#32 4#32) + FloatOps.uitofp (F := Ideal) FTy.f32 (maskW (distW t n) 2048#32 16#32) = cnt t.val n.val := by
  rw [mask1, mask4, mask16, mask_real, mask_real, mask_real]
  rfl

/-- The table of multiplicities. -/
theorem V_cnt (c : Dev nD) (t : Fin 4) (n : Fin 2176) : (V m c main_v42) (ix2 t n) = cnt t.val n.val := by
  refine Eq.trans ?_ (cnt_words t n)
  unfold V
  after_reads_at
  rfl

/-- Rows of the bias table, picked by a table of words. -/
theorem pick_bias (x : S32x16.Idx → EReal) (w : IVec S4x2176x1 32) (t : Fin 4) (n : Fin 2176) (h : Fin 16) :
    Host.gather gather_S32x16_S4x2176x1_S4x2176x16_2_0_n_n_0_2_116 x w (ix3 t n h) = x (ix2 ⟨min (w (ix3 t n 0)).toInt.toNat 31, by omega⟩ h) := by
  unfold Host.gather
  congr 1
  funext a
  refine Fin.ext ?_
  generalize hd : gather_S32x16_S4x2176x1_S4x2176x16_2_0_n_n_0_2_116 = d
  show d.start (ix3 t n h) w a + d.batchCoord (ix3 t n h) a + d.offCoord (ix3 t n h) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hsi : gather_S32x16_S4x2176x1_S4x2176x16_2_0_n_n_0_2_116.siIdx (ix3 t n h) ⟨List.idxOf (0 : Fin 2) gather_S32x16_S4x2176x1_S4x2176x16_2_0_n_n_0_2_116.startIndexMap,
        List.idxOf_lt_length_iff.2 (List.mem_singleton.mpr rfl)⟩ = ix3 t n 0 := by
      funext b; refine Fin.ext ?_
      match b with
      | ⟨0, _⟩ => rfl
      | ⟨1, _⟩ => rfl
      | ⟨2, _⟩ => rfl
    exact congrArg (fun j => min (w j).toInt.toNat 31) hsi
  · rw [GatherDims.batchCoord_eq_zero _ _ _ List.not_mem_nil]
    unfold GatherDims.start
    rw [dif_neg (by decide)]
    unfold GatherDims.offCoord
    rw [dif_pos (by decide)]
    show 0 + 0 + h.val = h.val
    omega

/-- The call's bias: the table's row of a listed distance, minus infinity elsewhere. -/
theorem V_bias (c : Dev nD) (T : Fin 8) (r : Fin 8) (n : Fin 2176) : (V m c main_v75) (ix3 T r n)
    = if 0 < cnt (r.val % 4) n.val then m ((c : Thread nD τ).loc main_arg5) (ix2 (bRow (IntOp.maxsi (distW ⟨r.val % 4, by omega⟩ n) 0#32)) (⟨2 * T.val + r.val / 4, by omega⟩ : Fin 16)) else (⊥ : EReal) := by
  unfold V
  after_reads_at
  refine ite_congr (congrArg (fun x : EReal => 0 < x) (cnt_words ⟨r.val % 4, by omega⟩ n)) (fun _ => ?_) (fun _ => ninf)
  refine (pick_bias _ _ _ _ _).trans ?_
  refine congrArg (m ((c : Thread nD τ).loc main_arg5)) (congrArg₂ (fun (a : Fin 32) (b : Fin 16) => ix2 a b) (Fin.ext ?_) (Fin.ext ?_))
  · refine congrArg (fun w : BitVec 32 => min w.toInt.toNat 31) (?_ : _ = bki (IntOp.maxsi (distW ⟨r.val % 4, by omega⟩ n) 0#32))
    pointwise
    rfl
  · show T.val * 2 + r.val / 4 = 2 * T.val + r.val / 4
    omega

/-- The call's multiplicities: the table, once per head of a pair. -/
theorem V_cnt8 (c : Dev nD) (r : Fin 8) (n : Fin 2176) : (V m c main_v78) (ix2 r n) = cnt (r.val % 4) n.val := by
  refine Eq.trans ?_ (V_cnt m c ⟨r.val % 4, by omega⟩ n)
  unfold V
  after_reads_at

theorem V_ck (c : Dev nD) (b : Fin 32) (n : Fin 2048) (l : Fin 1024) :
    (V m c main_v80) (ix3 b n l) = m ((c : Thread nD τ).loc main_arg3) (ix5 (0 : Fin 1) b n (⟨l.val / 64, by omega⟩ : Fin 16) (⟨l.val % 64, by omega⟩ : Fin 64)) := by
  unfold V
  after_reads_at

theorem V_cv (c : Dev nD) (b : Fin 32) (n : Fin 2048) (l : Fin 1024) :
    (V m c main_v82) (ix3 b n l) = m ((c : Thread nD τ).loc main_arg4) (ix5 (0 : Fin 1) b n (⟨l.val / 64, by omega⟩ : Fin 16) (⟨l.val % 64, by omega⟩ : Fin 64)) := by
  unfold V
  after_reads_at

end Cert.KernelIdeal.Closed

end
-- ==== Proof.AttnTile.lean ====
module

public import proofs.«01_k».proof.Proof.AttnHost

@[expose] public section
set_option maxRecDepth 16384

noncomputable section

/-! One grid point of the attention call: the rows of a head pair, against the attention over the listed keys. -/

namespace Cert.KernelIdeal.Closed

open Cert.KernelIdeal Cert.KernelIdeal.Gen Idealize.ShloMosaic Idealize.ShloMosaic.TcCoe Idealize.SL.Sem
open Idealize.ShloMosaic (Ideal ix1 ix2 ix3 ix4 ix5 eq_ix2)
open Cert.Spec

theorem out_at (C P : Vec Ideal S8x2176 .f32) (W : Vec Ideal S2176x128 .bf16) (r : Fin 4) (l : Fin 128) :
    k0_pay1 (F := Ideal) k0_pay11 (k0_pay12 C) P W (ix3 0 r l)
      = Scalar.select (IntOp.cmpi .slt (BitVec.ofNat 32 l.val) 64#32)
          (Ideal.div (∑ x : Fin 2176, C (ix2 ⟨r.val, by omega⟩ x) * P (ix2 ⟨r.val, by omega⟩ x) * W (ix2 x l)) (∑ x : Fin 2176, C (ix2 ⟨r.val, by omega⟩ x) * P (ix2 ⟨r.val, by omega⟩ x)))
          (Ideal.div (∑ x : Fin 2176, C (ix2 ⟨4 + r.val, by omega⟩ x) * P (ix2 ⟨4 + r.val, by omega⟩ x) * W (ix2 x l)) (∑ x : Fin 2176, C (ix2 ⟨4 + r.val, by omega⟩ x) * P (ix2 ⟨4 + r.val, by omega⟩ x))) := by
  pointwise [k0_pay1, k0_pay11, k0_pay12]

theorem prob_at (Q : Vec Ideal S1x4x128 .f32) (K : Vec Ideal S2176x128 .bf16) (B : Vec Ideal S1x8x2176 .f32) (r : Fin 8) (l : Fin 2176) :
    k0_pay13 (F := Ideal) Q K B (ix2 r l)
      = Ideal.exp ((∑ x : Fin 128, (if h : r.val < 4 then Scalar.select (IntOp.cmpi .slt (BitVec.ofNat 32 x.val) 64#32) (Q (ix3 0 ⟨r.val, h⟩ x)) 0
            else Scalar.select (IntOp.cmpi .slt (BitVec.ofNat 32 x.val) 64#32) 0 (Q (ix3 0 ⟨r.val - 4, by omega⟩ x))) * K (ix2 l x) + B (ix3 0 r l))
        - Finset.fold max (Ideal.ofBits FTy.f32 4286578688#32) (fun n : Fin 2176 => ∑ x : Fin 128, (if h : r.val < 4 then Scalar.select (IntOp.cmpi .slt (BitVec.ofNat 32 x.val) 64#32) (Q (ix3 0 ⟨r.val, h⟩ x)) 0
            else Scalar.select (IntOp.cmpi .slt (BitVec.ofNat 32 x.val) 64#32) 0 (Q (ix3 0 ⟨r.val - 4, by omega⟩ x))) * K (ix2 n x) + B (ix3 0 r n)) Finset.univ) := by
  pointwise [k0_pay13, k0_pay11]

theorem low_lane : ∀ e : Fin 64, IntOp.cmpi .slt (BitVec.ofNat 32 e.val) 64#32 = 1#1 := by decide +kernel
theorem high_lane : ∀ e : Fin 64, IntOp.cmpi .slt (BitVec.ofNat 32 (64 + e.val)) 64#32 = 0#1 := by decide +kernel

theorem sum_low (a g : Fin 128 → EReal) : ∑ x : Fin 128, Scalar.select (IntOp.cmpi .slt (BitVec.ofNat 32 x.val) 64#32) (a x) 0 * g x = ∑ e : Fin 64, a ⟨e.val, by omega⟩ * g ⟨e.val, by omega⟩ := by
  rw [show (∑ x : Fin 128, Scalar.select (IntOp.cmpi .slt (BitVec.ofNat 32 x.val) 64#32) (a x) 0 * g x) = _ from Fin.sum_univ_add (a := 64) (b := 64) _]
  refine (congrArg₂ (fun a b : EReal => a + b) (Finset.sum_congr rfl fun e _ => ?_) (Finset.sum_eq_zero fun e _ => ?_)).trans (add_zero _)
  · show Scalar.select (IntOp.cmpi .slt (BitVec.ofNat 32 e.val) 64#32) (a ⟨e.val, by omega⟩) 0 * g ⟨e.val, by omega⟩ = _
    rw [low_lane]; rfl
  · show Scalar.select (IntOp.cmpi .slt (BitVec.ofNat 32 (64 + e.val)) 64#32) (a ⟨64 + e.val, by omega⟩) 0 * g ⟨64 + e.val, by omega⟩ = _
    rw [high_lane]; exact zero_mul _

theorem sum_high (a g : Fin 128 → EReal) : ∑ x : Fin 128, Scalar.select (IntOp.cmpi .slt (BitVec.ofNat 32 x.val) 64#32) 0 (a x) * g x = ∑ e : Fin 64, a ⟨64 + e.val, by omega⟩ * g ⟨64 + e.val, by omega⟩ := by
  rw [show (∑ x : Fin 128, Scalar.select (IntOp.cmpi .slt (BitVec.ofNat 32 x.val) 64#32) 0 (a x) * g x) = _ from Fin.sum_univ_add (a := 64) (b := 64) _]
  refine (congrArg₂ (fun a b : EReal => a + b) (Finset.sum_eq_zero fun e _ => ?_) (Finset.sum_congr rfl fun e _ => ?_)).trans (zero_add _)
  · show Scalar.select (IntOp.cmpi .slt (BitVec.ofNat 32 e.val) 64#32) 0 (a ⟨e.val, by omega⟩) * g ⟨e.val, by omega⟩ = _
    rw [low_lane]; exact zero_mul _
  · show Scalar.select (IntOp.cmpi .slt (BitVec.ofNat 32 (64 + e.val)) 64#32) 0 (a ⟨64 + e.val, by omega⟩) * g ⟨64 + e.val, by omega⟩ = _
    rw [high_lane]; rfl

theorem dist_back : ∀ (t : Fin 4) (k : Fin 387), IntOp.maxsi (distW t (keyRow t k)) 0#32 = BitVec.ofNat 32 (dst k.val) := by
  decide +kernel

theorem cnt_pos (t : Fin 4) (k : Fin 387) : 0 < cnt t.val (keyRow t k).val := by
  have e : (keyRow t k).val = 2048 + t.val - dst k.val := rfl
  have hk := k.isLt
  have ht := t.isLt
  have hle := dst_le k.val hk
  have hs : 2048 + t.val - (2048 + t.val - dst k.val) = dst k.val := by omega
  have h1 := ind_nonneg 1 t.val (keyRow t k).val
  have h4 := ind_nonneg 4 t.val (keyRow t k).val
  have h16 := ind_nonneg 16 t.val (keyRow t k).val
  have one : (0 : EReal) < 1 := zero_lt_one
  unfold cnt
  by_cases c1 : k.val < 129
  · have : ind 1 t.val (keyRow t k).val = 1 := by
      unfold ind; rw [if_pos]; rw [e, hs]
      refine ⟨by omega, ?_, one_dvd _⟩
      unfold dst; rw [if_pos c1]; omega
    rw [this]
    exact lt_of_lt_of_le one (by rw [add_assoc]; exact le_add_of_nonneg_right (add_nonneg h4 h16))
  by_cases c2 : k.val < 258
  · have : ind 4 t.val (keyRow t k).val = 1 := by
      unfold ind; rw [if_pos]; rw [e, hs]
      refine ⟨by omega, ?_, ?_⟩
      · unfold dst; rw [if_neg c1, if_pos c2]; omega
      · unfold dst; rw [if_neg c1, if_pos c2]; exact dvd_mul_right _ _
    rw [this]
    exact lt_of_lt_of_le one ((le_add_of_nonneg_left h1).trans (le_add_of_nonneg_right h16))
  · have : ind 16 t.val (keyRow t k).val = 1 := by
      unfold ind; rw [if_pos]; rw [e, hs]
      refine ⟨by omega, ?_, ?_⟩
      · unfold dst; rw [if_neg c1, if_neg c2]; omega
      · unfold dst; rw [if_neg c1, if_neg c2]; exact dvd_mul_right _ _
    rw [this]
    exact lt_of_lt_of_le one (le_add_of_nonneg_left (add_nonneg h1 h4))

section
variable (Q KN VN : S32x4x1024.Idx → EReal) (CK CV : S1x32x2048x16x64.Idx → EReal) (RB : S32x16.Idx → EReal)

/-- The bias of a row for a token, minus infinity for an unlisted row. -/
def biasR (t : Fin 4) (h : Fin 16) (n : Fin 2176) : EReal :=
  if 0 < cnt t.val n.val then RB (ix2 (bRow (IntOp.maxsi (distW t n) 0#32)) h) else ⊥

/-- The logit of a row. -/
def logitR (b : Fin 32) (t : Fin 4) (h : Fin 16) (n : Fin 2176) : EReal :=
  ∑ e : Fin 64, Q (ix3 b t ⟨h.val * 64 + e.val, by omega⟩) * catL CK KN b n h e + biasR RB t h n

theorem catL_real (hKN : ∀ i, ∃ r : ℝ, KN i = r) (hCK : ∀ i, ∃ r : ℝ, CK i = r) (b : Fin 32) (n : Fin 2176) (h : Fin 16) (e : Fin 64) :
    ∃ r : ℝ, catL CK KN b n h e = r := by
  unfold catL
  split_ifs
  · exact hCK _
  · exact hKN _
  · exact ⟨0, rfl⟩

/-- The multiplicity-weighted softmax over all rows is the attention over the listed keys. -/
theorem row_attn (hQ : ∀ i, ∃ r : ℝ, Q i = r) (hKN : ∀ i, ∃ r : ℝ, KN i = r) (hCK : ∀ i, ∃ r : ℝ, CK i = r) (hRB : ∀ i, ∃ r : ℝ, RB i = r)
    (b : Fin 32) (t : Fin 4) (h : Fin 16) (e : Fin 64) :
    Ideal.div (∑ n : Fin 2176, cnt t.val n.val * Ideal.exp (logitR Q KN CK RB b t h n - Finset.fold max ⊥ (logitR Q KN CK RB b t h) Finset.univ) * catL CV VN b n h e)
        (∑ n : Fin 2176, cnt t.val n.val * Ideal.exp (logitR Q KN CK RB b t h n - Finset.fold max ⊥ (logitR Q KN CK RB b t h) Finset.univ))
      = attn Q KN VN CK CV RB b t h e := by
  refine attn_row t (logitR Q KN CK RB b t h) (fun n => catL CV VN b n h e) (logitK Q KN CK RB b t h) ?_ ?_ ?_
  · intro k
    choose q hq using hQ
    choose w hw using fun e => catL_real KN CK hKN hCK b (keyRow t k) h e
    obtain ⟨r, hr⟩ := hRB (ix2 (bRow (BitVec.ofNat 32 (dst k.val))) h)
    refine ⟨∑ e : Fin 64, q (ix3 b t ⟨h.val * 64 + e.val, by omega⟩) * w e + r, ?_⟩
    unfold logitK
    rw [hr, EReal.coe_add, ← coe_sum]
    refine congrArg (fun x : EReal => x + r) (Finset.sum_congr rfl fun e _ => ?_)
    rw [hq, hw, EReal.coe_mul]
  · intro k
    unfold logitR logitK biasR
    rw [if_pos (cnt_pos t k), dist_back]
  · intro n hn
    unfold logitR biasR
    rw [if_neg (by rw [hn]; exact lt_irrefl _)]
    exact EReal.add_bot _

/-- What one grid point stores, from what its blocks hold. -/
theorem tile_attn (hQ : ∀ i, ∃ r : ℝ, Q i = r) (hKN : ∀ i, ∃ r : ℝ, KN i = r) (hCK : ∀ i, ∃ r : ℝ, CK i = r) (hRB : ∀ i, ∃ r : ℝ, RB i = r)
    (b : Fin 32) (T : Fin 8) (x0 x1 x2 : Vec Ideal S1x4x128 .f32) (x3 x4 : Vec Ideal S1x2048x128 .f32) (x5 : Vec Ideal S1x8x2176 .f32) (x6 : Vec Ideal S8x2176 .f32)
    (h0 : ∀ (r : Fin 4) (l : Fin 128), x0 (ix3 0 r l) = Q (ix3 b r ⟨128 * T.val + l.val, by omega⟩))
    (h1 : ∀ (r : Fin 4) (l : Fin 128), x1 (ix3 0 r l) = KN (ix3 b r ⟨128 * T.val + l.val, by omega⟩))
    (h2 : ∀ (r : Fin 4) (l : Fin 128), x2 (ix3 0 r l) = VN (ix3 b r ⟨128 * T.val + l.val, by omega⟩))
    (h3 : ∀ (n : Fin 2048) (l : Fin 128), x3 (ix3 0 n l) = CK (ix5 0 b n ⟨2 * T.val + l.val / 64, by omega⟩ ⟨l.val % 64, by omega⟩))
    (h4 : ∀ (n : Fin 2048) (l : Fin 128), x4 (ix3 0 n l) = CV (ix5 0 b n ⟨2 * T.val + l.val / 64, by omega⟩ ⟨l.val % 64, by omega⟩))
    (h5 : ∀ (r : Fin 8) (n : Fin 2176), x5 (ix3 0 r n) = biasR RB ⟨r.val % 4, by omega⟩ ⟨2 * T.val + r.val / 4, by omega⟩ n)
    (h6 : ∀ (r : Fin 8) (n : Fin 2176), x6 (ix2 r n) = cnt (r.val % 4) n.val)
    (r : Fin 4) (l : Fin 128) :
    k0_pay1 (F := Ideal) k0_pay11 (k0_pay12 x6) (k0_pay13 x0 (catV x3 x1) x5) (catV x4 x2) (ix3 0 r l)
      = attn Q KN VN CK CV RB b r ⟨2 * T.val + l.val / 64, by omega⟩ ⟨l.val % 64, by omega⟩ := by
  have cat : ∀ (x : Vec Ideal S1x2048x128 .f32) (y : Vec Ideal S1x4x128 .f32) (X : S1x32x2048x16x64.Idx → EReal) (Y : S32x4x1024.Idx → EReal)
      (_ : ∀ (n : Fin 2048) (l : Fin 128), x (ix3 0 n l) = X (ix5 0 b n ⟨2 * T.val + l.val / 64, by omega⟩ ⟨l.val % 64, by omega⟩))
      (_ : ∀ (r : Fin 4) (l : Fin 128), y (ix3 0 r l) = Y (ix3 b r ⟨128 * T.val + l.val, by omega⟩)) (n : Fin 2176) (l : Fin 128),
      catV x y (ix2 n l) = catL X Y b n ⟨2 * T.val + l.val / 64, by omega⟩ ⟨l.val % 64, by omega⟩ := by
    intro x y X Y hx hy n l
    unfold catV catL
    show (if h : n.val < 2048 then x (ix3 0 ⟨n.val, h⟩ l) else tailV y (ix2 ⟨n.val - 2048, _⟩ l)) = _
    by_cases c1 : n.val < 2048
    · rw [dif_pos c1, dif_pos c1, hx]
    · rw [dif_neg c1, dif_neg c1]
      unfold tailV
      show (if h : n.val - 2048 < 4 then y (ix3 0 ⟨n.val - 2048, h⟩ l) else 0) = _
      by_cases c2 : n.val - 2048 < 4
      · rw [dif_pos c2, dif_pos c2, hy]
        refine congrArg Y (congrArg (ix3 b _) (Fin.ext ?_))
        show 128 * T.val + l.val = (2 * T.val + l.val / 64) * 64 + l.val % 64
        omega
      · rw [dif_neg c2, dif_neg c2]
  have cK := cat x3 x1 CK KN h3 h1
  have cV := cat x4 x2 CV VN h4 h2
  have lowL : ∀ n : Fin 2176, ∑ x : Fin 128, (if h : r.val < 4 then Scalar.select (IntOp.cmpi .slt (BitVec.ofNat 32 x.val) 64#32) (x0 (ix3 0 ⟨r.val, h⟩ x)) 0
            else Scalar.select (IntOp.cmpi .slt (BitVec.ofNat 32 x.val) 64#32) 0 (x0 (ix3 0 ⟨r.val - 4, by omega⟩ x))) * catV x3 x1 (ix2 n x) + x5 (ix3 0 ⟨r.val, by omega⟩ n)
      = logitR Q KN CK RB b r ⟨2 * T.val, by omega⟩ n := by
    intro n
    simp only [dif_pos r.isLt]
    rw [sum_low (fun x => x0 (ix3 0 r x)) (fun x => catV x3 x1 (ix2 n x)), h5]
    unfold logitR
    refine congrArg₂ (fun a b : EReal => a + b) (Finset.sum_congr rfl fun e _ => ?_) ?_
    · have he := e.isLt
      rw [h0, cK]
      refine congrArg₂ (fun a b : EReal => a * b) (congrArg Q (congrArg (ix3 b r) (Fin.ext ?_))) (congrArg₂ (catL CK KN b n) (Fin.ext ?_) (Fin.ext ?_))
      · show 128 * T.val + e.val = 2 * T.val * 64 + e.val; omega
      · show 2 * T.val + e.val / 64 = 2 * T.val; omega
      · show e.val % 64 = e.val; omega
    · have hr := r.isLt
      refine congrArg₂ (fun t h => biasR RB t h n) (Fin.ext ?_) (Fin.ext ?_)
      · show r.val % 4 = r.val; omega
      · show 2 * T.val + r.val / 4 = 2 * T.val; omega
  have highL : ∀ n : Fin 2176, ∑ x : Fin 128, (if h : 4 + r.val < 4 then Scalar.select (IntOp.cmpi .slt (BitVec.ofNat 32 x.val) 64#32) (x0 (ix3 0 ⟨4 + r.val, h⟩ x)) 0
            else Scalar.select (IntOp.cmpi .slt (BitVec.ofNat 32 x.val) 64#32) 0 (x0 (ix3 0 ⟨4 + r.val - 4, by omega⟩ x))) * catV x3 x1 (ix2 n x) + x5 (ix3 0 ⟨4 + r.val, by omega⟩ n)
      = logitR Q KN CK RB b r ⟨2 * T.val + 1, by omega⟩ n := by
    intro n
    have hr := r.isLt
    have er : (⟨4 + r.val - 4, by omega⟩ : Fin 4) = r := Fin.ext (by show 4 + r.val - 4 = r.val; omega)
    simp only [dif_neg (show ¬ 4 + r.val < 4 by omega), er]
    rw [sum_high (fun x => x0 (ix3 0 r x)) (fun x => catV x3 x1 (ix2 n x)), h5]
    unfold logitR
    refine congrArg₂ (fun a b : EReal => a + b) (Finset.sum_congr rfl fun e _ => ?_) ?_
    · have he := e.isLt
      rw [h0, cK]
      refine congrArg₂ (fun a b : EReal => a * b) (congrArg Q (congrArg (ix3 b r) (Fin.ext ?_))) (congrArg₂ (catL CK KN b n) (Fin.ext ?_) (Fin.ext ?_))
      · show 128 * T.val + (64 + e.val) = (2 * T.val + 1) * 64 + e.val; omega
      · show 2 * T.val + (64 + e.val) / 64 = 2 * T.val + 1; omega
      · show (64 + e.val) % 64 = e.val; omega
    · refine congrArg₂ (fun t h => biasR RB t h n) (Fin.ext ?_) (Fin.ext ?_)
      · show (4 + r.val) % 4 = r.val; omega
      · show 2 * T.val + (4 + r.val) / 4 = 2 * T.val + 1; omega
  have lowP : ∀ n : Fin 2176, k0_pay13 (F := Ideal) x0 (catV x3 x1) x5 (ix2 ⟨r.val, by omega⟩ n)
      = Ideal.exp (logitR Q KN CK RB b r ⟨2 * T.val, by omega⟩ n - Finset.fold max ⊥ (logitR Q KN CK RB b r ⟨2 * T.val, by omega⟩) Finset.univ) := by
    intro n
    rw [prob_at, ninf]
    exact congrArg₂ (fun a f => Ideal.exp (a - Finset.fold max (⊥ : EReal) f Finset.univ)) (lowL n) (funext lowL)
  have highP : ∀ n : Fin 2176, k0_pay13 (F := Ideal) x0 (catV x3 x1) x5 (ix2 ⟨4 + r.val, by omega⟩ n)
      = Ideal.exp (logitR Q KN CK RB b r ⟨2 * T.val + 1, by omega⟩ n - Finset.fold max ⊥ (logitR Q KN CK RB b r ⟨2 * T.val + 1, by omega⟩) Finset.univ) := by
    intro n
    rw [prob_at, ninf]
    exact congrArg₂ (fun a f => Ideal.exp (a - Finset.fold max (⊥ : EReal) f Finset.univ)) (highL n) (funext highL)
  have hl := l.isLt
  have hr := r.isLt
  rw [out_at, ← row_attn Q KN VN CK CV RB hQ hKN hCK hRB]
  by_cases c : l.val < 64
  · rw [show IntOp.cmpi .slt (BitVec.ofNat 32 l.val) 64#32 = 1#1 from low_lane ⟨l.val, c⟩]
    have eh : (⟨2 * T.val + l.val / 64, by omega⟩ : Fin 16) = ⟨2 * T.val, by omega⟩ := Fin.ext (by show 2 * T.val + l.val / 64 = 2 * T.val; omega)
    rw [eh]
    simp only [h6, lowP, cV, eh, show (r.val % 4) = r.val by omega]
    rfl
  · rw [show IntOp.cmpi .slt (BitVec.ofNat 32 l.val) 64#32 = 0#1 from (by have := high_lane ⟨l.val - 64, by omega⟩; rwa [show 64 + (⟨l.val - 64, by omega⟩ : Fin 64).val = l.val from (by show 64 + (l.val - 64) = l.val; omega)] at this)]
    have eh : (⟨2 * T.val + l.val / 64, by omega⟩ : Fin 16) = ⟨2 * T.val + 1, by omega⟩ := Fin.ext (by show 2 * T.val + l.val / 64 = 2 * T.val + 1; omega)
    rw [eh]
    simp only [h6, highP, cV, eh, show ((4 + r.val) % 4) = r.val by omega]
    rfl

end

end Cert.KernelIdeal.Closed

end
-- ==== Proof.AttnBlk.lean ====
module

public import proofs.«01_k».proof.Proof.AttnPts
public import proofs.«01_k».proof.Proof.AttnTile
public import proofs.«01_k».proof.Proof.Rms

@[expose] public section
set_option maxRecDepth 16384

noncomputable section

/-! The blocks of a grid point, as entries of the arguments. -/

namespace Cert.KernelIdeal.Closed

open Cert.KernelIdeal Cert.KernelIdeal.Gen Idealize.ShloMosaic Idealize.ShloMosaic.TcCoe Idealize.SL.Sem
open Idealize.ShloMosaic (Ideal ix1 ix2 ix3 ix4 ix5 eq_ix2)
open Cert.Spec

variable (m : (ℓ : Loc nD τ sig) → Buf (Elt Ideal) ℓ)

theorem t_lt (t : Fin cfg0.N) : t.val < 256 := by have := t.isLt; have h : cfg0.N = 256 := N_0; omega

/-- The batch row and the head pair of a point. -/
def bOf (t : Fin cfg0.N) : Fin 32 := ⟨t.val % 32, by omega⟩
def pOf (t : Fin cfg0.N) : Fin 8 := ⟨t.val / 32, by have := t_lt t; omega⟩

theorem blk0 (c : Dev nD) (t : Fin cfg0.N) (r : Fin 4) (l : Fin 128) :
    iblk m c 0 t (ix3 0 r l) = m ((c : Thread nD τ).loc main_arg0) (ix3 (bOf t) r ⟨128 * (pOf t).val + l.val, by have := (pOf t).isLt; omega⟩) := by
  unfold iblk
  rw [View.read_apply]
  show V m c main_arg0 _ = _
  rw [V_main_arg0]
  refine congrArg (m ((c : Thread nD τ).loc main_arg0)) ?_
  obtain ⟨⟨h0, h1, h2⟩, -⟩ := index_pts t
  refine idx3_ext _ _ _ _ ?_ ?_ ?_
  · show win0_0.index t 0 * 1 + 1 * 0 = t.val % 32; rw [h0]; omega
  · show win0_0.index t 1 * 4 + 1 * r.val = r.val; rw [h1]; omega
  · show win0_0.index t 2 * 128 + 1 * l.val = 128 * (t.val / 32) + l.val; rw [h2]; omega

theorem blk1 (c : Dev nD) (t : Fin cfg0.N) (r : Fin 4) (l : Fin 128) :
    iblk m c 1 t (ix3 0 r l) = m ((c : Thread nD τ).loc main_arg1) (ix3 (bOf t) r ⟨128 * (pOf t).val + l.val, by have := (pOf t).isLt; omega⟩) := by
  unfold iblk
  rw [View.read_apply]
  show V m c main_arg1 _ = _
  rw [V_main_arg1]
  refine congrArg (m ((c : Thread nD τ).loc main_arg1)) ?_
  obtain ⟨-, ⟨h0, h1, h2⟩, -⟩ := index_pts t
  refine idx3_ext _ _ _ _ ?_ ?_ ?_
  · show win0_1.index t 0 * 1 + 1 * 0 = t.val % 32; rw [h0]; omega
  · show win0_1.index t 1 * 4 + 1 * r.val = r.val; rw [h1]; omega
  · show win0_1.index t 2 * 128 + 1 * l.val = 128 * (t.val / 32) + l.val; rw [h2]; omega

theorem blk2 (c : Dev nD) (t : Fin cfg0.N) (r : Fin 4) (l : Fin 128) :
    iblk m c 2 t (ix3 0 r l) = m ((c : Thread nD τ).loc main_arg2) (ix3 (bOf t) r ⟨128 * (pOf t).val + l.val, by have := (pOf t).isLt; omega⟩) := by
  unfold iblk
  rw [View.read_apply]
  show V m c main_arg2 _ = _
  rw [V_main_arg2]
  refine congrArg (m ((c : Thread nD τ).loc main_arg2)) ?_
  obtain ⟨-, -, ⟨h0, h1, h2⟩, -⟩ := index_pts t
  refine idx3_ext _ _ _ _ ?_ ?_ ?_
  · show win0_2.index t 0 * 1 + 1 * 0 = t.val % 32; rw [h0]; omega
  · show win0_2.index t 1 * 4 + 1 * r.val = r.val; rw [h1]; omega
  · show win0_2.index t 2 * 128 + 1 * l.val = 128 * (t.val / 32) + l.val; rw [h2]; omega

theorem lanes (p : Fin 8) (l : Fin 128) : (⟨(128 * p.val + l.val) / 64, by omega⟩ : Fin 16) = ⟨2 * p.val + l.val / 64, by omega⟩
    ∧ (⟨(128 * p.val + l.val) % 64, by omega⟩ : Fin 64) = ⟨l.val % 64, by omega⟩ :=
  ⟨Fin.ext (by show (128 * p.val + l.val) / 64 = 2 * p.val + l.val / 64; omega), Fin.ext (by show (128 * p.val + l.val) % 64 = l.val % 64; omega)⟩

theorem read3 (c : Dev nD) (t : Fin cfg0.N) (n : Fin 2048) (l : Fin 128) :
    iblk m c 3 t (ix3 0 n l) = V m c main_v80 (ix3 (bOf t) n (⟨128 * (pOf t).val + l.val, by have := (pOf t).isLt; omega⟩ : Fin 1024)) := by
  unfold iblk
  rw [View.read_apply]
  obtain ⟨-, -, -, ⟨h0, h1, h2⟩, -⟩ := index_pts t
  have e : ((cfg0.win 3).blk t).view.emb (ix3 (0 : Fin 1) n l) = ix3 (bOf t) n (⟨128 * (pOf t).val + l.val, by have := (pOf t).isLt; omega⟩ : Fin 1024) := by
    refine idx3_ext _ _ _ _ ?_ ?_ ?_
    · show win0_3.index t 0 * 1 + 1 * 0 = t.val % 32; rw [h0]; omega
    · show win0_3.index t 1 * 2048 + 1 * n.val = n.val; rw [h1]; omega
    · show win0_3.index t 2 * 128 + 1 * l.val = 128 * (t.val / 32) + l.val; rw [h2]; omega
  rw [e, cast_eq]

theorem blk3 (c : Dev nD) (t : Fin cfg0.N) (n : Fin 2048) (l : Fin 128) :
    iblk m c 3 t (ix3 0 n l) = m ((c : Thread nD τ).loc main_arg3) (ix5 (0 : Fin 1) (bOf t) n (⟨2 * (pOf t).val + l.val / 64, by have := (pOf t).isLt; omega⟩ : Fin 16) (⟨l.val % 64, by omega⟩ : Fin 64)) := by
  rw [read3, V_ck]
  exact congrArg₂ (fun a b => m ((c : Thread nD τ).loc main_arg3) (ix5 (0 : Fin 1) (bOf t) n a b)) (lanes (pOf t) l).1 (lanes (pOf t) l).2

theorem read4 (c : Dev nD) (t : Fin cfg0.N) (n : Fin 2048) (l : Fin 128) :
    iblk m c 4 t (ix3 0 n l) = V m c main_v82 (ix3 (bOf t) n (⟨128 * (pOf t).val + l.val, by have := (pOf t).isLt; omega⟩ : Fin 1024)) := by
  unfold iblk
  rw [View.read_apply]
  obtain ⟨-, -, -, -, ⟨h0, h1, h2⟩, -⟩ := index_pts t
  have e : ((cfg0.win 4).blk t).view.emb (ix3 (0 : Fin 1) n l) = ix3 (bOf t) n (⟨128 * (pOf t).val + l.val, by have := (pOf t).isLt; omega⟩ : Fin 1024) := by
    refine idx3_ext _ _ _ _ ?_ ?_ ?_
    · show win0_4.index t 0 * 1 + 1 * 0 = t.val % 32; rw [h0]; omega
    · show win0_4.index t 1 * 2048 + 1 * n.val = n.val; rw [h1]; omega
    · show win0_4.index t 2 * 128 + 1 * l.val = 128 * (t.val / 32) + l.val; rw [h2]; omega
  rw [e, cast_eq]

theorem blk4 (c : Dev nD) (t : Fin cfg0.N) (n : Fin 2048) (l : Fin 128) :
    iblk m c 4 t (ix3 0 n l) = m ((c : Thread nD τ).loc main_arg4) (ix5 (0 : Fin 1) (bOf t) n (⟨2 * (pOf t).val + l.val / 64, by have := (pOf t).isLt; omega⟩ : Fin 16) (⟨l.val % 64, by omega⟩ : Fin 64)) := by
  rw [read4, V_cv]
  exact congrArg₂ (fun a b => m ((c : Thread nD τ).loc main_arg4) (ix5 (0 : Fin 1) (bOf t) n a b)) (lanes (pOf t) l).1 (lanes (pOf t) l).2

theorem blk5 (c : Dev nD) (t : Fin cfg0.N) (r : Fin 8) (n : Fin 2176) :
    iblk m c 5 t (ix3 0 r n) = biasR (m ((c : Thread nD τ).loc main_arg5)) ⟨r.val % 4, by omega⟩ ⟨2 * (pOf t).val + r.val / 4, by have := (pOf t).isLt; omega⟩ n := by
  refine Eq.trans ?_ (V_bias m c (pOf t) r n)
  unfold iblk
  rw [View.read_apply]
  obtain ⟨-, -, -, -, -, ⟨h0, h1, h2⟩, -⟩ := index_pts t
  have e : ((cfg0.win 5).blk t).view.emb (ix3 (0 : Fin 1) r n) = ix3 (pOf t) r n := by
    refine idx3_ext _ _ _ _ ?_ ?_ ?_
    · show win0_5.index t 0 * 1 + 1 * 0 = t.val / 32; rw [h0]; omega
    · show win0_5.index t 1 * 8 + 1 * r.val = r.val; rw [h1]; omega
    · show win0_5.index t 2 * 2176 + 1 * n.val = n.val; rw [h2]; omega
  rw [e]
  generalize V m c = f
  rfl

theorem blk6 (c : Dev nD) (t : Fin cfg0.N) (r : Fin 8) (n : Fin 2176) :
    iblk m c 6 t (ix2 r n) = cnt (r.val % 4) n.val := by
  refine Eq.trans ?_ (V_cnt8 m c r n)
  unfold iblk
  rw [View.read_apply]
  obtain ⟨-, -, -, -, -, -, ⟨h0, h1⟩, -⟩ := index_pts t
  have e : ((cfg0.win 6).blk t).view.emb (ix2 r n) = ix2 r n := by
    refine idx2_ext _ _ _ ?_ ?_
    · show win0_6.index t 0 * 8 + 1 * r.val = r.val; rw [h0]; omega
    · show win0_6.index t 1 * 2176 + 1 * n.val = n.val; rw [h1]; omega
  rw [e]
  generalize V m c = f
  rfl

end Cert.KernelIdeal.Closed

end
-- ==== Proof.AttnValue.lean ====
module

public import proofs.«01_k».proof.Proof.AttnBlk
public import proofs.«01_k».proof.Proof.AttnTile

@[expose] public section
set_option maxRecDepth 16384

noncomputable section

/-! The attention call: its grid points write the attention of every head pair and row of the batch. -/

namespace Cert.KernelIdeal.Closed

open Cert.KernelIdeal Cert.KernelIdeal.Gen Idealize.ShloMosaic Idealize.ShloMosaic.TcCoe Idealize.SL.Sem
open Idealize.ShloMosaic (Ideal ix1 ix2 ix3 ix4 ix5 eq_ix2)
open Cert.Spec

variable (m : (ℓ : Loc nD τ sig) → Buf (Elt Ideal) ℓ)

/-- The attention, laid out with the heads side by side. -/
def attnOf (q kn vn : S32x4x1024.Idx → EReal) (ck cv : S1x32x2048x16x64.Idx → EReal) (rb : S32x16.Idx → EReal) (i : S32x4x1024.Idx) : EReal :=
  attn q kn vn ck cv rb (i 0) (i 1) ⟨(i 2).val / 64, by have h : (i 2).val < 1024 := (i 2).isLt; omega⟩ ⟨(i 2).val % 64, by omega⟩

def G (c : Dev nD) : Buf (Elt Ideal) ((c : Thread nD τ).loc main_v83) :=
  attnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Every entry of an array is a real number. -/
def RealArr (S : Shape) (x : S.Idx → EReal) : Prop := ∀ i, ∃ r : ℝ, x i = r

/-- Every entry of the queries, the keys, the cached keys and the bias table is a real. -/
def Reals (c : Dev nD) : Prop :=
  RealArr S32x4x1024 (m ((c : Thread nD τ).loc main_arg0)) ∧ RealArr S32x4x1024 (m ((c : Thread nD τ).loc main_arg1))
  ∧ RealArr S1x32x2048x16x64 (m ((c : Thread nD τ).loc main_arg3)) ∧ RealArr S32x16 (m ((c : Thread nD τ).loc main_arg5))

/-- The tile a point leaves in the result. -/
def tileOut (c : Dev nD) (t : Fin cfg0.N) : S1x4x128.Idx → EReal :=
  k0_pay1 (F := Ideal) k0_pay11 (k0_pay12 (iblk m c 6 t)) (k0_pay13 (iblk m c 0 t) (catV (iblk m c 3 t) (iblk m c 1 t)) (iblk m c 5 t)) (catV (iblk m c 4 t) (iblk m c 2 t))

theorem stored (c : Dev nD) (hR : Reals m c) (t : Fin cfg0.N) (r : Fin 4) (l : Fin 128) :
    tileOut m c t (ix3 0 r l)
      = G m c (ix3 (bOf t) r ⟨128 * (pOf t).val + l.val, by have := (pOf t).isLt; omega⟩) := by
  obtain ⟨hQ, hKN, hCK, hRB⟩ := hR
  refine (tile_attn _ _ _ _ _ _ hQ hKN hCK hRB (bOf t) (pOf t) _ _ _ _ _ _ _ (fun r l => blk0 m c t r l) (fun r l => blk1 m c t r l) (fun r l => blk2 m c t r l)
    (fun n l => blk3 m c t n l) (fun n l => blk4 m c t n l) (fun r n => blk5 m c t r n) (fun r n => blk6 m c t r n) r l).trans ?_
  unfold G attnOf
  exact congrArg₂ (attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bOf t) r)
    (lanes (pOf t) l).1.symm (lanes (pOf t) l).2.symm

theorem flushed_tile (c : Dev nD) (t : Fin cfg0.N) :
    (dats m 0 c).flushed 7 t = (cfg0.win 7).cut (grid0.coords t) (tileOut m c t) := by
  rw [Value.flushed7_A, outA7]
  rfl

theorem flushed_eq (c : Dev nD) (hR : Reals m c) (t : Fin cfg0.N) :
    (dats m 0 c).flushed 7 t = ((cfg0.win 7).blk t).view.read (Elt Ideal) (G m c) := by
  rw [flushed_tile]
  funext y
  rw [View.read_apply]
  obtain ⟨-, -, -, -, -, -, -, ⟨e0, e1, e2⟩⟩ := index_pts t
  have hy : (y 0).val < 1 := (y 0).isLt
  have hy2 : (y 2).val < 128 := (y 2).isLt
  have e : ((cfg0.win 7).blk t).view.emb y = ix3 (bOf t) (y 1) (⟨128 * (pOf t).val + (y 2).val, by have := (pOf t).isLt; omega⟩ : Fin 1024) := by
    refine idx3_ext _ _ _ _ ?_ ?_ ?_
    · show win0_7.index t 0 * 1 + 1 * (y 0).val = t.val % 32; rw [e0]; omega
    · show win0_7.index t 1 * 4 + 1 * (y 1).val = (y 1).val; rw [e1]; omega
    · show win0_7.index t 2 * 128 + 1 * (y 2).val = 128 * (t.val / 32) + (y 2).val; rw [e2]; omega
  rw [e]
  refine Eq.trans ?_ (stored m c hR t (y 1) (y 2))
  exact congrArg (tileOut m c t) (idx3_ext (n := 1) (m := 4) (p := 128) y 0 (y 1) (y 2) (by show (y 0).val = 0; omega) rfl rfl)

/-- The points' blocks tile the result, so the array ends holding the attention. -/
theorem final_o (c : Dev nD) (hR : Reals m c) : (dats m 0 c).arrAt 7 cfg0.N = G m c :=
  (dats m 0 c).arrAt_eq_of_cover 7 (G m c) (fun t _ => flushed_eq m c hR t) fun i => by
    have h0 : (i 0 : Nat) < 32 := (i 0).isLt
    have h1 : (i 1 : Nat) < 4 := (i 1).isLt
    have h2 : (i 2 : Nat) < 1024 := (i 2).isLt
    let t : Fin cfg0.N := ⟨32 * ((i 2 : Nat) / 128) + (i 0 : Nat), by rw [show cfg0.N = 256 from N_0]; omega⟩
    have hv : t.val = 32 * ((i 2 : Nat) / 128) + (i 0 : Nat) := rfl
    obtain ⟨-, -, -, -, -, -, -, ⟨e0, e1, e2⟩⟩ := index_pts t
    refine ⟨t, flush0_7 t, ?_⟩
    show i ∈ ((View.whole main_v83).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [e0]; omega
    | ⟨1, _⟩ =>
      show win0_7.index t 1 * 4 ≤ (i 1 : Nat) ∧ (i 1 : Nat) < win0_7.index t 1 * 4 + 4
      rw [e1]; omega
    | ⟨2, _⟩ =>
      show win0_7.index t 2 * 128 ≤ (i 2 : Nat) ∧ (i 2 : Nat) < win0_7.index t 2 * 128 + 128
      rw [e2]; omega

end Cert.KernelIdeal.Closed

end
-- ==== Proof.AttnIdx.lean ====
module

public import proofs.«01_k».proof.Proof.Gen.ReferenceIdeal.Read
public import proofs.«01_k».proof.Proof.AttnSpec
public import Idealize.ShloMosaic.Lib.Pointwise

@[expose] public section

set_option maxRecDepth 16384

noncomputable section

namespace Cert.ReferenceIdeal.Closed

open Cert.ReferenceIdeal Cert.ReferenceIdeal.Gen Cert.ReferenceIdeal.Read Idealize.ShloMosaic Idealize.ShloMosaic.TcCoe Idealize.SL.Sem
open Cert.Spec
open Idealize.ShloMosaic (Ideal ix1 ix2 ix3 ix4 ix5 eq_ix2)

variable (x0 x1 x2 : S32x4x1024.Idx → EReal) (x3 x4 : S1x32x2048x16x64.Idx → EReal) (x5 : S32x16.Idx → EReal)

/-- The words of the listed distances. -/
theorem dist_word (k : Fin 387) : val_main_v14 (F := Ideal) (ix1 k) = BitVec.ofNat 32 (dst k.val) := by
  have e : ∀ k : Fin 387, (if _h : k.val < 129 then IntOp.muli 1#32 (BitVec.ofNat 32 k.val) else if _h : k.val - 129 < 129 then IntOp.muli 4#32 (BitVec.ofNat 32 (k.val - 129)) else IntOp.muli 16#32 (BitVec.ofNat 32 (k.val - 129 - 129))) = BitVec.ofNat 32 (dst k.val) := by
    decide +kernel
  refine Eq.trans ?_ (e k)
  pointwise [val_main_v14, val_main_v7, val_main_v10, val_main_v13, val_main_v5, val_main_v6, val_main_v8, val_main_v9, val_main_v11, val_main_v12, val_main_c, val_main_c_0, val_main_c_1]

/-- Rows of a table, picked by the words of a column. -/
theorem pick_row (x : S32x16.Idx → EReal) (w : IVec S387x1 32) (k : Fin 387) (h : Fin 16) :
    Host.gather gather_S32x16_S387x1_S387x16_1_0_n_n_0_1_116 x w (ix2 k h) = x (ix2 ⟨min (w (ix2 k 0)).toInt.toNat 31, by omega⟩ h) := by
  unfold Host.gather
  congr 1
  funext a
  refine Fin.ext ?_
  generalize hd : gather_S32x16_S387x1_S387x16_1_0_n_n_0_1_116 = d
  show d.start (ix2 k h) w a + d.batchCoord (ix2 k h) a + d.offCoord (ix2 k h) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hsi : gather_S32x16_S387x1_S387x16_1_0_n_n_0_1_116.siIdx (ix2 k h) ⟨List.idxOf (0 : Fin 2) gather_S32x16_S387x1_S387x16_1_0_n_n_0_1_116.startIndexMap,
        List.idxOf_lt_length_iff.2 (List.mem_singleton.mpr rfl)⟩ = ix2 k 0 := by
      funext b; refine Fin.ext ?_
      match b with
      | ⟨0, _⟩ => rfl
      | ⟨1, _⟩ => rfl
    exact congrArg (fun j => min (w j).toInt.toNat 31) hsi
  · rw [GatherDims.batchCoord_eq_zero _ _ _ List.not_mem_nil]
    unfold GatherDims.start
    rw [dif_neg (by decide)]
    unfold GatherDims.offCoord
    rw [dif_pos (by decide)]
    show 0 + 0 + h.val = h.val
    omega

/-- Rows of the joined caches, picked by a table of words. -/
theorem pick_key (x : S32x2052x16x64.Idx → EReal) (w : IVec S4x387x1 32) (b : Fin 32) (t : Fin 4) (k : Fin 387) (h : Fin 16) (e : Fin 64) :
    Host.gather gather_S32x2052x16x64_S4x387x1_S32x4x387x16x64_034_1_n_n_1_2_3211664 x w (ix5 b t k h e) = x (ix4 b ⟨min (w (ix3 t k 0)).toInt.toNat 2051, by omega⟩ h e) := by
  unfold Host.gather
  congr 1
  funext a
  refine Fin.ext ?_
  generalize hd : gather_S32x2052x16x64_S4x387x1_S32x4x387x16x64_034_1_n_n_1_2_3211664 = d
  show d.start (ix5 b t k h e) w a + d.batchCoord (ix5 b t k h e) a + d.offCoord (ix5 b t k h e) a = _
  subst hd
  have h01 : a = 1 ∨ a = 0 ∨ a = 2 ∨ a = 3 := by
    match a with
    | ⟨0, _⟩ => exact Or.inr (Or.inl rfl)
    | ⟨1, _⟩ => exact Or.inl rfl
    | ⟨2, _⟩ => exact Or.inr (Or.inr (Or.inl rfl))
    | ⟨3, _⟩ => exact Or.inr (Or.inr (Or.inr rfl))
  rcases h01 with rfl | rfl | rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hsi : gather_S32x2052x16x64_S4x387x1_S32x4x387x16x64_034_1_n_n_1_2_3211664.siIdx (ix5 b t k h e) ⟨List.idxOf (1 : Fin 4) gather_S32x2052x16x64_S4x387x1_S32x4x387x16x64_034_1_n_n_1_2_3211664.startIndexMap,
        List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    exact congrArg (fun j => min (w j).toInt.toNat 2051) hsi
  · rw [GatherDims.batchCoord_eq_zero _ _ _ List.not_mem_nil]
    unfold GatherDims.start
    rw [dif_neg (by decide)]
    unfold GatherDims.offCoord
    rw [dif_pos (by decide)]
    show 0 + 0 + b.val = b.val
    omega
  · rw [GatherDims.batchCoord_eq_zero _ _ _ List.not_mem_nil]
    unfold GatherDims.start
    rw [dif_neg (by decide)]
    unfold GatherDims.offCoord
    rw [dif_pos (by decide)]
    show 0 + 0 + h.val = h.val
    omega
  · rw [GatherDims.batchCoord_eq_zero _ _ _ List.not_mem_nil]
    unfold GatherDims.start
    rw [dif_neg (by decide)]
    unfold GatherDims.offCoord
    rw [dif_pos (by decide)]
    show 0 + 0 + e.val = e.val
    omega

/-- The word of a listed key's row, as the program computes it from the distance word. -/
def keyWord (t : Fin 4) (w : BitVec 32) : BitVec 32 :=
  Scalar.select (IntOp.cmpi .slt (IntOp.maxsi (IntOp.subi (IntOp.addi 2048#32 (BitVec.ofNat 32 t.val)) w) 0#32) 0#32)
    (IntOp.addi (IntOp.maxsi (IntOp.subi (IntOp.addi 2048#32 (BitVec.ofNat 32 t.val)) w) 0#32) 2052#32)
    (IntOp.maxsi (IntOp.subi (IntOp.addi 2048#32 (BitVec.ofNat 32 t.val)) w) 0#32)

theorem keyWord_row : ∀ (t : Fin 4) (k : Fin 387), min (keyWord t (BitVec.ofNat 32 (dst k.val))).toInt.toNat 2051 = (keyRow t k).val := by
  decide +kernel

theorem word_k (t : Fin 4) (k : Fin 387) : val_main_v60 (F := Ideal) (ix3 t k 0) = keyWord t (BitVec.ofNat 32 (dst k.val)) := by
  rw [← dist_word k]
  unfold val_main_v60 val_main_v59 val_main_v58 val_main_v57 val_main_v56 val_main_v55 val_main_v54 val_main_v53 val_main_v50 val_main_v49 val_main_v48 val_main_v47
  generalize val_main_v14 = w
  pointwise [keyWord, val_main_v46, val_main_v45, val_main_v44, val_main_v43, val_main_c_10, val_main_c_11, val_main_c_12, val_main_c_13, val_main_c_14]

theorem word_v (t : Fin 4) (k : Fin 387) : val_main_v67 (F := Ideal) (ix3 t k 0) = keyWord t (BitVec.ofNat 32 (dst k.val)) := by
  rw [← dist_word k]
  unfold val_main_v67 val_main_v66 val_main_v65 val_main_v64 val_main_v63 val_main_v62 val_main_v54 val_main_v53 val_main_v50 val_main_v49 val_main_v48 val_main_v47
  generalize val_main_v14 = w
  pointwise [keyWord, val_main_v46, val_main_v45, val_main_v44, val_main_v43, val_main_c_10, val_main_c_11, val_main_c_12, val_main_c_15, val_main_c_16]

/-- Every listed key lies within reach. -/
theorem within (t : Fin 4) (k : Fin 387) : val_main_v52 (F := Ideal) (ix2 t k) = 1#1 := by
  have e : ∀ (t : Fin 4) (k : Fin 387), IntOp.cmpi .sge (IntOp.subi (IntOp.addi 2048#32 (BitVec.ofNat 32 t.val)) (BitVec.ofNat 32 (dst k.val))) 0#32 = 1#1 := by
    decide +kernel
  rw [← e t k, ← dist_word k]
  unfold val_main_v52 val_main_v51 val_main_v50 val_main_v49 val_main_v48 val_main_v47
  generalize val_main_v14 = w
  pointwise [val_main_v46, val_main_v45, val_main_v44, val_main_v43, val_main_c_10, val_main_c_11]

set_option maxHeartbeats 2000000 in
theorem bucket_word (k : Fin 387) : val_main_v38 (F := Ideal) (ix2 k 0) = bki (BitVec.ofNat 32 (dst k.val)) := by
  rw [← dist_word k]
  unfold val_main_v38 val_main_v37 val_main_v36 val_main_v34 val_main_v32 val_main_v31 val_main_v29 val_main_v27 val_main_v25 val_main_v24 val_main_v22 val_main_v20 val_main_v19 val_main_v17 val_main_v16
  generalize val_main_v14 = w
  pointwise [bki, bkt, val_main_v15, val_main_v18, val_main_v21, val_main_v23, val_main_v26, val_main_v28, val_main_v30, val_main_v33, val_main_v35, val_main_c_2, val_main_cst, val_main_cst_3, val_main_cst_4, val_main_c_5, val_main_c_6, val_main_c_7, val_main_c_8, val_main_c_9]

theorem bias_apply (k : Fin 387) (h : Fin 16) : val_main_v39 (F := Ideal) x5 (ix2 k h) = x5 (ix2 (bRow (BitVec.ofNat 32 (dst k.val))) h) := by
  unfold val_main_v39
  rw [pick_row]
  refine congrArg x5 (congrArg (fun r : Fin 32 => ix2 r h) (Fin.ext ?_))
  exact congrArg (fun w : BitVec 32 => min w.toInt.toNat 31) (bucket_word k)

theorem joined (xn : S32x4x1024.Idx → EReal) (xc : S1x32x2048x16x64.Idx → EReal) (b : Fin 32) (n : Fin 2052) (n' : Fin 2176) (hn : n.val = n'.val) (h : Fin 16) (e : Fin 64) :
    (if h1 : n.val < 2048 then xc (ix5 0 b ⟨n.val, h1⟩ h e) else xn (ix3 b ⟨n.val - 2048, by omega⟩ ⟨h.val * 64 + e.val, by omega⟩)) = catL xc xn b n' h e := by
  unfold catL
  obtain ⟨n, h0⟩ := n
  obtain ⟨n', h0'⟩ := n'
  obtain rfl : n = n' := hn
  by_cases h1 : n < 2048
  · rw [dif_pos h1, dif_pos h1]
  · rw [dif_neg h1, dif_neg h1, dif_pos (show n - 2048 < 4 by omega)]

theorem keys_apply (b : Fin 32) (t : Fin 4) (k : Fin 387) (h : Fin 16) (e : Fin 64) :
    val_main_v61 (F := Ideal) x1 x3 (ix5 b t k h e) = catL x3 x1 b (keyRow t k) h e := by
  unfold val_main_v61
  rw [pick_key, ← joined x1 x3 b ⟨min (val_main_v60 (F := Ideal) (ix3 t k 0)).toInt.toNat 2051, by omega⟩ _ (by rw [← keyWord_row, ← word_k])]
  pointwise [val_main_v41, val_main_v3, val_main_v1]

theorem values_apply (b : Fin 32) (t : Fin 4) (k : Fin 387) (h : Fin 16) (e : Fin 64) :
    val_main_v68 (F := Ideal) x2 x4 (ix5 b t k h e) = catL x4 x2 b (keyRow t k) h e := by
  unfold val_main_v68
  rw [pick_key, ← joined x2 x4 b ⟨min (val_main_v67 (F := Ideal) (ix3 t k 0)).toInt.toNat 2051, by omega⟩ _ (by rw [← keyWord_row, ← word_v])]
  pointwise [val_main_v42, val_main_v4, val_main_v2]

end Cert.ReferenceIdeal.Closed

end
-- ==== Proof.AttnRef.lean ====
module

public import proofs.«01_k».proof.Proof.AttnIdx

@[expose] public section

set_option maxRecDepth 16384

noncomputable section

namespace Cert.ReferenceIdeal.Closed

open Cert.ReferenceIdeal Cert.ReferenceIdeal.Gen Cert.ReferenceIdeal.Read Idealize.ShloMosaic Idealize.ShloMosaic.TcCoe Idealize.SL.Sem
open Cert.Spec
open Idealize.ShloMosaic (Ideal ix1 ix2 ix3 ix4 ix5 eq_ix2)

variable (x0 x1 x2 : S32x4x1024.Idx → EReal) (x3 x4 : S1x32x2048x16x64.Idx → EReal) (x5 : S32x16.Idx → EReal)

/-- The softmax of any table of logits, against any table of values. -/
theorem soft (b : Fin 32) (t : Fin 4) (l : Fin 1024) (lg : S32x16x4x387.Idx → EReal) (vg : S32x4x387x16x64.Idx → EReal)
    (h1 : val_main_v74 (F := Ideal) x0 x1 x3 x5 = lg) (h2 : val_main_v68 (F := Ideal) x2 x4 = vg) : val_main_v87 (F := Ideal) x0 x1 x2 x3 x4 x5 (ix3 b t l)
      = ∑ x : Fin 387, Ideal.div (Ideal.exp (lg (ix4 b ⟨l.val / 64, by omega⟩ t x) - max (Ideal.ofBits FTy.f32 4286578688#32) (Finset.fold max (Ideal.ofBits FTy.f32 4286578688#32) (fun y => lg (ix4 b ⟨l.val / 64, by omega⟩ t y)) Finset.univ)))
          (∑ z : Fin 387, Ideal.exp (lg (ix4 b ⟨l.val / 64, by omega⟩ t z) - max (Ideal.ofBits FTy.f32 4286578688#32) (Finset.fold max (Ideal.ofBits FTy.f32 4286578688#32) (fun y => lg (ix4 b ⟨l.val / 64, by omega⟩ t y)) Finset.univ)))
        * vg (ix5 b t x ⟨l.val / 64, by omega⟩ ⟨l.val % 64, Nat.mod_lt _ (by norm_num)⟩) := by
  unfold val_main_v87 val_main_v86 val_main_v85 val_main_v84 val_main_v83 val_main_v82 val_main_v81 val_main_v80 val_main_v79 val_main_v78 val_main_v77 val_main_v75
  rw [h1, h2]
  clear h1 h2
  pointwise [val_main_v76, val_main_cst_18, val_main_cst_19, val_main_cst_20]

theorem logit (b : Fin 32) (t : Fin 4) (h : Fin 16) (k : Fin 387) (kg : S32x4x387x16x64.Idx → EReal) (bg : S387x16.Idx → EReal)
    (h1 : val_main_v61 (F := Ideal) x1 x3 = kg) (h2 : val_main_v39 (F := Ideal) x5 = bg) : val_main_v74 (F := Ideal) x0 x1 x3 x5 (ix4 b h t k)
      = Scalar.select (val_main_v52 (F := Ideal) (ix2 t k)) (∑ e : Fin 64, x0 (ix3 b t ⟨h.val * 64 + e.val, by omega⟩) * kg (ix5 b t k h e) + bg (ix2 k h)) (Ideal.ofBits FTy.f32 4286578688#32) := by
  unfold val_main_v74 val_main_v72 val_main_v69 val_main_v71 val_main_v70 val_main_v40 val_main_call1_v1 val_main_v73
  rw [h1, h2]
  clear h1 h2
  pointwise [val_main_v0, val_main_call1_v2, val_main_call1_v0, val_main_cst_17]
  rfl

theorem logit_eq (b : Fin 32) (t : Fin 4) (h : Fin 16) (k : Fin 387) : val_main_v74 (F := Ideal) x0 x1 x3 x5 (ix4 b h t k) = logitK x0 x1 x3 x5 b t h k := by
  rw [logit x0 x1 x3 x5 b t h k _ _ rfl rfl, within]
  exact congrArg₂ (fun a b : EReal => a + b) (Finset.sum_congr rfl fun e _ => congrArg (fun a : EReal => x0 (ix3 b t ⟨h.val * 64 + e.val, by omega⟩) * a) (keys_apply x1 x3 b t k h e)) (bias_apply x5 k h)

/-- What the reference computes, at a lane of the merged heads. -/
theorem ref_eq (b : Fin 32) (t : Fin 4) (l : Fin 1024) : val_main_v87 (F := Ideal) x0 x1 x2 x3 x4 x5 (ix3 b t l)
    = attn x0 x1 x2 x3 x4 x5 b t ⟨l.val / 64, by omega⟩ ⟨l.val % 64, Nat.mod_lt _ (by norm_num)⟩ := by
  rw [soft x0 x1 x2 x3 x4 x5 b t l _ _ rfl rfl, ninf]
  unfold attn
  simp only [logit_eq, values_apply, max_eq_right bot_le]

end Cert.ReferenceIdeal.Closed

end
-- ==== Proof.AttnClaim.lean ====
module

public import proofs.«01_k».proof.Proof.AttnValue
public import proofs.«01_k».proof.Proof.AttnRef
public import proofs.«01_k».proof.Proof.Gen.ReferenceIdeal.Run
public import proofs.«01_k».proof.Proof.Finite
public import proofs.«01_k».proof.Defs

@[expose] public section
set_option maxRecDepth 16384

noncomputable section

/-! The attention call against its reference. -/

namespace Cert.KernelIdeal.Closed

open Cert.KernelIdeal Cert.KernelIdeal.Gen Idealize.ShloMosaic Idealize.ShloMosaic.TcCoe Idealize.SL.Sem
open Idealize.ShloMosaic (Ideal ix1 ix2 ix3 ix4 ix5 eq_ix2)
open Cert.Spec

variable (m : (ℓ : Loc nD τ sig) → Buf (Elt Ideal) ℓ)

theorem reals_of_pre [Cert.Pre_qk_finite.Facts] (h : Cert.Pre_KernelIdeal_qk_finite m) (c : Dev nD) : Reals m c := by
  obtain ⟨h0, h1, h3, h5⟩ := h c
  refine ⟨fun i => ?_, fun i => ?_, fun i => ?_, fun i => ?_⟩
  · exact real_of_abs _ (congrFun h0 i)
  · exact real_of_abs _ (congrFun h1 i)
  · exact real_of_abs _ (congrFun h3 i)
  · exact real_of_abs _ (congrFun h5 i)

end Cert.KernelIdeal.Closed

namespace Cert.ReferenceIdeal.Closed

open Cert.ReferenceIdeal Cert.ReferenceIdeal.Gen Cert.ReferenceIdeal.Read Idealize.ShloMosaic Idealize.ShloMosaic.TcCoe Idealize.SL.Sem
open Idealize.ShloMosaic (Ideal ix3)

/-- The reference is the attention, laid out with the heads side by side. -/
theorem ref_fun (x0 x1 x2 : S32x4x1024.Idx → EReal) (x3 x4 : S1x32x2048x16x64.Idx → EReal) (x5 : S32x16.Idx → EReal) :
    val_main_v87 (F := Ideal) x0 x1 x2 x3 x4 x5 = Cert.KernelIdeal.Closed.attnOf x0 x1 x2 x3 x4 x5 := by
  refine funext fun i => ?_
  rw [eq_ix3 i]
  refine (ref_eq x0 x1 x2 x3 x4 x5 (i 0) (i 1) (i 2)).trans ?_
  unfold Cert.KernelIdeal.Closed.attnOf
  rfl

end Cert.ReferenceIdeal.Closed

namespace Cert.Proof

open Idealize.ShloMosaic Idealize.ShloMosaic.TcCoe Idealize.SL.Sem

theorem attn_ref_val (m' : (ℓ : Loc Cert.ReferenceIdeal.nD Cert.ReferenceIdeal.τ Cert.ReferenceIdeal.sig) → Buf (Elt Ideal) ℓ) (c : Dev Cert.ReferenceIdeal.nD)
    (x0 x1 x2 : Cert.ReferenceIdeal.S32x4x1024.Idx → EReal) (x3 x4 : Cert.ReferenceIdeal.S1x32x2048x16x64.Idx → EReal) (x5 : Cert.ReferenceIdeal.S32x16.Idx → EReal)
    (e0 : m' ((c.tc : Thread Cert.ReferenceIdeal.nD Cert.ReferenceIdeal.τ).loc Cert.ReferenceIdeal.main_arg0) = x0)
    (e1 : m' ((c.tc : Thread Cert.ReferenceIdeal.nD Cert.ReferenceIdeal.τ).loc Cert.ReferenceIdeal.main_arg1) = x1)
    (e2 : m' ((c.tc : Thread Cert.ReferenceIdeal.nD Cert.ReferenceIdeal.τ).loc Cert.ReferenceIdeal.main_arg2) = x2)
    (e3 : m' ((c.tc : Thread Cert.ReferenceIdeal.nD Cert.ReferenceIdeal.τ).loc Cert.ReferenceIdeal.main_arg3) = x3)
    (e4 : m' ((c.tc : Thread Cert.ReferenceIdeal.nD Cert.ReferenceIdeal.τ).loc Cert.ReferenceIdeal.main_arg4) = x4)
    (e5 : m' ((c.tc : Thread Cert.ReferenceIdeal.nD Cert.ReferenceIdeal.τ).loc Cert.ReferenceIdeal.main_arg5) = x5) :
    Cert.ReferenceIdeal.Read.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Cert.KernelIdeal.Closed.attnOf x0 x1 x2 x3 x4 x5 := by
  rw [e0, e1, e2, e3, e4, e5]
  exact Cert.ReferenceIdeal.Closed.ref_fun x0 x1 x2 x3 x4 x5

/-- The attention call's two programs compute one function of finite queries, keys and biases. -/
theorem attn_algebraic [Cert.KernelIdeal.Facts] [Cert.ReferenceIdeal.Facts] [Cert.Pre_qk_finite.Facts] : Cert.algebraic_KernelIdeal_ReferenceIdeal_pre_qk_finite := by
  intro m g m' g' hpre hag
  refine ⟨fun c => Cert.KernelIdeal.Closed.G m c, ?_, ?_⟩
  · exact (θ_run _ _ _).mono (fun r h c => ⟨(h c).1.trans (Cert.KernelIdeal.Closed.final_o m c (Cert.KernelIdeal.Closed.reals_of_pre m hpre c)), (h c).2⟩) (Cert.KernelIdeal.Value.run_blocks m g)
  · refine (θ_run _ _ _).mono (fun r h c => ⟨(h c).1.trans ?_, (h c).2⟩) (Cert.ReferenceIdeal.Value.run m' g')
    obtain ⟨e0, e1, e2, e3, e4, e5⟩ := hag c
    rw [Cert.ReferenceIdeal.Read.val_main_v87_eq]
    exact attn_ref_val m' c _ _ _ _ _ _ e0 e1 e2 e3 e4 e5

end Cert.Proof

end
-- ==== Proof.lean ====
/- The assembled proof of `Cert.Claim`: every program terminates, keeps its arguments and leaves its semaphores at zero;
   each call and the reference's lines for it compute one function over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.In
public import proofs.«01_k».proof.Proof.Gen.InSample
public import proofs.«01_k».proof.Proof.Gen.In.Skeleton
public import proofs.«01_k».proof.Proof.Gen.InSample.Skeleton
public import proofs.«01_k».proof.Proof.Gen.In.Launch
public import proofs.«01_k».proof.Proof.Gen.InSample.Launch
public import proofs.«01_k».proof.Proof.Gen.In.Points
public import proofs.«01_k».proof.Proof.Gen.InSample.Points
public import proofs.«01_k».proof.Proof.Gen.In.Frame
public import proofs.«01_k».proof.Proof.Gen.InSample.Frame
public import proofs.«01_k».proof.Proof.Gen.InIdeal
public import proofs.«01_k».proof.Proof.Gen.InSampleIdeal
public import proofs.«01_k».proof.Proof.Gen.InIdeal.Skeleton
public import proofs.«01_k».proof.Proof.Gen.InSampleIdeal.Skeleton
public import proofs.«01_k».proof.Proof.Gen.InIdeal.Launch
public import proofs.«01_k».proof.Proof.Gen.InSampleIdeal.Launch
public import proofs.«01_k».proof.Proof.Gen.InIdeal.Points
public import proofs.«01_k».proof.Proof.Gen.InSampleIdeal.Points
public import proofs.«01_k».proof.Proof.Gen.InIdeal.Frame
public import proofs.«01_k».proof.Proof.Gen.InSampleIdeal.Frame
public import proofs.«01_k».proof.Proof.Gen.InRefIdeal
public import proofs.«01_k».proof.Proof.Gen.InSampleRefIdeal
public import proofs.«01_k».proof.Proof.Gen.KernelIdeal.Value
public import proofs.«01_k».proof.Proof.Gen.FfnIdeal.Value
public import proofs.«01_k».proof.Proof.Gen.OutIdeal.Value
public import proofs.«01_k».proof.Proof.Gen.InIdeal.Value
public import proofs.«01_k».proof.Proof.Gen.InSampleIdeal.Value
public import proofs.«01_k».proof.Proof.Gen.ReferenceIdeal.Run
public import proofs.«01_k».proof.Proof.Gen.ReferenceIdeal.Read
public import proofs.«01_k».proof.Proof.Gen.FfnRefIdeal.Run
public import proofs.«01_k».proof.Proof.Gen.FfnRefIdeal.Read
public import proofs.«01_k».proof.Proof.Gen.OutRefIdeal.Run
public import proofs.«01_k».proof.Proof.Gen.OutRefIdeal.Read
public import proofs.«01_k».proof.Proof.Gen.InRefIdeal.Run
public import proofs.«01_k».proof.Proof.Gen.InSampleRefIdeal.Run
public import proofs.«01_k».proof.Proof.Gen.InRefIdeal.Read
public import proofs.«01_k».proof.Proof.Gen.InSampleRefIdeal.Read
public import Idealize.ShloMosaic.Adequacy
public import Idealize.ShloMosaic.Init
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.Gen.OutSample
public import proofs.«01_k».proof.Proof.Gen.OutSample.Skeleton
public import proofs.«01_k».proof.Proof.Gen.OutSample.Launch
public import proofs.«01_k».proof.Proof.Gen.OutSample.Points
public import proofs.«01_k».proof.Proof.Gen.OutSample.Frame
public import proofs.«01_k».proof.Proof.Gen.OutSampleIdeal
public import proofs.«01_k».proof.Proof.Gen.OutSampleIdeal.Skeleton
public import proofs.«01_k».proof.Proof.Gen.OutSampleIdeal.Launch
public import proofs.«01_k».proof.Proof.Gen.OutSampleIdeal.Points
public import proofs.«01_k».proof.Proof.Gen.OutSampleIdeal.Frame
public import proofs.«01_k».proof.Proof.Gen.OutSampleIdeal.Value
public import proofs.«01_k».proof.Proof.Gen.OutSampleRefIdeal
public import proofs.«01_k».proof.Proof.Gen.OutSampleRefIdeal.Run
public import proofs.«01_k».proof.Proof.Gen.OutSampleRefIdeal.Read
public import proofs.«01_k».proof.Proof.Gen.PoolSample
public import proofs.«01_k».proof.Proof.Gen.PoolSample.Skeleton
public import proofs.«01_k».proof.Proof.Gen.PoolSample.Launch
public import proofs.«01_k».proof.Proof.Gen.PoolSample.Points
public import proofs.«01_k».proof.Proof.Gen.PoolSample.Frame
public import proofs.«01_k».proof.Proof.Gen.PoolSampleIdeal
public import proofs.«01_k».proof.Proof.Gen.PoolSampleIdeal.Skeleton
public import proofs.«01_k».proof.Proof.Gen.PoolSampleIdeal.Launch
public import proofs.«01_k».proof.Proof.Gen.PoolSampleIdeal.Points
public import proofs.«01_k».proof.Proof.Gen.PoolSampleIdeal.Frame
public import proofs.«01_k».proof.Proof.Gen.PoolSampleIdeal.Value
public import proofs.«01_k».proof.Proof.Gen.PoolSampleRefIdeal
public import proofs.«01_k».proof.Proof.Gen.PoolSampleRefIdeal.Run
public import proofs.«01_k».proof.Proof.Gen.PoolSampleRefIdeal.Read
public import proofs.«01_k».proof.Proof.Gen.Pre_pool_finite
public import proofs.«01_k».proof.Proof.FfnValue
public import proofs.«01_k».proof.Proof.OutValue
public import proofs.«01_k».proof.Proof.FfnSampleValue
public import proofs.«01_k».proof.Proof.OutSampleValue
public import proofs.«01_k».proof.Proof.InValue
public import proofs.«01_k».proof.Proof.InSampleValue
public import proofs.«01_k».proof.Proof.PoolValue
public import proofs.«01_k».proof.Proof.Gen.Pre_qk_finite
public import proofs.«01_k».proof.Proof.AttnClaim

@[expose] public section

noncomputable section

namespace Cert.Proof

open Idealize.ShloMosaic Idealize.SL.Sem

/-- Every claim of the certificate. -/
theorem claim : Cert.Claim := ⟨
  Cert.Kernel.Gen.facts, Cert.KernelIdeal.Gen.facts, Cert.ReferenceIdeal.Gen.facts, Cert.Ffn.Gen.facts, Cert.FfnIdeal.Gen.facts, Cert.FfnRefIdeal.Gen.facts, Cert.Out.Gen.facts, Cert.OutIdeal.Gen.facts, Cert.OutRefIdeal.Gen.facts, Cert.In.Gen.facts, Cert.InIdeal.Gen.facts, Cert.InRefIdeal.Gen.facts, Cert.InSample.Gen.facts, Cert.InSampleIdeal.Gen.facts, Cert.InSampleRefIdeal.Gen.facts, Cert.FfnSample.Gen.facts, Cert.FfnSampleIdeal.Gen.facts, Cert.FfnSampleRefIdeal.Gen.facts, Cert.OutSample.Gen.facts, Cert.OutSampleIdeal.Gen.facts, Cert.OutSampleRefIdeal.Gen.facts, Cert.PoolSample.Gen.facts, Cert.PoolSampleIdeal.Gen.facts, Cert.PoolSampleRefIdeal.Gen.facts, Cert.Pre_qk_finite.Gen.facts, Cert.Pre_pool_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, sem_eq_zero_of_no_sems (by decide) r.2⟩)
    (Cert.ReferenceIdeal.Value.run (F := Ideal) m ρ),
  fun m ρ _ => (θ_run Cert.ReferenceIdeal.defs _ _).mono
    (fun r h => ⟨fun c => (h c).2, sem_eq_zero_of_no_sems (by decide) r.2⟩)
    (Cert.ReferenceIdeal.Value.run (F := Ideal) m ρ),
  fun m ρ _ => Cert.Ffn.Gen.frame m ρ,
  fun m ρ _ => Cert.FfnIdeal.Gen.frame m ρ,
  fun m ρ _ => (θ_run Cert.FfnRefIdeal.defs _ _).mono
    (fun r h => ⟨fun c => (h c).2, sem_eq_zero_of_no_sems (by decide) r.2⟩)
    (Cert.FfnRefIdeal.Value.run (F := Ideal) m ρ),
  fun m ρ _ => Cert.Out.Gen.frame m ρ,
  fun m ρ _ => Cert.OutIdeal.Gen.frame m ρ,
  fun m ρ _ => (θ_run Cert.OutRefIdeal.defs _ _).mono
    (fun r h => ⟨fun c => (h c).2, sem_eq_zero_of_no_sems (by decide) r.2⟩)
    (Cert.OutRefIdeal.Value.run (F := Ideal) m ρ),
  fun m ρ _ => Cert.In.Gen.frame m ρ,
  fun m ρ _ => Cert.InIdeal.Gen.frame m ρ,
  fun m ρ _ => (θ_run Cert.InRefIdeal.defs _ _).mono
    (fun r h => ⟨fun c => (h c).2.2.2.2, sem_eq_zero_of_no_sems (by decide) r.2⟩)
    (Cert.InRefIdeal.Value.run (F := Ideal) m ρ),
  fun m ρ _ => Cert.InSample.Gen.frame m ρ,
  fun m ρ _ => Cert.InSampleIdeal.Gen.frame m ρ,
  fun m ρ _ => (θ_run Cert.InSampleRefIdeal.defs _ _).mono
    (fun r h => ⟨fun c => (h c).2.2.2.2, sem_eq_zero_of_no_sems (by decide) r.2⟩)
    (Cert.InSampleRefIdeal.Value.run (F := Ideal) m ρ),
  fun m ρ _ => Cert.FfnSample.Gen.frame m ρ,
  fun m ρ _ => Cert.FfnSampleIdeal.Gen.frame m ρ,
  fun m ρ _ => (θ_run Cert.FfnSampleRefIdeal.defs _ _).mono
    (fun r h => ⟨fun c => (h c).2, sem_eq_zero_of_no_sems (by decide) r.2⟩)
    (Cert.FfnSampleRefIdeal.Value.run (F := Ideal) m ρ),
  fun m ρ _ => Cert.OutSample.Gen.frame m ρ,
  fun m ρ _ => Cert.OutSampleIdeal.Gen.frame m ρ,
  fun m ρ _ => (θ_run Cert.OutSampleRefIdeal.defs _ _).mono
    (fun r h => ⟨fun c => (h c).2, sem_eq_zero_of_no_sems (by decide) r.2⟩)
    (Cert.OutSampleRefIdeal.Value.run (F := Ideal) m ρ),
  fun m ρ _ => Cert.PoolSample.Gen.frame m ρ,
  fun m ρ _ => Cert.PoolSampleIdeal.Gen.frame m ρ,
  fun m ρ _ => Cert.PoolSampleIdeal.Gen.frame m ρ,
  fun m ρ _ => (θ_run Cert.PoolSampleRefIdeal.defs _ _).mono
    (fun r h => ⟨fun c => (h c).2, sem_eq_zero_of_no_sems (by decide) r.2⟩)
    (Cert.PoolSampleRefIdeal.Value.run (F := Ideal) m ρ),
  fun m ρ _ => (θ_run Cert.PoolSampleRefIdeal.defs _ _).mono
    (fun r h => ⟨fun c => (h c).2, sem_eq_zero_of_no_sems (by decide) r.2⟩)
    (Cert.PoolSampleRefIdeal.Value.run (F := Ideal) m ρ),
  trivial,
  attn_algebraic,
  trivial,
  ffn_algebraic,
  trivial,
  out_algebraic,
  trivial,
  in_algebraic,
  trivial,
  in_sample_algebraic,
  trivial,
  ffn_sample_algebraic,
  trivial,
  out_sample_algebraic,
  trivial,
  pool_sample_algebraic⟩

end Cert.Proof

end
